-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S1024x128 : Shape := ⟨2, ![1024, 128]⟩
abbrev S100000x128 : Shape := ⟨2, ![100000, 128]⟩
abbrev S100000 : Shape := ⟨1, ![100000]⟩
abbrev S1000 : Shape := ⟨1, ![1000]⟩
abbrev S_ : Shape := ⟨0, ![]⟩
abbrev S100000x1 : Shape := ⟨2, ![100000, 1]⟩
abbrev S128 : Shape := ⟨1, ![128]⟩
abbrev S1x128 : Shape := ⟨2, ![1, 128]⟩
abbrev S1024 : Shape := ⟨1, ![1024]⟩
abbrev S1024x1 : Shape := ⟨2, ![1024, 1]⟩
abbrev S128x100000 : Shape := ⟨2, ![128, 100000]⟩
abbrev S1024x100000 : Shape := ⟨2, ![1024, 100000]⟩
abbrev S1x100000 : Shape := ⟨2, ![1, 100000]⟩
abbrev S1024x75 : Shape := ⟨2, ![1024, 75]⟩

class Facts : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S128_d0 : S100000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S1024x128_S1024_d1 : S1024x128.ReducesTo [1] S1024
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S1x128_S1024x128_0_1 : S1x128.BroadcastsInDim S1024x128 (![0, 1] : Fin 2 → Fin S1024x128.rank)
  transposes_S100000x128_S128x100000_1_0 : S100000x128.Transposes [1, 0] S128x100000
  bcast_S_S1024x100000 : S_.BroadcastsInDim S1024x100000 (![] : Fin 0 → Fin S1024x100000.rank)
  bcast_S1024x1_S1024x100000_0_1 : S1024x1.BroadcastsInDim S1024x100000 (![0, 1] : Fin 2 → Fin S1024x100000.rank)
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  sliceFits_S1024x100000_S1024x75 : S1024x100000.Slices (fun _ => 0) S1024x75
  slices_S1024x75_S1024x1_0_74 : S1024x75.Slices ![0, 74] S1024x1
  bcast_S_S1024x1 : S_.BroadcastsInDim S1024x1 (![] : Fin 0 → Fin S1024x1.rank)
  natLt_1_32 : 1 < 32
  reducesTo_S1024x100000_S1024_d1 : S1024x100000.ReducesTo [1] S1024
  dot_S1024x128_S128x100000_S1024x100000_1_0_0_1_n_n_wf : DotDims.WF S1024x128 S128x100000 S1024x100000 [1] [0] [0] [1] [] []

variable [Facts]

def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf
def fn_norm {F : FTy → Type} [FloatOps F] (arg0 : FVec F S100000x128 .f32) : FVec F S100000x1 .f32 :=
  let v0 : FVec F S100000x128 .f32 := mulf arg0 arg0
  let cst : FVec F S_ .f32 := constant S_ .f32 0x00000000#32
  let v1 : FVec F S100000 .f32 := (fun x v => Host.reduceAdd x v reducesTo_S100000x128_S100000_d1 h_S_) v0 cst
  let v2 : FVec F S100000x1 .f32 := broadcastInDim S100000x1 ![0] bcast_S100000_S100000x1_0 v1
  let v3 : FVec F S100000x1 .f32 := Host.sqrt v2
  v3

def fn_norm_0 {F : FTy → Type} [FloatOps F] (arg0 : FVec F S1024x128 .f32) : FVec F S1024x1 .f32 :=
  let v0 : FVec F S1024x128 .f32 := mulf arg0 arg0
  let cst : FVec F S_ .f32 := constant S_ .f32 0x00000000#32
  let v1 : FVec F S1024 .f32 := (fun x v => Host.reduceAdd x v reducesTo_S1024x128_S1024_d1 h_S_) v0 cst
  let v2 : FVec F S1024x1 .f32 := broadcastInDim S1024x1 ![0] bcast_S1024_S1024x1_0 v1
  let v3 : FVec F S1024x1 .f32 := Host.sqrt v2
  v3

def fn_part2 {F : FTy → Type} [FloatOps F] (main_v38 : IVec S1024x100000 1) (main_v39 : IVec S1024x100000 32) : IVec S1024x100000 1 :=
  let main_c : IVec S_ 32 := constantI S_ 32 0#32
  let main_v40 : IVec S1024 32 := (fun x v => Host.reduce IntOp.addi x v reducesTo_S1024x100000_S1024_d1 h_S_) main_v39 main_c
  let main_v41 : IVec S1024x1 32 := broadcastInDim S1024x1 ![0] bcast_S1024_S1024x1_0 main_v40
  let main_c_5 : IVec S_ 32 := constantI S_ 32 75#32
  let main_v42 : IVec S1024x1 32 := broadcastInDim S1024x1 ![] bcast_S_S1024x1 main_c_5
  let main_v43 : IVec S1024x1 1 := cmpi .eq main_v41 main_v42
  let main_v44 : IVec S1024x100000 1 := broadcastInDim S1024x100000 ![0, 1] bcast_S1024x1_S1024x100000_0_1 main_v43
  let main_v45 : IVec S1024x100000 1 := andi main_v38 main_v44
  main_v45

def fn_part1 {F : FTy → Type} [FloatOps F] (main_v8 : FVec F S100000x128 .f32) (main_v17 : FVec F S1024x1 .f32) (main_v19 : FVec F S1024x100000 .f32) (main_cst_2 : FVec F S_ .f32) : IVec S1024x100000 1 :=
  let main_v20 : FVec F S1024x100000 .f32 := broadcastInDim S1024x100000 ![] bcast_S_S1024x100000 main_cst_2
  let main_v21 : FVec F S1024x100000 .f32 := mulf main_v20 main_v19
  let main_v22 : FVec F S1024x100000 .f32 := broadcastInDim S1024x100000 ![0, 1] bcast_S1024x1_S1024x100000_0_1 main_v17
  let main_v23 : FVec F S1024x100000 .f32 := subf main_v22 main_v21
  let main_v24 : FVec F S100000x128 .f32 := mulf main_v8 main_v8
  let main_cst_3 : FVec F S_ .f32 := constant S_ .f32 0x00000000#32
  let main_v25 : FVec F S100000 .f32 := (fun x v => Host.reduceAdd x v reducesTo_S100000x128_S100000_d1 h_S_) main_v24 main_cst_3
  let main_v26 : FVec F S1x100000 .f32 := broadcastInDim S1x100000 ![1] bcast_S100000_S1x100000_1 main_v25
  let main_v27 : FVec F S1024x100000 .f32 := broadcastInDim S1024x100000 ![0, 1] bcast_S1x100000_S1024x100000_0_1 main_v26
  let main_v28 : FVec F S1024x100000 .f32 := addf main_v23 main_v27
  let main_v29 : FVec F S1024x100000 .f32 := Host.negf main_v28
  let main_values : FVec F S1024x75 .f32 := (fun x => (Host.topK S1024x75 1 (FloatOps.cmpfTotal .gt) x sliceFits_S1024x100000_S1024x75).1) main_v29
  let main_indices : IVec S1024x75 32 := (fun x => (Host.topK S1024x75 1 (FloatOps.cmpfTotal .gt) x sliceFits_S1024x100000_S1024x75).2) main_v29
  let main_v30 : FVec F S1024x1 .f32 := (extractStridedSlice S1024x1 ![0, 74] · slices_S1024x75_S1024x1_0_74) main_values
  let main_v31 : FVec F S1024x1 .f32 := Host.negf main_v30
  let main_v32 : FVec F S1024x100000 .f32 := broadcastInDim S1024x100000 ![0, 1] bcast_S1024x1_S1024x100000_0_1 main_v31
  let main_v33 : IVec S1024x100000 1 := cmpf .ole main_v28 main_v32
  let main_cst_4 : FVec F S_ .f32 := constant S_ .f32 0x33D6BF95#32
  let main_v34 : FVec F S1024x1 .f32 := broadcastInDim S1024x1 ![] bcast_S_S1024x1 main_cst_4
  let main_v35 : FVec F S1024x1 .f32 := addf main_v31 main_v34
  let main_v36 : FVec F S1024x100000 .f32 := broadcastInDim S1024x100000 ![0, 1] bcast_S1024x1_S1024x100000_0_1 main_v35
  let main_v37 : IVec S1024x100000 1 := cmpf .oge main_v28 main_v36
  let main_v38 : IVec S1024x100000 1 := ori main_v33 main_v37
  let main_v39 : IVec S1024x100000 32 := (extui 32 · natLt_1_32) main_v33
  fn_part2 (F := F) main_v38 main_v39

def fn {F : FTy → Type} [FloatOps F] (main_arg0 : FVec F S1024x128 .f32) (main_arg1 : FVec F S100000x128 .f32) (main_arg2 : IVec S100000 32) (main_arg3 : IVec S1000 32) : IVec S1024x100000 1 :=
  let main_v0 : FVec F S100000x1 .f32 := fn_norm (F := F) main_arg1
  let main_v1 : FVec F S100000x128 .f32 := broadcastInDim S100000x128 ![0, 1] bcast_S100000x1_S100000x128_0_1 main_v0
  let main_v2 : FVec F S100000x128 .f32 := Host.divf main_arg1 main_v1
  let main_cst : FVec F S_ .f32 := constant S_ .f32 0x00000000#32
  let main_v3 : FVec F S128 .f32 := (fun x v => Host.reduceAdd x v reducesTo_S100000x128_S128_d0 h_S_) main_v2 main_cst
  let main_cst_0 : FVec F S_ .f32 := constant S_ .f32 0x47C35000#32
  let main_v4 : FVec F S128 .f32 := broadcastInDim S128 ![] bcast_S_S128 main_cst_0
  let main_v5 : FVec F S128 .f32 := Host.divf main_v3 main_v4
  let main_v6 : FVec F S1x128 .f32 := broadcastInDim S1x128 ![1] bcast_S128_S1x128_1 main_v5
  let main_v7 : FVec F S100000x128 .f32 := broadcastInDim S100000x128 ![0, 1] bcast_S1x128_S100000x128_0_1 main_v6
  let main_v8 : FVec F S100000x128 .f32 := subf main_v2 main_v7
  let main_v9 : FVec F S1024x1 .f32 := fn_norm_0 (F := F) main_arg0
  let main_v10 : FVec F S1024x128 .f32 := broadcastInDim S1024x128 ![0, 1] bcast_S1024x1_S1024x128_0_1 main_v9
  let main_v11 : FVec F S1024x128 .f32 := Host.divf main_arg0 main_v10
  let main_v12 : FVec F S1x128 .f32 := broadcastInDim S1x128 ![1] bcast_S128_S1x128_1 main_v5
  let main_v13 : FVec F S1024x128 .f32 := broadcastInDim S1024x128 ![0, 1] bcast_S1x128_S1024x128_0_1 main_v12
  let main_v14 : FVec F S1024x128 .f32 := subf main_v11 main_v13
  let main_v15 : FVec F S1024x128 .f32 := mulf main_v14 main_v14
  let main_cst_1 : FVec F S_ .f32 := constant S_ .f32 0x00000000#32
  let main_v16 : FVec F S1024 .f32 := (fun x v => Host.reduceAdd x v reducesTo_S1024x128_S1024_d1 h_S_) main_v15 main_cst_1
  let main_v17 : FVec F S1024x1 .f32 := broadcastInDim S1024x1 ![0] bcast_S1024_S1024x1_0 main_v16
  let main_v18 : FVec F S128x100000 .f32 := (transpose S128x100000 [1, 0] · transposes_S100000x128_S128x100000_1_0) main_v8
  let main_v19 : FVec F S1024x100000 .f32 := (fun l r => Host.dotGeneral dot_S1024x128_S128x100000_S1024x100000_1_0_0_1_n_n none l r) main_v14 main_v18
  let main_cst_2 : FVec F S_ .f32 := constant S_ .f32 0x40000000#32
  fn_part1 (F := F) main_v8 main_v17 main_v19 main_cst_2
-- ==== Kernel.lean ====
abbrev S1024x128 : Shape := ⟨2, ![1024, 128]⟩
abbrev S100000x128 : Shape := ⟨2, ![100000, 128]⟩
abbrev S100000 : Shape := ⟨1, ![100000]⟩
abbrev S1000 : Shape := ⟨1, ![1000]⟩
abbrev S102400x128 : Shape := ⟨2, ![102400, 128]⟩
abbrev S8x128 : Shape := ⟨2, ![8, 128]⟩
abbrev S800x128 : Shape := ⟨2, ![800, 128]⟩
abbrev S800 : Shape := ⟨1, ![800]⟩
abbrev S800x1 : Shape := ⟨2, ![800, 1]⟩
abbrev S100x8x128 : Shape := ⟨3, ![100, 8, 128]⟩
abbrev S1024x102400 : Shape := ⟨2, ![1024, 102400]⟩
abbrev S1024x3200 : Shape := ⟨2, ![1024, 3200]⟩
abbrev S256x128 : Shape := ⟨2, ![256, 128]⟩
abbrev S4096x128 : Shape := ⟨2, ![4096, 128]⟩
abbrev S256x4096 : Shape := ⟨2, ![256, 4096]⟩
abbrev S128 : Shape := ⟨1, ![128]⟩
abbrev S1x128 : Shape := ⟨2, ![1, 128]⟩
abbrev S256 : Shape := ⟨1, ![256]⟩
abbrev S256x1 : Shape := ⟨2, ![256, 1]⟩
abbrev S4096 : Shape := ⟨1, ![4096]⟩
abbrev S4096x1 : Shape := ⟨2, ![4096, 1]⟩
abbrev S1x4096 : Shape := ⟨2, ![1, 4096]⟩
abbrev S256x32x128 : Shape := ⟨3, ![256, 32, 128]⟩
abbrev S_ : Shape := ⟨0, ![]⟩
abbrev S102400 : Shape := ⟨1, ![102400]⟩
abbrev S1x102400 : Shape := ⟨2, ![1, 102400]⟩
abbrev S1x1000 : Shape := ⟨2, ![1, 1000]⟩
abbrev S1024x10 : Shape := ⟨2, ![1024, 10]⟩
abbrev S16x102400 : Shape := ⟨2, ![16, 102400]⟩
abbrev S16x3200 : Shape := ⟨2, ![16, 3200]⟩
abbrev S16x10 : Shape := ⟨2, ![16, 10]⟩
abbrev S16 : Shape := ⟨1, ![16]⟩
abbrev S16x1 : Shape := ⟨2, ![16, 1]⟩
abbrev S1x16x1 : Shape := ⟨3, ![1, 16, 1]⟩
abbrev S1 : Shape := ⟨1, ![1]⟩
abbrev S1x1x1 : Shape := ⟨3, ![1, 1, 1]⟩
abbrev S16x8 : Shape := ⟨2, ![16, 8]⟩
abbrev S16x1000 : Shape := ⟨2, ![16, 1000]⟩

abbrev nBuf : Space → Nat
  | .hbm => 14
  | .vmem => 22
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S100000, .i32⟩
  | .hbm, ⟨3, _⟩ => ⟨S1000, .i32⟩
  | .hbm, ⟨4, _⟩ => ⟨S102400x128, .f32⟩
  | .hbm, ⟨5, _⟩ => ⟨S8x128, .f32⟩
  | .hbm, ⟨6, _⟩ => ⟨S1024x102400, .f32⟩
  | .hbm, ⟨7, _⟩ => ⟨S1024x3200, .f32⟩
  | .hbm, ⟨8, _⟩ => ⟨S_, .i32⟩
  | .hbm, ⟨9, _⟩ => ⟨S_, .i32⟩
  | .hbm, ⟨10, _⟩ => ⟨S102400, .i32⟩
  | .hbm, ⟨11, _⟩ => ⟨S1x102400, .i32⟩
  | .hbm, ⟨12, _⟩ => ⟨S1x1000, .i32⟩
  | .hbm, ⟨13, _⟩ => ⟨S1024x10, .f32⟩
  | .local _ .vmem, ⟨0, _⟩ => ⟨S800x128, .f32⟩
  | .local _ .vmem, ⟨1, _⟩ => ⟨S800x128, .f32⟩
  | .local _ .vmem, ⟨2, _⟩ => ⟨S800x128, .f32⟩
  | .local _ .vmem, ⟨3, _⟩ => ⟨S800x128, .f32⟩
  | .local _ .vmem, ⟨4, _⟩ => ⟨S8x128, .f32⟩
  | .local _ .vmem, ⟨5, _⟩ => ⟨S256x128, .f32⟩
  | .local _ .vmem, ⟨6, _⟩ => ⟨S256x128, .f32⟩
  | .local _ .vmem, ⟨7, _⟩ => ⟨S4096x128, .f32⟩
  | .local _ .vmem, ⟨8, _⟩ => ⟨S4096x128, .f32⟩
  | .local _ .vmem, ⟨9, _⟩ => ⟨S8x128, .f32⟩
  | .local _ .vmem, ⟨10, _⟩ => ⟨S256x4096, .f32⟩
  | .local _ .vmem, ⟨11, _⟩ => ⟨S256x4096, .f32⟩
  | .local _ .vmem, ⟨12, _⟩ => ⟨S256x128, .f32⟩
  | .local _ .vmem, ⟨13, _⟩ => ⟨S256x128, .f32⟩
  | .local _ .vmem, ⟨14, _⟩ => ⟨S16x102400, .f32⟩
  | .local _ .vmem, ⟨15, _⟩ => ⟨S16x102400, .f32⟩
  | .local _ .vmem, ⟨16, _⟩ => ⟨S16x3200, .f32⟩
  | .local _ .vmem, ⟨17, _⟩ => ⟨S16x3200, .f32⟩
  | .local _ .vmem, ⟨18, _⟩ => ⟨S1x102400, .i32⟩
  | .local _ .vmem, ⟨19, _⟩ => ⟨S1x1000, .i32⟩
  | .local _ .vmem, ⟨20, _⟩ => ⟨S16x10, .f32⟩
  | .local _ .vmem, ⟨21, _⟩ => ⟨S16x10, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![125], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_4 : BitVec 32 := 0#32
  let v12 : BitVec 1 := Scalar.cmpi .ne v11 c0_i32_4
  v12

def k0_cond2 (i : grid0.Coords) : BitVec 1 :=
  let arg0 : BitVec 32 := BitVec.ofNat 32 (i 0).val
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![4, 25], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x102400 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x3200 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x102400 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1000 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S16x10 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S1024x128 : Shape := ⟨2, ![1024, 128]⟩
abbrev S100000x128 : Shape := ⟨2, ![100000, 128]⟩
abbrev S100000 : Shape := ⟨1, ![100000]⟩
abbrev S1000 : Shape := ⟨1, ![1000]⟩
abbrev S_ : Shape := ⟨0, ![]⟩
abbrev S100000x1 : Shape := ⟨2, ![100000, 1]⟩
abbrev S128 : Shape := ⟨1, ![128]⟩
abbrev S1x128 : Shape := ⟨2, ![1, 128]⟩
abbrev S1024 : Shape := ⟨1, ![1024]⟩
abbrev S1024x1 : Shape := ⟨2, ![1024, 1]⟩
abbrev S128x100000 : Shape := ⟨2, ![128, 100000]⟩
abbrev S1024x100000 : Shape := ⟨2, ![1024, 100000]⟩
abbrev S1x100000 : Shape := ⟨2, ![1, 100000]⟩
abbrev S1024x75 : Shape := ⟨2, ![1024, 75]⟩
abbrev S1024x75x1 : Shape := ⟨3, ![1024, 75, 1]⟩
abbrev S1 : Shape := ⟨1, ![1]⟩
abbrev S1x1x1 : Shape := ⟨3, ![1, 1, 1]⟩
abbrev S1x1x10 : Shape := ⟨3, ![1, 1, 10]⟩
abbrev S1024x75x10 : Shape := ⟨3, ![1024, 75, 10]⟩
abbrev S1024x10 : Shape := ⟨2, ![1024, 10]⟩
abbrev S1x1x1000 : Shape := ⟨3, ![1, 1, 1000]⟩
abbrev S1024x10x1 : Shape := ⟨3, ![1024, 10, 1]⟩
abbrev S1024x10x1000 : Shape := ⟨3, ![1024, 10, 1000]⟩
abbrev S1x10 : Shape := ⟨2, ![1, 10]⟩
abbrev S1024x1x1 : Shape := ⟨3, ![1024, 1, 1]⟩

abbrev nBuf : Space → Nat
  | .hbm => 135
  | .vmem => 0
  | .smem => 0
  | _ => 0

abbrev hbmTy0_0 (i : Nat) : BufTy := match i % 128 with
  | 0 => ⟨S1024x128, .f32⟩
  | 1 => ⟨S100000x128, .f32⟩
  | 2 => ⟨S100000, .i32⟩
  | 3 => ⟨S1000, .i32⟩
  | 4 => ⟨S100000x128, .f32⟩
  | 5 => ⟨S_, .f32⟩
  | 6 => ⟨S100000, .f32⟩
  | 7 => ⟨S100000x1, .f32⟩
  | 8 => ⟨S100000x1, .f32⟩
  | 9 => ⟨S100000x128, .f32⟩
  | 10 => ⟨S100000x128, .f32⟩
  | 11 => ⟨S_, .f32⟩
  | 12 => ⟨S128, .f32⟩
  | 13 => ⟨S_, .f32⟩
  | 14 => ⟨S128, .f32⟩
  | 15 => ⟨S128, .f32⟩
  | 16 => ⟨S1x128, .f32⟩
  | 17 => ⟨S100000x128, .f32⟩
  | 18 => ⟨S100000x128, .f32⟩
  | 19 => ⟨S1024x128, .f32⟩
  | 20 => ⟨S_, .f32⟩
  | 21 => ⟨S1024, .f32⟩
  | 22 => ⟨S1024x1, .f32⟩
  | 23 => ⟨S1024x1, .f32⟩
  | 24 => ⟨S1024x128, .f32⟩
  | 25 => ⟨S1024x128, .f32⟩
  | 26 => ⟨S1x128, .f32⟩
  | 27 => ⟨S1024x128, .f32⟩
  | 28 => ⟨S1024x128, .f32⟩
  | 29 => ⟨S1024x128, .f32⟩
  | 30 => ⟨S_, .f32⟩
  | 31 => ⟨S1024, .f32⟩
  | 32 => ⟨S1024x1, .f32⟩
  | 33 => ⟨S128x100000, .f32⟩
  | 34 => ⟨S1024x100000, .f32⟩
  | 35 => ⟨S_, .f32⟩
  | 36 => ⟨S1024x100000, .f32⟩
  | 37 => ⟨S1024x100000, .f32⟩
  | 38 => ⟨S1024x100000, .f32⟩
  | 39 => ⟨S1024x100000, .f32⟩
  | 40 => ⟨S100000x128, .f32⟩
  | 41 => ⟨S_, .f32⟩
  | 42 => ⟨S100000, .f32⟩
  | 43 => ⟨S1x100000, .f32⟩
  | 44 => ⟨S1024x100000, .f32⟩
  | 45 => ⟨S1024x100000, .f32⟩
  | 46 => ⟨S1024x100000, .f32⟩
  | 47 => ⟨S1024x75, .f32⟩
  | 48 => ⟨S1024x75, .i32⟩
  | 49 => ⟨S_, .i32⟩
  | 50 => ⟨S1024x75, .i32⟩
  | 51 => ⟨S1024x75, .i1⟩
  | 52 => ⟨S_, .i32⟩
  | 53 => ⟨S1024x75, .i32⟩
  | 54 => ⟨S1024x75, .i32⟩
  | 55 => ⟨S1024x75, .i32⟩
  | 56 => ⟨S1024x75x1, .i32⟩
  | 57 => ⟨S1, .i32⟩
  | 58 => ⟨S_, .i32⟩
  | 59 => ⟨S1024x75x1, .i32⟩
  | 60 => ⟨S1024x75x1, .i1⟩
  | 61 => ⟨S1x1x1, .i32⟩
  | 62 => ⟨S1024x75x1, .i32⟩
  | 63 => ⟨S1024x75x1, .i1⟩
  | 64 => ⟨S1024x75x1, .i1⟩
  | 65 => ⟨S_, .i1⟩
  | 66 => ⟨S1024x75, .i1⟩
  | 67 => ⟨S1024x75, .i32⟩
  | 68 => ⟨S_, .i32⟩
  | 69 => ⟨S1024x75, .i32⟩
  | 70 => ⟨S1024x75, .i32⟩
  | 71 => ⟨S1024x75x1, .i32⟩
  | 72 => ⟨S1x1x10, .i32⟩
  | 73 => ⟨S1024x75x10, .i32⟩
  | 74 => ⟨S1024x75x10, .i32⟩
  | 75 => ⟨S1024x75x10, .i1⟩
  | 76 => ⟨S1024x75x10, .i32⟩
  | 77 => ⟨S_, .i32⟩
  | 78 => ⟨S1024x10, .i32⟩
  | 79 => ⟨S_, .i32⟩
  | 80 => ⟨S1024, .i32⟩
  | 81 => ⟨S1024x1, .i32⟩
  | 82 => ⟨S1024x10, .i32⟩
  | 83 => ⟨S1024x10, .i32⟩
  | 84 => ⟨S1x1x1000, .i32⟩
  | 85 => ⟨S1024x10x1, .i32⟩
  | 86 => ⟨S1024x10x1000, .i32⟩
  | 87 => ⟨S1024x10x1000, .i32⟩
  | 88 => ⟨S1024x10x1000, .i1⟩
  | 89 => ⟨S1024x10x1000, .i32⟩
  | 90 => ⟨S_, .i32⟩
  | 91 => ⟨S1024x10, .i32⟩
  | 92 => ⟨S1024x10, .f32⟩
  | 93 => ⟨S_, .f32⟩
  | 94 => ⟨S1024x10, .f32⟩
  | 95 => ⟨S1024x10, .f32⟩
  | 96 => ⟨S_, .f32⟩
  | 97 => ⟨S1024x10, .f32⟩
  | 98 => ⟨S1024x10, .f32⟩
  | 99 => ⟨S1024x10, .i32⟩
  | 100 => ⟨S_, .f32⟩
  | 101 => ⟨S_, .i32⟩
  | 102 => ⟨S1024, .f32⟩
  | 103 => ⟨S1024, .i32⟩
  | 104 => ⟨S1024x1, .i32⟩
  | 105 => ⟨S1x10, .i32⟩
  | 106 => ⟨S1024x10, .i32⟩
  | 107 => ⟨S1024x10, .i32⟩
  | 108 => ⟨S1024x10, .i1⟩
  | 109 => ⟨S1024x10, .f32⟩
  | 110 => ⟨S1024x1, .i32⟩
  | 111 => ⟨S_, .i32⟩
  | 112 => ⟨S1024x1, .i32⟩
  | 113 => ⟨S1024x1, .i1⟩
  | 114 => ⟨S_, .i32⟩
  | 115 => ⟨S1024x1, .i32⟩
  | 116 => ⟨S1024x1, .i32⟩
  | 117 => ⟨S1024x1, .i32⟩
  | 118 => ⟨S1024x1x1, .i32⟩
  | 119 => ⟨S1, .i32⟩
  | 120 => ⟨S_, .i32⟩
  | 121 => ⟨S1024x1x1, .i32⟩
  | 122 => ⟨S1024x1x1, .i1⟩
  | 123 => ⟨S1x1x1, .i32⟩
  | 124 => ⟨S1024x1x1, .i32⟩
  | 125 => ⟨S1024x1x1, .i1⟩
  | 126 => ⟨S1024x1x1, .i1⟩
  | 127 => ⟨S_, .i1⟩
  | _ => ⟨S1024x128, .f32⟩

abbrev hbmTy0_1 (i : Nat) : BufTy := match i % 128 with
  | 0 => ⟨S1024x1, .i1⟩
  | 1 => ⟨S1024x1, .f32⟩
  | 2 => ⟨S_, .f32⟩
  | 3 => ⟨S1024x1, .f32⟩
  | 4 => ⟨S1024x1, .f32⟩
  | 5 => ⟨S1024x10, .f32⟩
  | 6 => ⟨S1024x10, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_values : Ref sig .tc := ⟨.hbm, 47, rfl⟩
abbrev main_indices : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c_1 : Ref sig .tc := ⟨.hbm, 57, rfl⟩
abbrev main_call2_c_2 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_3 : Ref sig .tc := ⟨.hbm, 65, rfl⟩
abbrev main_call2_v12 : Ref sig .tc := ⟨.hbm, 66, rfl⟩
abbrev main_call2_v13 : Ref sig .tc := ⟨.hbm, 67, rfl⟩
abbrev main_call2_c_4 : Ref sig .tc := ⟨.hbm, 68, rfl⟩
abbrev main_call2_v14 : Ref sig .tc := ⟨.hbm, 69, rfl⟩
abbrev main_v30 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_v31 : Ref sig .tc := ⟨.hbm, 76, rfl⟩
abbrev main_c : Ref sig .tc := ⟨.hbm, 77, rfl⟩
abbrev main_v32 : Ref sig .tc := ⟨.hbm, 78, rfl⟩
abbrev main_c_4 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_c_5 : Ref sig .tc := ⟨.hbm, 90, rfl⟩
abbrev main_v43 : Ref sig .tc := ⟨.hbm, 91, rfl⟩
abbrev main_v44 : Ref sig .tc := ⟨.hbm, 92, rfl⟩
abbrev main_cst_6 : Ref sig .tc := ⟨.hbm, 93, rfl⟩
abbrev main_v45 : Ref sig .tc := ⟨.hbm, 94, rfl⟩
abbrev main_v46 : Ref sig .tc := ⟨.hbm, 95, rfl⟩
abbrev main_cst_7 : Ref sig .tc := ⟨.hbm, 96, rfl⟩
abbrev main_v47 : Ref sig .tc := ⟨.hbm, 97, rfl⟩
abbrev main_v48 : Ref sig .tc := ⟨.hbm, 98, rfl⟩
abbrev main_call4_v0 : Ref sig .tc := ⟨.hbm, 99, rfl⟩
abbrev main_call4_cst : Ref sig .tc := ⟨.hbm, 100, rfl⟩
abbrev main_call4_c : Ref sig .tc := ⟨.hbm, 101, rfl⟩
abbrev main_call4_v1_0 : Ref sig .tc := ⟨.hbm, 102, rfl⟩
abbrev main_v49 : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_v50 : Ref sig .tc := ⟨.hbm, 109, rfl⟩
abbrev main_v51 : Ref sig .tc := ⟨.hbm, 110, rfl⟩
abbrev main_call6_c : Ref sig .tc := ⟨.hbm, 111, rfl⟩
abbrev main_call6_v0 : Ref sig .tc := ⟨.hbm, 112, rfl⟩
abbrev main_call6_v1 : Ref sig .tc := ⟨.hbm, 113, rfl⟩
abbrev main_call6_c_0 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_call6_v5 : Ref sig .tc := ⟨.hbm, 118, rfl⟩
abbrev main_call6_c_1 : Ref sig .tc := ⟨.hbm, 119, rfl⟩
abbrev main_call6_c_2 : Ref sig .tc := ⟨.hbm, 120, rfl⟩
abbrev main_call6_v6 : Ref sig .tc := ⟨.hbm, 121, rfl⟩
abbrev main_call6_v7 : Ref sig .tc := ⟨.hbm, 122, rfl⟩
abbrev main_call6_v8 : Ref sig .tc := ⟨.hbm, 123, rfl⟩
abbrev main_call6_v9 : Ref sig .tc := ⟨.hbm, 124, rfl⟩
abbrev main_call6_v10 : Ref sig .tc := ⟨.hbm, 125, rfl⟩
abbrev main_call6_v11 : Ref sig .tc := ⟨.hbm, 126, rfl⟩
abbrev main_call6_c_3 : Ref sig .tc := ⟨.hbm, 127, rfl⟩
abbrev main_call6_v12 : Ref sig .tc := ⟨.hbm, 128, rfl⟩
abbrev main_call6_v13 : Ref sig .tc := ⟨.hbm, 129, rfl⟩
abbrev main_call6_cst : Ref sig .tc := ⟨.hbm, 130, rfl⟩
abbrev main_call6_v14 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩

abbrev nD : Nat := 1
abbrev τ : Topo := Topo.v7x

variable {F : FTy → Type} [FloatOps F]
-- ==== Proof.KI.Norm.lean ====
/-
  The first call: the rows of the training array divided by their norms, and the running column sums.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (V : (c : Dev nD) → (b : Ref sig .tc) → Buf (Elt F) ((c : Thread nD τ).loc b))

/-! # REGION 0 of @main: custom_call 0, `cc0__norm_body` (pipeline 0), at the entry contents `V` -/

/-! ## The windows' blocks -/

/-- Window `w`'s block at point `t`, read off its array as the region finds it (`V`). -/
def iblk0 (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V c (Pipeline.arrRef spec0 0))
    (hafter : ∀ t, dat.after 0 t = iblk0 V c 0 t) (t : Fin (cfg0 (F := F)).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S800x128 := Rect.unit (s := S800x128) ![0, 0] S800x128.size inb_S800x128_S800x128_0_0
abbrev r0_1 : Rect S8x128 := Rect.unit (s := S8x128) ![0, 0] S8x128.size inb_S8x128_S8x128_0_0

/-! ## What the body leaves in each output window's buffer -/

/-- The normalized rows. -/
def out0_1 (x0 : Vec F S800x128 .f32) : Vec F S800x128 .f32 :=
  View.canon [⟨r0_0, k0_pay1 (View.ld x0 r0_0)⟩]

theorem cover0_1 (p0 : Vec F S800x128 .f32) (y : S800x128.Idx) :
    ∃ pc ∈ ([⟨r0_0, p0⟩] : List (View.Piece (Elt F) S800x128 .f32)), y ∈ pc.1.set :=
  View.cover_of_tiled [⟨r0_0, p0⟩] S800x128.size (by rfl) y

/-- The column sums after the first block. -/
def first0 (x0 : Vec F S800x128 .f32) : Vec F S8x128 .f32 :=
  View.canon [⟨r0_1, k0_pay2 (View.ld x0 r0_0)⟩]

/-- The column sums after a later block, from those before it. -/
def next0 (x0 : Vec F S800x128 .f32) (s : Vec F S8x128 .f32) : Vec F S8x128 .f32 :=
  View.canon [⟨r0_1, k0_pay3 (View.ld x0 r0_0) (View.ld s r0_1)⟩]

theorem cover0_2 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

/-! ## The body's branch conditions -/

abbrev cond0_0 (i : grid0.Coords) : Prop := k0_cond1 i = 1#1
theorem hcond0_0 : ∀ t : Fin (cfg0 (F := F)).N, cond0_0 (grid0.coords t) ↔ t.val = 0 :=
  (by decide +kernel : ∀ t : Fin grid0.N, cond0_0 (grid0.coords t) ↔ t.val = 0)
abbrev cond0_1 (i : grid0.Coords) : Prop := k0_cond2 i = 1#1
theorem hcond0_1 : ∀ t : Fin (cfg0 (F := F)).N, cond0_1 (grid0.coords t) ↔ ¬ t.val = 0 :=
  (by decide +kernel : ∀ t : Fin grid0.N, cond0_1 (grid0.coords t) ↔ ¬ t.val = 0)

/-- The column sums' window is stored at every point. -/
theorem live0_2 : ∀ t : Fin (cfg0 (F := F)).N, (cfg0 (F := F)).idle 2 ((cfg0 (F := F)).grid.coords t) = false :=
  (by decide +kernel : ∀ t : Fin grid0.N, idle0 2 (grid0.coords t) = false)

/-! ## The body's triple -/

set_option maxHeartbeats 1000000 in
/-- At the first point. -/
theorem sound_kernel0_first (c : Dev nD) (E : Set ℕ) (i : grid0.Coords) (arg1 : Memref sig .tc .vmem S800x128 .f32) (harg1 : arg1.IsWhole) (arg2 : Memref sig .tc .vmem S800x128 .f32) (harg2 : arg2.IsWhole) (arg3 : Memref sig .tc .vmem S8x128 .f32) (harg3 : arg3.IsWhole)
    (hc0 : cond0_0 i) (hc1 : ¬cond0_1 i) (x0 : Vec F S800x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (first0 x0)) -∗ K ⟨⟩))
      ⊢ wp frame (wpE (defs₀ (F := F)) Variants.nat c none) E (cc0__norm_body i arg1 harg1 arg2 harg2 arg3 harg3) K := by
  simp only [cc0__norm_body_eq_skeleton]; unfold cc0__norm_body_skel
  unfold owns
  iintro ⟨⟨%f0, %hf0, H0⟩, ⟨%d1, %f1, -, H1⟩, ⟨%d2, %f2, -, H2⟩, Hk⟩
  subst hf0
  sl_exec (disch := first | sl_exact hc0 | sl_exact hc1)
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

set_option maxHeartbeats 1000000 in
/-- At a later point, the column sums so far in their buffer. -/
theorem sound_kernel0_next (c : Dev nD) (E : Set ℕ) (i : grid0.Coords) (arg1 : Memref sig .tc .vmem S800x128 .f32) (harg1 : arg1.IsWhole) (arg2 : Memref sig .tc .vmem S800x128 .f32) (harg2 : arg2.IsWhole) (arg3 : Memref sig .tc .vmem S8x128 .f32) (harg3 : arg3.IsWhole)
    (hc0 : ¬cond0_0 i) (hc1 : cond0_1 i) (x0 : Vec F S800x128 .f32) (s : Vec F S8x128 .f32) (K : PUnit → sProp 𝕄) :
    iprop(owns (c : Thread nD τ) arg1 fullShare x0 ∗ (∃ d, owns (c : Thread nD τ) arg2 fullShare d) ∗ owns (c : Thread nD τ) arg3 fullShare s
        ∗ (iprop(owns (c : Thread nD τ) arg1 fullShare x0 ∗ owns (c : Thread nD τ) arg2 fullShare (out0_1 x0) ∗ owns (c : Thread nD τ) arg3 fullShare (next0 x0 s)) -∗ K ⟨⟩))
      ⊢ wp frame (wpE (defs₀ (F := F)) Variants.nat c none) E (cc0__norm_body i arg1 harg1 arg2 harg2 arg3 harg3) K := by
  simp only [cc0__norm_body_eq_skeleton]; unfold cc0__norm_body_skel
  unfold owns
  iintro ⟨⟨%f0, %hf0, H0⟩, ⟨%d1, %f1, -, H1⟩, ⟨%f2, %hf2, H2⟩, Hk⟩
  subst hf0 hf2
  sl_exec (disch := first | sl_exact hc0 | sl_exact hc1)
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The column sums' buffer after each point. -/
def acc0 (c : Dev nD) : (n : ℕ) → n < (cfg0 (F := F)).N → Vec F S8x128 .f32
  | 0, hn => first0 (iblk0 V c 0 ⟨0, hn⟩)
  | n + 1, hn => next0 (iblk0 V c 0 ⟨n + 1, hn⟩) (acc0 c n (Nat.lt_of_succ_lt hn))

theorem acc0_zero (c : Dev nD) (t : Fin (cfg0 (F := F)).N) (h : t.val = 0) : acc0 V c t.val t.isLt = first0 (iblk0 V c 0 t) := by
  obtain ⟨n, hn⟩ := t
  cases n with
  | zero => rfl
  | succ n => exact absurd h (Nat.succ_ne_zero n)

theorem acc0_succ (c : Dev nD) (t : Fin (cfg0 (F := F)).N) (h : ¬ t.val = 0) :
    acc0 V c t.val t.isLt = next0 (iblk0 V c 0 t) (acc0 V c (t.val - 1) (Nat.lt_of_le_of_lt (Nat.sub_le _ _) t.isLt)) := by
  obtain ⟨n, hn⟩ := t
  cases n with
  | zero => exact absurd rfl h
  | succ n => rfl

/-- The proof data of the first call. -/
def dat0 (c : Dev nD) : Dat τ (Elt F) Unit ℕ (UR sig nD τ) ℕ (cfg0 (F := F)) c where
  A w := V c (Pipeline.arrRef spec0 w)
  after w t := match w with
    | ⟨0, _⟩ => iblk0 V c 0 t
    | ⟨1, _⟩ => out0_1 (iblk0 V c 0 t)
    | ⟨2, _⟩ => acc0 V c t.val t.isLt
  Φ _ := Pipeline.ΦA spec0 c
  q _ := fullShare
  owed _ := 0

theorem A_eq0 (c : Dev nD) (w : Fin (cfg0 (F := F)).W) : (dat0 V c).A w = V c (Pipeline.arrRef spec0 w) := by
  rfl

theorem after0_0 (c : Dev nD) (t : Fin (cfg0 (F := F)).N) : (dat0 V c).after 0 t = iblk0 V c 0 t := rfl
theorem after0_1 (c : Dev nD) (t : Fin (cfg0 (F := F)).N) : (dat0 V c).after 1 t = out0_1 (iblk0 V c 0 t) := by dsimp only [dat0]; rfl
theorem after0_2 (c : Dev nD) (t : Fin (cfg0 (F := F)).N) : (dat0 V c).after 2 t = acc0 V c t.val t.isLt := rfl

theorem before0_0 (c : Dev nD) (t : Fin (cfg0 (F := F)).N) (d) : (dat0 V c).before 0 t d = iblk0 V c 0 t :=
  before0_0_of V (dat0 V c) (A_eq0 V c 0) (after0_0 V c) t d

/-- The column sums' buffer holds something from the second point on: it is written back only at the end. -/
theorem fresh0_2 : ∀ t : Fin (cfg0 (F := F)).N,
    (decide (t.val + 1 = 0) || decide (t.val + 1 = 125)) = (((cfg0 (F := F)).win 2).flush t
      || ((cfg0 (F := F)).idle 2 ((cfg0 (F := F)).grid.coords t) && (decide (t.val = 0) || decide (t.val = 125)))) := by
  intro t
  have hN : t.val < 125 := lt_of_lt_of_eq t.isLt (show (cfg0 (F := F)).N = 125 from N_0)
  rw [live0_2 t, Bool.false_and, Bool.or_false]
  have hf := flush0_2 t
  by_cases h : t.val + 1 = 125
  · rw [hf.mpr (by omega), h]; rfl
  · rw [show ((cfg0 (F := F)).win 2).flush t = false from Bool.eq_false_iff.mpr fun e => h (by have := hf.mp e; omega)]
    simp only [Bool.or_eq_false_iff, decide_eq_false_iff_not]
    omega

theorem notFresh0_2 (t : Fin (cfg0 (F := F)).N) (h : ¬ t.val = 0) : (cfg0 (F := F)).fresh 2 t.val = false := by
  have hN : t.val < 125 := lt_of_lt_of_eq t.isLt (show (cfg0 (F := F)).N = 125 from N_0)
  rw [Pipeline.Cfg.fresh_tab (cfg0 (F := F)) 2 (fun n => decide (n = 0) || decide (n = 125)) rfl fresh0_2 t.val (Nat.le_of_lt t.isLt)]
  simp only [Bool.or_eq_false_iff, decide_eq_false_iff_not]
  omega

theorem before0_2 (c : Dev nD) (t : Fin (cfg0 (F := F)).N) (h : ¬ t.val = 0) (d) :
    (dat0 V c).before 2 t d = acc0 V c (t.val - 1) (Nat.lt_of_le_of_lt (Nat.sub_le _ _) t.isLt) := by
  rw [Dat.before_out_traj _ 2 rfl (fun _ _ => rfl)
      (fun t' _ hi _ => by
        rw [live0_2 t'] at hi; exact absurd hi Bool.false_ne_true) t.val t rfl d,
    if_neg (by rw [notFresh0_2 t h]; exact Bool.false_ne_true)]
  rfl

/-! ## The body obligation, at a generic point -/

def bodyPre0 (c : Dev nD) (t : Fin (cfg0 (F := F)).N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin (cfg0 (F := F)).N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem sound_body0 (c : Dev nD) (t : Fin (cfg0 (F := F)).N) :
    bodyPre0 V c t ⊢ wp frame (wpE (defs₀ (F := F)) Variants.nat c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl]
  have e0 : (dat0 V c).leavesExact 0 t = owns (c : Thread nD τ) (st0_0 t) fullShare (iblk0 V c 0 t) := by
    rw [← after0_0 V c t]; rfl
  have e1 : (dat0 V c).leavesExact 1 t = owns (c : Thread nD τ) (st0_1 t) fullShare (out0_1 (iblk0 V c 0 t)) := by
    rw [← after0_1 V c t]; rfl
  have e2 : (dat0 V c).leavesExact 2 t = owns (c : Thread nD τ) (st0_2 t) fullShare (acc0 V c t.val t.isLt) := by
    rw [← after0_2 V c t]; unfold Dat.leavesExact
    rw [live0_2 t]
  rw [e0, e1, e2]
  by_cases h : t.val = 0
  · rw [acc0_zero V c t h]
    iintro ⟨HΦ, Ho, ⟨%d0, H0⟩, ⟨%d1, H1⟩, ⟨%d2, H2⟩⟩
    iapply (sound_kernel0_first c Set.univ (grid0.coords t) _ _ _ _ _ _ ((hcond0_0 t).mpr h) (fun h' => (hcond0_1 t).mp h' h) (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc0_succ V c t h]
    simp only [before0_2 V c t h]
    iintro ⟨HΦ, Ho, ⟨%d0, H0⟩, ⟨%d1, H1⟩, ⟨%d2, H2⟩⟩
    iapply (sound_kernel0_next c Set.univ (grid0.coords t) _ _ _ _ _ _ (fun h' => h ((hcond0_0 t).mp h')) ((hcond0_1 t).mpr h) (iblk0 V c 0 t) _ _)
    isplitl [H0]; · iexact H0
    isplitl [H1]; · iexists _; iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem defs₀_row0 (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation0 (c : Dev nD) : BodyObligation (dat0 (F := F) V c) (defs₀ (F := F)) Variants.nat () Set.univ := fun t => by
  rw [bigSep_W0, bigSep_W0, defs₀_row0]
  exact triple_restated (sound_body0 V c t) rfl .rfl fun _ => .rfl

end Cert.KernelIdeal.Pf

end
-- ==== Proof.KI.Dist.lean ====
/-
  The second call: the squared distances and their chunk minima.
-/
module

public import proofs.«01_k».proof.Proof.KI.Norm

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (V : (c : Dev nD) → (b : Ref sig .tc) → Buf (Elt F) ((c : Thread nD τ).loc b))

/-! # REGION 1 of @main: custom_call 1, `cc1__dist_body` (pipeline 1), at the entry contents `V` -/

/-! ## The windows' blocks -/

/-- Window `w`'s block at point `t`, read off its array as the region finds it (`V`). -/
def iblk1 (c : Dev nD) (w : Fin (cfg1 (F := F)).W) (t : Fin (cfg1 (F := F)).N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ (cfg1 (F := F)) c) (hA : dat.A 0 = V c (Pipeline.arrRef spec1 0))
    (hafter : ∀ t, dat.after 0 t = iblk1 V c 0 t) (t : Fin (cfg1 (F := F)).N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ (cfg1 (F := F)) c) (hA : dat.A 1 = V c (Pipeline.arrRef spec1 1))
    (hafter : ∀ t, dat.after 1 t = iblk1 V c 1 t) (t : Fin (cfg1 (F := F)).N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ (cfg1 (F := F)) c) (hA : dat.A 2 = V c (Pipeline.arrRef spec1 2))
    (hafter : ∀ t, dat.after 2 t = iblk1 V c 2 t) (t : Fin (cfg1 (F := F)).N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S8x128 := Rect.unit (s := S8x128) ![0, 0] S8x128.size inb_S8x128_S8x128_0_0
abbrev r1_1 : Rect S256x128 := Rect.unit (s := S256x128) ![0, 0] S256x128.size inb_S256x128_S256x128_0_0
abbrev r1_2 : Rect S4096x128 := Rect.unit (s := S4096x128) ![0, 0] S4096x128.size inb_S4096x128_S4096x128_0_0
abbrev r1_3 : Rect S256x4096 := Rect.unit (s := S256x4096) ![0, 0] S256x4096.size inb_S256x4096_S256x4096_0_0

/-! ## What the body leaves in each output window's buffer -/

/-! ### Values of the body that the stores' payloads, spelt out, would write more than once

    Each is a vector the body binds (often a part call's result), stated over the input windows' blocks and
    numbered on from the skeleton's payload functions (`k1_pay3` …, after `k1_pay2`), so that
    `out1_W` and the values after it name it instead of spelling it out (`unfold_out out1_W` opens a canon
    with them, `unfold_payloads` opens them with the payloads); the comment after each is the printed function's
    name for the value (a count appended where that name is bound again). -/

def k1_pay3 (i : grid1.Coords) (x0 : Vec F S256x128 .f32) (x1 : Vec F S4096x128 .f32) (x2 : Vec F S8x128 .f32) : FVec F S256x4096 .f32 :=
  k1_pay2 i (View.ld x2 r1_0) (View.ld x0 r1_1) (View.ld x1 r1_2) -- `v40`

/-- Window 3's staging buffer after the body, from the input windows' blocks: its 1 store as pieces, LAST
    FIRST (Lib/Pipeline/FrameBody.lean `View.canon`; the payloads are the skeleton's and the values stated above). -/
def out1_3 (i : grid1.Coords) (x0 : Vec F S256x128 .f32) (x1 : Vec F S4096x128 .f32) (x2 : Vec F S8x128 .f32) : Vec F S256x4096 .f32 :=
  View.canon [⟨r1_3, k1_pay3 i x0 x1 x2⟩]

/-- Its stores tile the buffer (checked by evaluation), so they cover it. -/
theorem cover1_3 (p0 : Vec F S256x4096 .f32) (y : S256x4096.Idx) :
    ∃ pc ∈ ([⟨r1_3, p0⟩] : List (View.Piece (Elt F) S256x4096 .f32)), y ∈ pc.1.set :=
  View.cover_of_tiled [⟨r1_3, p0⟩] S256x4096.size (by rfl) y

/-- Window 4's staging buffer after the body, from the input windows' blocks: its 1 store as pieces, LAST
    FIRST (Lib/Pipeline/FrameBody.lean `View.canon`; the payloads are the skeleton's and the values stated above). -/
def out1_4 (i : grid1.Coords) (x0 : Vec F S256x128 .f32) (x1 : Vec F S4096x128 .f32) (x2 : Vec F S8x128 .f32) : Vec F S256x128 .f32 :=
  View.canon [⟨r1_1, k1_pay1 (k1_pay3 i x0 x1 x2)⟩]

/-- Its stores tile the buffer (checked by evaluation), so they cover it. -/
theorem cover1_4 (p0 : Vec F S256x128 .f32) (y : S256x128.Idx) :
    ∃ pc ∈ ([⟨r1_1, p0⟩] : List (View.Piece (Elt F) S256x128 .f32)), y ∈ pc.1.set :=
  View.cover_of_tiled [⟨r1_1, p0⟩] S256x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S256x128 .f32) (harg2 : arg2.IsWhole) (arg3 : Memref sig .tc .vmem S4096x128 .f32) (harg3 : arg3.IsWhole) (arg4 : Memref sig .tc .vmem S8x128 .f32) (harg4 : arg4.IsWhole) (arg5 : Memref sig .tc .vmem S256x4096 .f32) (harg5 : arg5.IsWhole) (arg6 : Memref sig .tc .vmem S256x128 .f32) (harg6 : arg6.IsWhole)
    (x0 : Vec F S256x128 .f32) (x1 : Vec F S4096x128 .f32) (x2 : Vec F S8x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 i x0 x1 x2) ∗ owns (c : Thread nD τ) arg6 fullShare (out1_4 i x0 x1 x2)) -∗ K ⟨⟩))
      ⊢ wp frame (wpE (defs₀ (F := F)) Variants.nat c none) E (cc1__dist_body i arg2 harg2 arg3 harg3 arg4 harg4 arg5 harg5 arg6 harg6) K := by
  simp only [cc1__dist_body_eq_skeleton]; unfold cc1__dist_body_skel
  simp only [k1_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover1_3 _)).trans ?_
    rfl
  iexists _; isplitr
  swap; · iexact H4
  ipureintro
  refine (View.read_writes_eq_canon _ _ _ (cover1_4 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ (cfg1 (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
    | ⟨4, _⟩ => out1_4 (grid1.coords t) (iblk1 V c 0 t) (iblk1 V c 1 t) (iblk1 V c 2 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin (cfg1 (F := F)).W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin (cfg1 (F := F)).N) : (dat1 V c).after 0 t = iblk1 V c 0 t := by dsimp only [dat1]; rfl
theorem after1_1 (c : Dev nD) (t : Fin (cfg1 (F := F)).N) : (dat1 V c).after 1 t = iblk1 V c 1 t := by dsimp only [dat1]; rfl
theorem after1_2 (c : Dev nD) (t : Fin (cfg1 (F := F)).N) : (dat1 V c).after 2 t = iblk1 V c 2 t := by dsimp only [dat1]; rfl
theorem after1_3 (c : Dev nD) (t : Fin (cfg1 (F := F)).N) : (dat1 V c).after 3 t = out1_3 (grid1.coords t) (iblk1 V c 0 t) (iblk1 V c 1 t) (iblk1 V c 2 t) := by dsimp only [dat1]; rfl
theorem after1_4 (c : Dev nD) (t : Fin (cfg1 (F := F)).N) : (dat1 V c).after 4 t = out1_4 (grid1.coords t) (iblk1 V c 0 t) (iblk1 V c 1 t) (iblk1 V c 2 t) := by dsimp only [dat1]; rfl

/-- Each input's current staging buffer holds its block at every point, fetched there or not (`beforeK_W_of`). -/
theorem before1_0 (c : Dev nD) (t : Fin (cfg1 (F := F)).N) (d) : (dat1 V c).before 0 t d = iblk1 V c 0 t :=
  before1_0_of V (dat1 V c) (A_eq1 V c 0) (after1_0 V c) t d
theorem before1_1 (c : Dev nD) (t : Fin (cfg1 (F := F)).N) (d) : (dat1 V c).before 1 t d = iblk1 V c 1 t :=
  before1_1_of V (dat1 V c) (A_eq1 V c 1) (after1_1 V c) t d
theorem before1_2 (c : Dev nD) (t : Fin (cfg1 (F := F)).N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin (cfg1 (F := F)).N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin (cfg1 (F := F)).N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin (cfg1 (F := F)).N) :
    bodyPre1 V c t ⊢ wp frame (wpE (defs₀ (F := F)) Variants.nat c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin (cfg1 (F := F)).N) :
    defs₀ (F := F) .tc (cfg1 (F := F)).body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.nat () Set.univ := fun t => by
  rw [bigSep_W1, bigSep_W1, defs₀_row1]
  exact triple_restated (sound_body1 V c t) rfl .rfl fun _ => .rfl

end Cert.KernelIdeal.Pf

end
-- ==== Proof.KI.Select.lean ====
/-
  The third call: the two threshold searches, the class counts and the credibilities.
-/
module

public import proofs.«01_k».proof.Proof.KI.Dist

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (V : (c : Dev nD) → (b : Ref sig .tc) → Buf (Elt F) ((c : Thread nD τ).loc b))

/-! # REGION 2 of @main: custom_call 2, `cc2__select_body` (pipeline 2), at the entry contents `V` -/

/-! ## The windows' blocks -/

/-- Window `w`'s block at point `t`, read off its array as the region finds it (`V`). -/
def iblk2 (c : Dev nD) (w : Fin (cfg2 (F := F)).W) (t : Fin (cfg2 (F := F)).N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ (cfg2 (F := F)) c) (hA : dat.A 0 = V c (Pipeline.arrRef spec2 0))
    (hafter : ∀ t, dat.after 0 t = iblk2 V c 0 t) (t : Fin (cfg2 (F := F)).N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ (cfg2 (F := F)) c) (hA : dat.A 1 = V c (Pipeline.arrRef spec2 1))
    (hafter : ∀ t, dat.after 1 t = iblk2 V c 1 t) (t : Fin (cfg2 (F := F)).N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ (cfg2 (F := F)) c) (hA : dat.A 2 = V c (Pipeline.arrRef spec2 2))
    (hafter : ∀ t, dat.after 2 t = iblk2 V c 2 t) (t : Fin (cfg2 (F := F)).N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ (cfg2 (F := F)) c) (hA : dat.A 3 = V c (Pipeline.arrRef spec2 3))
    (hafter : ∀ t, dat.after 3 t = iblk2 V c 3 t) (t : Fin (cfg2 (F := F)).N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S16x102400 := Rect.unit (s := S16x102400) ![0, 0] S16x102400.size inb_S16x102400_S16x102400_0_0
abbrev r2_1 : Rect S16x3200 := Rect.unit (s := S16x3200) ![0, 0] S16x3200.size inb_S16x3200_S16x3200_0_0
abbrev r2_2 : Rect S1x102400 := Rect.unit (s := S1x102400) ![0, 0] S1x102400.size inb_S1x102400_S1x102400_0_0
abbrev r2_3 : Rect S1x1000 := Rect.unit (s := S1x1000) ![0, 0] S1x1000.size inb_S1x1000_S1x1000_0_0
abbrev r2_4 : Rect S16x10 := Rect.unit (s := S16x10) ![0, 0] S16x10.size inb_S16x10_S16x10_0_0

/-! ## The two searches as functions -/

/-- What a search carries: its step counter, the two brackets, the counts at them, the threshold found and whether. -/
abbrev Carry (F : FTy → Type) : Type :=
  BitVec 32 × FVec F S16x1 .f32 × FVec F S16x1 .f32 × FVec F S16x1 .f32 × FVec F S16x1 .f32 × FVec F S16x1 .f32 × FVec F S16x1 .f32

/-- The probes of one step of the first search. -/
def thr1 (s : Carry F) : FVec F S16x8 .f32 :=
  k2_pay76 (k2_pay66 s.2.1 s.2.2.1) (k2_pay67 s.2.1 s.2.2.1) (k2_pay68 s.2.1 s.2.2.1) (k2_pay69 s.2.1 s.2.2.1)
    (k2_pay70 s.2.1 s.2.2.1 s.2.2.2.1 s.2.2.2.2.1) (k2_pay71 s.2.1 s.2.2.1 s.2.2.2.1 s.2.2.2.2.1)
    (k2_pay72 s.2.1 s.2.2.1 s.2.2.2.1 s.2.2.2.2.1) (k2_pay73 s.2.1 s.2.2.1 s.2.2.2.1 s.2.2.2.2.1)

/-- The counts below the probes. -/
def cnt1 (v : FVec F S16x3200 .f32) (s : Carry F) : FVec F S16x8 .f32 :=
  k2_pay77 v (k2_pay68 s.2.1 s.2.2.1) (k2_pay69 s.2.1 s.2.2.1)
    (k2_pay70 s.2.1 s.2.2.1 s.2.2.2.1 s.2.2.2.2.1) (k2_pay71 s.2.1 s.2.2.1 s.2.2.2.1 s.2.2.2.2.1)
    (k2_pay72 s.2.1 s.2.2.1 s.2.2.2.1 s.2.2.2.2.1) (k2_pay73 s.2.1 s.2.2.1 s.2.2.2.1 s.2.2.2.2.1)
    (k2_pay74 v s.2.1 s.2.2.1) (k2_pay75 v s.2.1 s.2.2.1)

/-- Which probes meet the target. -/
def hit1 (v : FVec F S16x3200 .f32) (s : Carry F) : IVec S16x8 1 :=
  k2_pay78 v (k2_pay68 s.2.1 s.2.2.1) (k2_pay69 s.2.1 s.2.2.1)
    (k2_pay70 s.2.1 s.2.2.1 s.2.2.2.1 s.2.2.2.2.1) (k2_pay71 s.2.1 s.2.2.1 s.2.2.2.1 s.2.2.2.2.1)
    (k2_pay72 s.2.1 s.2.2.1 s.2.2.2.1 s.2.2.2.2.1) (k2_pay73 s.2.1 s.2.2.1 s.2.2.2.1 s.2.2.2.2.1)
    (k2_pay74 v s.2.1 s.2.2.1) (k2_pay75 v s.2.1 s.2.2.1)

/-- Whether some probe of the row does. -/
def any1 (v : FVec F S16x3200 .f32) (s : Carry F) : IVec S16x1 1 :=
  k2_pay79 v (k2_pay68 s.2.1 s.2.2.1) (k2_pay69 s.2.1 s.2.2.1)
    (k2_pay70 s.2.1 s.2.2.1 s.2.2.2.1 s.2.2.2.2.1) (k2_pay71 s.2.1 s.2.2.1 s.2.2.2.1 s.2.2.2.2.1)
    (k2_pay72 s.2.1 s.2.2.1 s.2.2.2.1 s.2.2.2.2.1) (k2_pay73 s.2.1 s.2.2.1 s.2.2.2.1 s.2.2.2.2.1)
    (k2_pay74 v s.2.1 s.2.2.1) (k2_pay75 v s.2.1 s.2.2.1)

/-- One step of the first search. -/
def step1 (v : FVec F S16x3200 .f32) (s : Carry F) : Carry F :=
  (Scalar.addi s.1 1#32, k2_pay7 s.2.1 (thr1 s) (cnt1 v s), k2_pay9 s.2.2.1 (thr1 s) (cnt1 v s),
    k2_pay8 s.2.2.2.1 (cnt1 v s), k2_pay10 s.2.2.2.2.1 (cnt1 v s),
    k2_pay3 s.2.2.2.2.2.1 s.2.2.2.2.2.2 (thr1 s) (hit1 v s) (any1 v s) (k2_pay80 (F := F)),
    k2_pay4 s.2.2.2.2.2.2 (any1 v s))

/-- Whether the first search goes on. -/
def more1 (s : Carry F) : BitVec 1 :=
  Scalar.andi (Scalar.cmpi .slt s.1 8#32)
    (Scalar.xori (Scalar.cmpf .ogt (k2_pay2 s.2.2.2.2.2.2) (Scalar.ofBits .f32 0x00000000#32)) 1#1)

/-- At most `k` steps of the first search. -/
def loop1 (v : FVec F S16x3200 .f32) : ℕ → Carry F → Carry F
  | 0, s => s
  | k + 1, s => if more1 s = 1#1 then loop1 v k (step1 v s) else s

/-- The probes of one step of the second search. -/
def thr2 (s : Carry F) : FVec F S16x8 .f32 :=
  k2_pay93 (k2_pay83 s.2.1 s.2.2.1) (k2_pay84 s.2.1 s.2.2.1) (k2_pay85 s.2.1 s.2.2.1) (k2_pay86 s.2.1 s.2.2.1)
    (k2_pay87 s.2.1 s.2.2.1 s.2.2.2.1 s.2.2.2.2.1) (k2_pay88 s.2.1 s.2.2.1 s.2.2.2.1 s.2.2.2.2.1)
    (k2_pay89 s.2.1 s.2.2.1 s.2.2.2.1 s.2.2.2.2.1) (k2_pay90 s.2.1 s.2.2.1 s.2.2.2.1 s.2.2.2.2.1)

/-- The counts below the probes. -/
def cnt2 (v : FVec F S16x102400 .f32) (s : Carry F) : FVec F S16x8 .f32 :=
  k2_pay94 v (k2_pay85 s.2.1 s.2.2.1) (k2_pay86 s.2.1 s.2.2.1)
    (k2_pay87 s.2.1 s.2.2.1 s.2.2.2.1 s.2.2.2.2.1) (k2_pay88 s.2.1 s.2.2.1 s.2.2.2.1 s.2.2.2.2.1)
    (k2_pay89 s.2.1 s.2.2.1 s.2.2.2.1 s.2.2.2.2.1) (k2_pay90 s.2.1 s.2.2.1 s.2.2.2.1 s.2.2.2.2.1)
    (k2_pay91 v s.2.1 s.2.2.1) (k2_pay92 v s.2.1 s.2.2.1)

/-- Which probes meet the target. -/
def hit2 (v : FVec F S16x102400 .f32) (s : Carry F) : IVec S16x8 1 :=
  k2_pay95 v (k2_pay85 s.2.1 s.2.2.1) (k2_pay86 s.2.1 s.2.2.1)
    (k2_pay87 s.2.1 s.2.2.1 s.2.2.2.1 s.2.2.2.2.1) (k2_pay88 s.2.1 s.2.2.1 s.2.2.2.1 s.2.2.2.2.1)
    (k2_pay89 s.2.1 s.2.2.1 s.2.2.2.1 s.2.2.2.2.1) (k2_pay90 s.2.1 s.2.2.1 s.2.2.2.1 s.2.2.2.2.1)
    (k2_pay91 v s.2.1 s.2.2.1) (k2_pay92 v s.2.1 s.2.2.1)

/-- Whether some probe of the row does. -/
def any2 (v : FVec F S16x102400 .f32) (s : Carry F) : IVec S16x1 1 :=
  k2_pay96 v (k2_pay85 s.2.1 s.2.2.1) (k2_pay86 s.2.1 s.2.2.1)
    (k2_pay87 s.2.1 s.2.2.1 s.2.2.2.1 s.2.2.2.2.1) (k2_pay88 s.2.1 s.2.2.1 s.2.2.2.1 s.2.2.2.2.1)
    (k2_pay89 s.2.1 s.2.2.1 s.2.2.2.1 s.2.2.2.2.1) (k2_pay90 s.2.1 s.2.2.1 s.2.2.2.1 s.2.2.2.2.1)
    (k2_pay91 v s.2.1 s.2.2.1) (k2_pay92 v s.2.1 s.2.2.1)

/-- One step of the second search. -/
def step2 (v : FVec F S16x102400 .f32) (s : Carry F) : Carry F :=
  (Scalar.addi s.1 1#32, k2_pay16 s.2.1 (thr2 s) (cnt2 v s), k2_pay18 s.2.2.1 (thr2 s) (cnt2 v s),
    k2_pay17 s.2.2.2.1 (cnt2 v s), k2_pay19 s.2.2.2.2.1 (cnt2 v s),
    k2_pay12 s.2.2.2.2.2.1 s.2.2.2.2.2.2 (thr2 s) (hit2 v s) (any2 v s) (k2_pay97 (F := F)),
    k2_pay13 s.2.2.2.2.2.2 (any2 v s))

/-- Whether the second search goes on. -/
def more2 (s : Carry F) : BitVec 1 :=
  Scalar.andi (Scalar.cmpi .slt s.1 12#32)
    (Scalar.xori (Scalar.cmpf .ogt (k2_pay11 s.2.2.2.2.2.2) (Scalar.ofBits .f32 0x00000000#32)) 1#1)

/-- At most `k` steps of the second search. -/
def loop2 (v : FVec F S16x102400 .f32) : ℕ → Carry F → Carry F
  | 0, s => s
  | k + 1, s => if more2 s = 1#1 then loop2 v k (step2 v s) else s

/-- What the first search ends with. -/
def final1 (x1 : Vec F S16x3200 .f32) : Carry F :=
  loop1 (k2_pay21 x1) 8 (0#32, k2_pay23 x1, k2_pay24, k2_pay25, k2_pay26, k2_pay27, k2_pay28)

/-- What the second search ends with: its upper bracket is the first search's threshold. -/
def final2 (x0 : Vec F S16x102400 .f32) (x1 : Vec F S16x3200 .f32) : Carry F :=
  loop2 (k2_pay20 x0) 12 (0#32, k2_pay23 x1, k2_pay29 (final1 x1).2.2.1 (final1 x1).2.2.2.2.2.1 (final1 x1).2.2.2.2.2.2,
    k2_pay30, k2_pay31, k2_pay32, k2_pay33)

/-- From the two input blocks, the mask of the keys below the found threshold. -/
def mask2 (x0 : Vec F S16x102400 .f32) (x1 : Vec F S16x3200 .f32) : IVec S16x102400 1 :=
  k2_pay34 x0 (final2 x0 x1).2.2.1 (final2 x0 x1).2.2.2.2.2.1 (final2 x0 x1).2.2.2.2.2.2

/-- The packed class weights, by label. -/
def ohsel (x2 : Vec F S1x102400 .i32) : IVec S1x102400 32 := k2_pay37 (k2_pay22 x2) 3#32 (k2_pay35 x2) (k2_pay36 x2)

def pwt (x2 : Vec F S1x102400 .i32) : FVec F S1x102400 .f32 := k2_pay38 (F := F) (k2_pay22 x2) 3#32 (k2_pay35 x2) (k2_pay36 x2)

/-- The first group's sums. -/
def acc2a (x2 : Vec F S1x102400 .i32) (mk : IVec S16x102400 1) : FVec F S16x1 .f32 :=
  k2_pay40 (F := F) (k2_pay22 x2) mk 3#32 (k2_pay35 x2) (k2_pay36 x2)

def acc2b (x2 : Vec F S1x102400 .i32) (mk : IVec S16x102400 1) : FVec F S16x1 .f32 :=
  k2_pay41 (F := F) (k2_pay22 x2) mk 3#32 (k2_pay35 x2) (k2_pay36 x2)

abbrev q256 : F .f32 := Scalar.ofBits .f32 0x3B800000#32

/-- The nonconformity of each class. -/
def nonconf2 (x2 : Vec F S1x102400 .i32) (mk : IVec S16x102400 1) : IVec S16x10 32 :=
  k2_pay52 mk (ohsel (F := F) x2) (pwt x2) (acc2a x2 mk) (k2_pay42 (acc2b x2 mk) q256) (k2_pay43 (acc2b x2 mk) q256)
    (k2_pay45 mk (ohsel (F := F) x2) (pwt x2)) (k2_pay47 mk (ohsel (F := F) x2) (pwt x2)) (k2_pay48 mk (ohsel (F := F) x2) (pwt x2)) (k2_pay50 mk (ohsel (F := F) x2) (pwt x2))
    (k2_pay51 mk (ohsel (F := F) x2) (pwt x2)) q256

def pos0 (x2 : Vec F S1x102400 .i32) (mk : IVec S16x102400 1) (x3 : Vec F S1x1000 .i32) : FVec F S16x1 .f32 :=
  k2_pay54 mk (ohsel (F := F) x2) (pwt x2) (acc2a x2 mk) (k2_pay42 (acc2b x2 mk) q256) (k2_pay43 (acc2b x2 mk) q256)
    (k2_pay45 mk (ohsel (F := F) x2) (pwt x2)) (k2_pay47 mk (ohsel (F := F) x2) (pwt x2)) (k2_pay48 mk (ohsel (F := F) x2) (pwt x2)) (k2_pay50 mk (ohsel (F := F) x2) (pwt x2))
    (k2_pay51 mk (ohsel (F := F) x2) (pwt x2)) q256 x3

def nc1 (x2 : Vec F S1x102400 .i32) (mk : IVec S16x102400 1) : IVec S16x1000 32 :=
  k2_pay56 mk (ohsel (F := F) x2) (pwt x2) (acc2a x2 mk) (k2_pay42 (acc2b x2 mk) q256) (k2_pay43 (acc2b x2 mk) q256)
    (k2_pay45 mk (ohsel (F := F) x2) (pwt x2)) (k2_pay47 mk (ohsel (F := F) x2) (pwt x2)) (k2_pay48 mk (ohsel (F := F) x2) (pwt x2)) (k2_pay50 mk (ohsel (F := F) x2) (pwt x2))
    (k2_pay51 mk (ohsel (F := F) x2) (pwt x2)) q256

/-- The credibilities, from the nonconformities and the calibration scores. -/
def creds2 (x2 : Vec F S1x102400 .i32) (mk : IVec S16x102400 1) (x3 : Vec F S1x1000 .i32) : Vec F S16x10 .f32 :=
  k2_pay1 (F := F) (nonconf2 (F := F) x2 mk) (k2_pay53 (F := F) x3) (pos0 x2 mk x3) (k2_pay57 (F := F) (k2_pay55 (F := F) x3) (nc1 (F := F) x2 mk))
    (k2_pay58 (F := F) (nonconf2 (F := F) x2 mk) (k2_pay53 (F := F) x3)) (k2_pay59 (F := F) (nonconf2 (F := F) x2 mk) (k2_pay53 (F := F) x3))
    (k2_pay60 (F := F) (nonconf2 (F := F) x2 mk) (k2_pay53 (F := F) x3)) (k2_pay61 (F := F) (nonconf2 (F := F) x2 mk) (k2_pay53 (F := F) x3))
    (k2_pay62 (F := F) (nonconf2 (F := F) x2 mk) (k2_pay53 (F := F) x3)) (k2_pay63 (F := F) (nonconf2 (F := F) x2 mk) (k2_pay53 (F := F) x3))

/-- The third call's result block, from its input blocks. -/
def out2_4 (x0 : Vec F S16x102400 .f32) (x1 : Vec F S16x3200 .f32) (x2 : Vec F S1x102400 .i32) (x3 : Vec F S1x1000 .i32) : Vec F S16x10 .f32 :=
  View.canon [⟨r2_4, creds2 (View.ld x2 r2_2) (mask2 (View.ld x0 r2_0) (View.ld x1 r2_1)) (View.ld x3 r2_3)⟩]

theorem cover2_4 (p0 : Vec F S16x10 .f32) (y : S16x10.Idx) :
    ∃ pc ∈ ([⟨r2_4, p0⟩] : List (View.Piece (Elt F) S16x10 .f32)), y ∈ pc.1.set :=
  View.cover_of_tiled [⟨r2_4, p0⟩] S16x10.size (by rfl) y

/-! ## The searches' labels -/

/-- The first search's specification, with `k` steps left: it returns what the function computes. -/
def srch1 (v : FVec F S16x3200 .f32) (k : ℕ) (s : Carry F) : sWPT 𝕄 (Carry F) := pure (loop1 v k s)

theorem srch1_apply (v : FVec F S16x3200 .f32) (k : ℕ) (s : Carry F) (K : Carry F → sProp 𝕄) : srch1 v k s K = K (loop1 v k s) := rfl

/-- With no steps left the counter stops the search. -/
theorem more1_stop (s : Carry F) (h : s.1 = 8#32) : ¬ more1 s = 1#1 := by
  unfold more1
  rw [h]
  have : Scalar.cmpi .slt 8#32 8#32 = 0#1 := by decide
  rw [this]
  generalize Scalar.xori _ _ = b
  revert b
  decide

theorem count1 (k : ℕ) (h : k + 1 ≤ 8) : Scalar.addi (BitVec.ofNat 32 (8 - (k + 1))) 1#32 = BitVec.ofNat 32 (8 - k) := by
  have : ∀ k : Fin 8, Scalar.addi (BitVec.ofNat 32 (8 - (k.val + 1))) 1#32 = BitVec.ofNat 32 (8 - k.val) := by decide
  exact this ⟨k, by omega⟩

theorem srch1_le (c : Dev nD) (E : Set ℕ) (i : grid2.Coords) (v : FVec F S16x3200 .f32) :
    ∀ (k : ℕ) (s : Carry F), k ≤ 8 → s.1 = BitVec.ofNat 32 (8 - k) → ∀ K : Carry F → sProp 𝕄,
      srch1 v k s K ⊢ wp frame (wpE (defs₀ (F := F)) Variants.nat (c : Thread nD τ) (some k)) E (defs₀ (F := F) .tc 3 ⟨i, v, s.1, s.2.1, s.2.2.1, s.2.2.2.1, s.2.2.2.2.1, s.2.2.2.2.2.1, s.2.2.2.2.2.2⟩) K := by
  intro k
  induction k with
  | zero =>
    intro s hk hs K
    rw [srch1_apply]
    obtain ⟨a6, a7, a8, a9, a10, a11, a12⟩ := s
    show _ ⊢ wp frame (wpE (defs₀ (F := F)) Variants.nat (c : Thread nD τ) (some 0)) E (cc2_while1 i v a6 a7 a8 a9 a10 a11 a12) K
    simp only [cc2_while1_eq_skeleton]; unfold cc2_while1_skel
    have hm : ¬ Scalar.andi (Scalar.cmpi .slt a6 8#32) (Scalar.xori (Scalar.cmpf .ogt (k2_pay2 a12) (Scalar.ofBits .f32 0x00000000#32)) 1#1) = 1#1 :=
      more1_stop (a6, a7, a8, a9, a10, a11, a12) hs
    simp only [hm, ↓reduceIte, Prog.pure_eq_ret]
    rw [wp_ret, loop1]
    iintro H
    imodintro
    iexact H
  | succ k ih =>
    intro s hk hs K
    rw [srch1_apply]
    obtain ⟨a6, a7, a8, a9, a10, a11, a12⟩ := s
    show _ ⊢ wp frame (wpE (defs₀ (F := F)) Variants.nat (c : Thread nD τ) (some (k + 1))) E (cc2_while1 i v a6 a7 a8 a9 a10 a11 a12) K
    simp only [cc2_while1_eq_skeleton]; unfold cc2_while1_skel
    by_cases hm : more1 (a6, a7, a8, a9, a10, a11, a12) = 1#1
    · have hm' : Scalar.andi (Scalar.cmpi .slt a6 8#32) (Scalar.xori (Scalar.cmpf .ogt (k2_pay2 a12) (Scalar.ofBits .f32 0x00000000#32)) 1#1) = 1#1 := hm
      rw [loop1, if_pos hm]
      simp only [hm', ↓reduceIte, k2_part6_eq_skeleton, k2_part7_eq_skeleton]
      unfold k2_part6_skel k2_part7_skel
      simp only [Prog.lift, Prog.bind_op, Prog.bind_ret, Prog.pure_eq_ret]
      refine BIBase.Entails.trans ?_ (wp_call_spec Variants.nat (c : Thread nD τ) (some (k + 1)) E (srch1 v k (step1 v (a6, a7, a8, a9, a10, a11, a12))) k
        (fun u hu => by cases hu; exact Nat.lt_succ_self k)
        (ih (step1 v (a6, a7, a8, a9, a10, a11, a12)) (by omega) (by show Scalar.addi a6 1#32 = _; rw [show a6 = _ from hs]; exact count1 k hk)))
      rw [srch1_apply]
      simp only [wp_ret]
      iintro H
      imodintro
      iexact H
    · have hm' : ¬ Scalar.andi (Scalar.cmpi .slt a6 8#32) (Scalar.xori (Scalar.cmpf .ogt (k2_pay2 a12) (Scalar.ofBits .f32 0x00000000#32)) 1#1) = 1#1 := hm
      rw [loop1, if_neg hm]
      simp only [hm', ↓reduceIte, Prog.pure_eq_ret]
      rw [wp_ret]
      iintro H
      imodintro
      iexact H

/-- The second search's specification, with `k` steps left: it returns what the function computes. -/
def srch2 (v : FVec F S16x102400 .f32) (k : ℕ) (s : Carry F) : sWPT 𝕄 (Carry F) := pure (loop2 v k s)

theorem srch2_apply (v : FVec F S16x102400 .f32) (k : ℕ) (s : Carry F) (K : Carry F → sProp 𝕄) : srch2 v k s K = K (loop2 v k s) := rfl

/-- With no steps left the counter stops the search. -/
theorem more2_stop (s : Carry F) (h : s.1 = 12#32) : ¬ more2 s = 1#1 := by
  unfold more2
  rw [h]
  have : Scalar.cmpi .slt 12#32 12#32 = 0#1 := by decide
  rw [this]
  generalize Scalar.xori _ _ = b
  revert b
  decide

theorem count2 (k : ℕ) (h : k + 1 ≤ 12) : Scalar.addi (BitVec.ofNat 32 (12 - (k + 1))) 1#32 = BitVec.ofNat 32 (12 - k) := by
  have : ∀ k : Fin 12, Scalar.addi (BitVec.ofNat 32 (12 - (k.val + 1))) 1#32 = BitVec.ofNat 32 (12 - k.val) := by decide
  exact this ⟨k, by omega⟩

theorem srch2_le (c : Dev nD) (E : Set ℕ) (i : grid2.Coords) (v : FVec F S16x102400 .f32) :
    ∀ (k : ℕ) (s : Carry F), k ≤ 12 → s.1 = BitVec.ofNat 32 (12 - k) → ∀ K : Carry F → sProp 𝕄,
      srch2 v k s K ⊢ wp frame (wpE (defs₀ (F := F)) Variants.nat (c : Thread nD τ) (some k)) E (defs₀ (F := F) .tc 4 ⟨i, v, s.1, s.2.1, s.2.2.1, s.2.2.2.1, s.2.2.2.2.1, s.2.2.2.2.2.1, s.2.2.2.2.2.2⟩) K := by
  intro k
  induction k with
  | zero =>
    intro s hk hs K
    rw [srch2_apply]
    obtain ⟨a6, a7, a8, a9, a10, a11, a12⟩ := s
    show _ ⊢ wp frame (wpE (defs₀ (F := F)) Variants.nat (c : Thread nD τ) (some 0)) E (cc2_while2 i v a6 a7 a8 a9 a10 a11 a12) K
    simp only [cc2_while2_eq_skeleton]; unfold cc2_while2_skel
    have hm : ¬ Scalar.andi (Scalar.cmpi .slt a6 12#32) (Scalar.xori (Scalar.cmpf .ogt (k2_pay11 a12) (Scalar.ofBits .f32 0x00000000#32)) 1#1) = 1#1 :=
      more2_stop (a6, a7, a8, a9, a10, a11, a12) hs
    simp only [hm, ↓reduceIte, Prog.pure_eq_ret]
    rw [wp_ret, loop2]
    iintro H
    imodintro
    iexact H
  | succ k ih =>
    intro s hk hs K
    rw [srch2_apply]
    obtain ⟨a6, a7, a8, a9, a10, a11, a12⟩ := s
    show _ ⊢ wp frame (wpE (defs₀ (F := F)) Variants.nat (c : Thread nD τ) (some (k + 1))) E (cc2_while2 i v a6 a7 a8 a9 a10 a11 a12) K
    simp only [cc2_while2_eq_skeleton]; unfold cc2_while2_skel
    by_cases hm : more2 (a6, a7, a8, a9, a10, a11, a12) = 1#1
    · have hm' : Scalar.andi (Scalar.cmpi .slt a6 12#32) (Scalar.xori (Scalar.cmpf .ogt (k2_pay11 a12) (Scalar.ofBits .f32 0x00000000#32)) 1#1) = 1#1 := hm
      rw [loop2, if_pos hm]
      simp only [hm', ↓reduceIte, k2_part8_eq_skeleton, k2_part9_eq_skeleton]
      unfold k2_part8_skel k2_part9_skel
      simp only [Prog.lift, Prog.bind_op, Prog.bind_ret, Prog.pure_eq_ret]
      refine BIBase.Entails.trans ?_ (wp_call_spec Variants.nat (c : Thread nD τ) (some (k + 1)) E (srch2 v k (step2 v (a6, a7, a8, a9, a10, a11, a12))) k
        (fun u hu => by cases hu; exact Nat.lt_succ_self k)
        (ih (step2 v (a6, a7, a8, a9, a10, a11, a12)) (by omega) (by show Scalar.addi a6 1#32 = _; rw [show a6 = _ from hs]; exact count2 k hk)))
      rw [srch2_apply]
      simp only [wp_ret]
      iintro H
      imodintro
      iexact H
    · have hm' : ¬ Scalar.andi (Scalar.cmpi .slt a6 12#32) (Scalar.xori (Scalar.cmpf .ogt (k2_pay11 a12) (Scalar.ofBits .f32 0x00000000#32)) 1#1) = 1#1 := hm
      rw [loop2, if_neg hm]
      simp only [hm', ↓reduceIte, Prog.pure_eq_ret]
      rw [wp_ret]
      iintro H
      imodintro
      iexact H

/-! ## The body's triple -/

set_option maxHeartbeats 4000000 in
theorem sound_kernel2 (c : Dev nD) (E : Set ℕ) (i : grid2.Coords) (arg1 : Memref sig .tc .vmem S16x102400 .f32) (harg1 : arg1.IsWhole) (arg2 : Memref sig .tc .vmem S16x3200 .f32) (harg2 : arg2.IsWhole) (arg3 : Memref sig .tc .vmem S1x102400 .i32) (harg3 : arg3.IsWhole) (arg4 : Memref sig .tc .vmem S1x1000 .i32) (harg4 : arg4.IsWhole) (arg5 : Memref sig .tc .vmem S16x10 .f32) (harg5 : arg5.IsWhole)
    (x0 : Vec F S16x102400 .f32) (x1 : Vec F S16x3200 .f32) (x2 : Vec F S1x102400 .i32) (x3 : Vec F S1x1000 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.nat c none) E (cc2__select_body i arg1 harg1 arg2 harg2 arg3 harg3 arg4 harg4 arg5 harg5) K := by
  simp only [cc2__select_body_eq_skeleton]; unfold cc2__select_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  have hs1 := srch1_le (F := F) c E i (k2_pay21 (View.readAt (Elt F) arg2.view r2_1.toLoadRect f1)) 8
    (0#32, k2_pay23 (View.readAt (Elt F) arg2.view r2_1.toLoadRect f1), k2_pay24, k2_pay25, k2_pay26, k2_pay27, k2_pay28) (Nat.le_refl 8) rfl
  dsimp only at hs1
  iapply (wp_call_spec Variants.nat (c : Thread nD τ) none E _ 8 (fun u hu => nomatch hu) hs1)
  rw [srch1_apply]
  have hs2 := srch2_le (F := F) c E i (k2_pay20 (View.readAt (Elt F) arg1.view r2_0.toLoadRect f0)) 12
    (0#32, k2_pay23 (View.readAt (Elt F) arg2.view r2_1.toLoadRect f1),
      k2_pay29 (final1 (View.readAt (Elt F) arg2.view r2_1.toLoadRect f1)).2.2.1 (final1 (View.readAt (Elt F) arg2.view r2_1.toLoadRect f1)).2.2.2.2.2.1 (final1 (View.readAt (Elt F) arg2.view r2_1.toLoadRect f1)).2.2.2.2.2.2,
      k2_pay30, k2_pay31, k2_pay32, k2_pay33) (Nat.le_refl 12) rfl
  dsimp only at hs2
  unfold final1 at hs2
  simp only [Prog.lift, Prog.bind_op, Prog.bind_ret, Prog.pure_eq_ret]
  iapply (wp_call_spec Variants.nat (c : Thread nD τ) none E _ 12 (fun u hu => nomatch hu) hs2)
  rw [srch2_apply]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ (cfg2 (F := F)) c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin (cfg2 (F := F)).W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin (cfg2 (F := F)).N) : (dat2 V c).after 0 t = iblk2 V c 0 t := by dsimp only [dat2]; rfl
theorem after2_1 (c : Dev nD) (t : Fin (cfg2 (F := F)).N) : (dat2 V c).after 1 t = iblk2 V c 1 t := by dsimp only [dat2]; rfl
theorem after2_2 (c : Dev nD) (t : Fin (cfg2 (F := F)).N) : (dat2 V c).after 2 t = iblk2 V c 2 t := by dsimp only [dat2]; rfl
theorem after2_3 (c : Dev nD) (t : Fin (cfg2 (F := F)).N) : (dat2 V c).after 3 t = iblk2 V c 3 t := by dsimp only [dat2]; rfl
theorem after2_4 (c : Dev nD) (t : Fin (cfg2 (F := F)).N) : (dat2 V c).after 4 t = out2_4 (iblk2 V c 0 t) (iblk2 V c 1 t) (iblk2 V c 2 t) (iblk2 V c 3 t) := by dsimp only [dat2]; rfl

/-- Each input's current staging buffer holds its block at every point, fetched there or not (`beforeK_W_of`). -/
theorem before2_0 (c : Dev nD) (t : Fin (cfg2 (F := F)).N) (d) : (dat2 V c).before 0 t d = iblk2 V c 0 t :=
  before2_0_of V (dat2 V c) (A_eq2 V c 0) (after2_0 V c) t d
theorem before2_1 (c : Dev nD) (t : Fin (cfg2 (F := F)).N) (d) : (dat2 V c).before 1 t d = iblk2 V c 1 t :=
  before2_1_of V (dat2 V c) (A_eq2 V c 1) (after2_1 V c) t d
theorem before2_2 (c : Dev nD) (t : Fin (cfg2 (F := F)).N) (d) : (dat2 V c).before 2 t d = iblk2 V c 2 t :=
  before2_2_of V (dat2 V c) (A_eq2 V c 2) (after2_2 V c) t d
theorem before2_3 (c : Dev nD) (t : Fin (cfg2 (F := F)).N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin (cfg2 (F := F)).N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin (cfg2 (F := F)).N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant and
    the core's `owes` pass through unread. -/
theorem sound_body2 (c : Dev nD) (t : Fin (cfg2 (F := F)).N) :
    bodyPre2 V c t ⊢ wp frame (wpE (defs₀ (F := F)) Variants.nat c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row2 (t : Fin (cfg2 (F := F)).N) :
    defs₀ (F := F) .tc (cfg2 (F := F)).body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.nat () Set.univ := fun t => by
  rw [bigSep_W2, bigSep_W2, defs₀_row2]
  exact triple_restated (sound_body2 V c t) rfl .rfl fun _ => .rfl

end Cert.KernelIdeal.Pf

end
-- ==== Proof.KI.Run.lean ====
/-
  The whole program: its three calls and the host operations between them.
-/
module

public import proofs.«01_k».proof.Proof.KI.Select

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_c]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps2_1` allocates a buffer. -/
theorem hostOps2_1_fresh : (hostOps2_1 : List (HloOp τ sig (Elt F))).Forall fun op => op.fresh = ∅ := by
  simp only [List.Forall]; repeat' constructor
/-- The reference each operation of `hostOps2_1` writes, in order. -/
abbrev hostOps2_1_W : List (Ref sig .tc) := [main_call0_v0, main_v2]
theorem hostOps2_1_writes : (hostOps2_1 : List (HloOp τ sig (Elt F))).Forall fun op => op.writes ⊆ (hostOps2_1_W.map (Proc.devRef (τ := τ) .tc)).toFinset :=
  StableHlo.forall_writes_sub_of_map rfl
/-- `hostOps2_1` writes none of the argument arrays (checked: each argument against each reference it writes). -/
theorem hostOps2_1_args : ∀ a ∈ argRefs, a ∉ hostOps2_1_W := ListAll.forall_mem_of_all_decide (by decide +kernel)

/-- No operation of `hostOps2_2` allocates a buffer. -/
theorem hostOps2_2_fresh : (hostOps2_2 : List (HloOp τ sig (Elt F))).Forall fun op => op.fresh = ∅ := by
  simp only [List.Forall]; repeat' constructor
/-- The reference each operation of `hostOps2_2` writes, in order. -/
abbrev hostOps2_2_W : List (Ref sig .tc) := [main_v3, main_v4]
theorem hostOps2_2_writes : (hostOps2_2 : List (HloOp τ sig (Elt F))).Forall fun op => op.writes ⊆ (hostOps2_2_W.map (Proc.devRef (τ := τ) .tc)).toFinset :=
  StableHlo.forall_writes_sub_of_map rfl
/-- `hostOps2_2` writes none of the argument arrays (checked: each argument against each reference it writes). -/
theorem hostOps2_2_args : ∀ a ∈ argRefs, a ∉ hostOps2_2_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`) (region 1's entry). -/
def W1 (c : Dev nD) : Valuation τ sig (Elt F) :=
  Pipeline.withArrays spec0 c (W0 m ρ c) fun w => (dat0 (V0 m ρ) c).arrAt w (cfg0 (F := F)).N
theorem W1_arr (c : Dev nD) (w : Fin (cfg0 (F := F)).W) :
    W1 m ρ c (Proc.devRef .tc (Pipeline.arrRef spec0 w)) = (dat0 (V0 m ρ) c).arrAt w (cfg0 (F := F)).N := by
  unfold W1; exact Pipeline.withArrays_arr spec0 (launch0 (F := F)).win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin (cfg0 (F := F)).W, Pipeline.arrRef spec0 w = r → (cfg0.win w).isOut = false) :
    W1 m ρ c (Proc.devRef .tc r) = W0 m ρ c (Proc.devRef .tc r) := by
  by_cases hw : ∃ w : Fin (cfg0 (F := F)).W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin 3, Pipeline.arrRef spec0 w = a → (win0 w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin (cfg0 (F := F)).W) : (dat0 (V0 m ρ) c).arrAt w (cfg0 (F := F)).N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec1 c (W1 m ρ c) fun w => (dat1 (V1 m ρ) c).arrAt w (cfg1 (F := F)).N
theorem W2_arr (c : Dev nD) (w : Fin (cfg1 (F := F)).W) :
    W2 m ρ c (Proc.devRef .tc (Pipeline.arrRef spec1 w)) = (dat1 (V1 m ρ) c).arrAt w (cfg1 (F := F)).N := by
  unfold W2; exact Pipeline.withArrays_arr spec1 (launch1 (F := F)).win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin (cfg1 (F := F)).W, Pipeline.arrRef spec1 w = r → (cfg1.win w).isOut = false) :
    W2 m ρ c (Proc.devRef .tc r) = W1 m ρ c (Proc.devRef .tc r) := by
  by_cases hw : ∃ w : Fin (cfg1 (F := F)).W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin 5, Pipeline.arrRef spec1 w = a → (win1 w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin (cfg1 (F := F)).W) : (dat1 (V1 m ρ) c).arrAt w (cfg1 (F := F)).N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After `hostOps2`. -/
abbrev W3 : Dev nD → Valuation τ sig (Elt F) := fun c => StableHlo.after hostOps2 (W2 m ρ c)
/-- A reference `hostOps2` does not write keeps its contents across it. -/
theorem W3_of (c : Dev nD) (r : Ref sig .tc) (h : r ∉ hostOps2_W) : W3 m ρ c (Proc.devRef .tc r) = W2 m ρ c (Proc.devRef .tc r) :=
  StableHlo.after_of_writes_sub hostOps2 _ hostOps2_writes h
theorem W3_args (c : Dev nD) : ∀ a ∈ argRefs, W3 m ρ c (Proc.devRef .tc a) = m ((c : Thread nD τ).loc a) :=
  fun a ha => (W3_of m ρ c a (hostOps2_args a ha)).trans (W2_args m ρ c a ha)
/-- After `hostOps2_1`. -/
abbrev W4 : Dev nD → Valuation τ sig (Elt F) := fun c => StableHlo.after hostOps2_1 (W3 m ρ c)
/-- A reference `hostOps2_1` does not write keeps its contents across it. -/
theorem W4_of (c : Dev nD) (r : Ref sig .tc) (h : r ∉ hostOps2_1_W) : W4 m ρ c (Proc.devRef .tc r) = W3 m ρ c (Proc.devRef .tc r) :=
  StableHlo.after_of_writes_sub hostOps2_1 _ hostOps2_1_writes h
theorem W4_args (c : Dev nD) : ∀ a ∈ argRefs, W4 m ρ c (Proc.devRef .tc a) = m ((c : Thread nD τ).loc a) :=
  fun a ha => (W4_of m ρ c a (hostOps2_1_args a ha)).trans (W3_args m ρ c a ha)
/-- After `hostOps2_2` (region 2's entry). -/
abbrev W5 : Dev nD → Valuation τ sig (Elt F) := fun c => StableHlo.after hostOps2_2 (W4 m ρ c)
/-- A reference `hostOps2_2` does not write keeps its contents across it. -/
theorem W5_of (c : Dev nD) (r : Ref sig .tc) (h : r ∉ hostOps2_2_W) : W5 m ρ c (Proc.devRef .tc r) = W4 m ρ c (Proc.devRef .tc r) :=
  StableHlo.after_of_writes_sub hostOps2_2 _ hostOps2_2_writes h
theorem W5_args (c : Dev nD) : ∀ a ∈ argRefs, W5 m ρ c (Proc.devRef .tc a) = m ((c : Thread nD τ).loc a) :=
  fun a ha => (W5_of m ρ c a (hostOps2_2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w (cfg2 (F := F)).N
theorem W6_arr (c : Dev nD) (w : Fin (cfg2 (F := F)).W) :
    W6 m ρ c (Proc.devRef .tc (Pipeline.arrRef spec2 w)) = (dat2 (V5 m ρ) c).arrAt w (cfg2 (F := F)).N := by
  unfold W6; exact Pipeline.withArrays_arr spec2 (launch2 (F := F)).win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin (cfg2 (F := F)).W, Pipeline.arrRef spec2 w = r → (cfg2.win w).isOut = false) :
    W6 m ρ c (Proc.devRef .tc r) = W5 m ρ c (Proc.devRef .tc r) := by
  by_cases hw : ∃ w : Fin (cfg2 (F := F)).W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin 5, Pipeline.arrRef spec2 w = a → (win2 w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin (cfg2 (F := F)).W) : (dat2 (V5 m ρ) c).arrAt w (cfg2 (F := F)).N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)

/-! ## The proof data family and the thread state -/

/-- The prefetched tables' admissible contents: no pipeline has a table. -/
abbrev adm : (p : Fin 3) → (pcfgs (F := F) p).Adm := fun p => ((cfgs (F := F)) p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V5 m ρ) c
abbrev 𝒱₀ : Variants := Variants.nat
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V0 m ρ c) (V1 m ρ c) ((pdats m ρ 0 c).arrAt · (cfg0 (F := F)).N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) (launch1 (F := F)).win (launch1 (F := F)).arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      (launch1 (F := F)).win (launch1 (F := F)).arr_whole c (pdats m ρ) ((pdats m ρ 1 c).share_full fun _ => rfl)
      (V1 m ρ c) (V2 m ρ c) ((pdats m ρ 1 c).arrAt · (cfg1 (F := F)).N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W5`, left at `W6`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) (launch2 (F := F)).win (launch2 (F := F)).arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      (launch2 (F := F)).win (launch2 (F := F)).arr_whole c (pdats m ρ) ((pdats m ρ 2 c).share_full fun _ => rfl)
      (V5 m ρ c) (V6 m ρ c) ((pdats m ρ 2 c).arrAt · (cfg2 (F := F)).N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .host (hseg hostOps2_1 hostOps2_1_sub hostOps2_1_fresh (W3 m ρ)),
    .host (hseg hostOps2_2 hostOps2_2_sub hostOps2_2_fresh (W4 m ρ)),
    .region (reg2 m ρ) ]
/-- The program is its segments run one after the other. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- From any memory with zero counters, every weakly fair execution of the program ends without a fault; in every final
    state the result array holds what the third call left in it, the argument arrays are as they were at the start, and every semaphore counter
    is zero. -/
theorem ran : θ_run defs (onTc (τ := τ) (main (F := F))) ⟨m, fun _ => 0, ρ⟩ (fun r => (∀ c : Dev nD,
      r.2.mem ((c.tc : Thread nD τ).loc main_v5) = (dat2 (V5 m ρ) c).arrAt 4 (cfg2 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (cfgs (F := F)) cellOf_inj) (Pipeline.launchToks (cfgs (F := F)) cellOf_inj))
    (hu₀ := by
      iintro Hu; imodintro
      isplitl [Hu]
      · iapply (show (ownU (initOf (Pipeline.cells (cfgs (F := F)) cellOf_inj) (Pipeline.launchToks (cfgs (F := F)) cellOf_inj)) : sProp 𝕄)
            ⊢ BI.own (emb₁ (initOf (Pipeline.cells (cfgs (F := F)) cellOf_inj) (Pipeline.launchToks (cfgs (F := F)) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_v5 (by decide))).trans (W6_arr m ρ c 4), (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩), funext fun g => hz g (.inr (no_unscoped g.2))⟩)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (ran m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.KernelIdeal.Pf

end
-- ==== Proof.Ref.Run.lean ====
/- The reference's @main as a list of its host operations, and its run read back: every weakly fair execution
   terminates with the result at the operations' composed term of the arguments and the arguments unchanged. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Pf

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 (window `main_part0`). -/
abbrev ops_part0_0 : List (HloOp τ sig (Elt F)) :=
  [ TRef.binary (TRef.of (T := ⟨S100000x128, .f32⟩) main_arg1) (TRef.of (T := ⟨S100000x128, .f32⟩) main_arg1) (TRef.of (T := ⟨S100000x128, .f32⟩) main_call0_v0) mulf,
    TRef.nullary (TRef.of (T := ⟨S_, .f32⟩) main_call0_cst) (constant S_ .f32 0x00000000#32),
    TRef.binary (TRef.of (T := ⟨S100000x128, .f32⟩) main_call0_v0) (TRef.of (T := ⟨S_, .f32⟩) main_call0_cst) (TRef.of (T := ⟨S100000, .f32⟩) main_call0_v1) (fun x v => Host.reduceAdd x v reducesTo_S100000x128_S100000_d1 h_S_),
    TRef.unary (TRef.of (T := ⟨S100000, .f32⟩) main_call0_v1) (TRef.of (T := ⟨S100000x1, .f32⟩) main_call0_v2) (broadcastInDim S100000x1 ![0] bcast_S100000_S100000x1_0),
    TRef.unary (TRef.of (T := ⟨S100000x1, .f32⟩) main_call0_v2) (TRef.of (T := ⟨S100000x1, .f32⟩) main_v0) Host.sqrt,
    unary main_v0 main_v1 (broadcastInDim S100000x128 ![0, 1] bcast_S100000x1_S100000x128_0_1 : (⟨S100000x1, .f32⟩ : BufTy).Contents (Elt F) → (⟨S100000x128, .f32⟩ : BufTy).Contents (Elt F)),
    binary main_arg1 main_v1 main_v2 (Host.divf : (⟨S100000x128, .f32⟩ : BufTy).Contents (Elt F) → (⟨S100000x128, .f32⟩ : BufTy).Contents (Elt F) → (⟨S100000x128, .f32⟩ : BufTy).Contents (Elt F)),
    nullary main_cst (constant S_ .f32 0x00000000#32),
    binary main_v2 main_cst main_v3 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_0 (constant S_ .f32 0x47C35000#32),
    unary main_cst_0 main_v4 (broadcastInDim S128 ![] bcast_S_S128 : (⟨S_, .f32⟩ : BufTy).Contents (Elt F) → (⟨S128, .f32⟩ : BufTy).Contents (Elt F)),
    binary main_v3 main_v4 main_v5 (Host.divf : (⟨S128, .f32⟩ : BufTy).Contents (Elt F) → (⟨S128, .f32⟩ : BufTy).Contents (Elt F) → (⟨S128, .f32⟩ : BufTy).Contents (Elt F)),
    unary main_v5 main_v6 (broadcastInDim S1x128 ![1] bcast_S128_S1x128_1 : (⟨S128, .f32⟩ : BufTy).Contents (Elt F) → (⟨S1x128, .f32⟩ : BufTy).Contents (Elt F)),
    unary main_v6 main_v7 (broadcastInDim S100000x128 ![0, 1] bcast_S1x128_S100000x128_0_1 : (⟨S1x128, .f32⟩ : BufTy).Contents (Elt F) → (⟨S100000x128, .f32⟩ : BufTy).Contents (Elt F)),
    binary main_v2 main_v7 main_v8 (subf : (⟨S100000x128, .f32⟩ : BufTy).Contents (Elt F) → (⟨S100000x128, .f32⟩ : BufTy).Contents (Elt F) → (⟨S100000x128, .f32⟩ : BufTy).Contents (Elt F)),
    TRef.binary (TRef.of (T := ⟨S1024x128, .f32⟩) main_arg0) (TRef.of (T := ⟨S1024x128, .f32⟩) main_arg0) (TRef.of (T := ⟨S1024x128, .f32⟩) main_call1_v0) mulf,
    TRef.nullary (TRef.of (T := ⟨S_, .f32⟩) main_call1_cst) (constant S_ .f32 0x00000000#32),
    TRef.binary (TRef.of (T := ⟨S1024x128, .f32⟩) main_call1_v0) (TRef.of (T := ⟨S_, .f32⟩) main_call1_cst) (TRef.of (T := ⟨S1024, .f32⟩) main_call1_v1) (fun x v => Host.reduceAdd x v reducesTo_S1024x128_S1024_d1 h_S_),
    TRef.unary (TRef.of (T := ⟨S1024, .f32⟩) main_call1_v1) (TRef.of (T := ⟨S1024x1, .f32⟩) main_call1_v2) (broadcastInDim S1024x1 ![0] bcast_S1024_S1024x1_0),
    TRef.unary (TRef.of (T := ⟨S1024x1, .f32⟩) main_call1_v2) (TRef.of (T := ⟨S1024x1, .f32⟩) main_v9) Host.sqrt,
    unary main_v9 main_v10 (broadcastInDim S1024x128 ![0, 1] bcast_S1024x1_S1024x128_0_1 : (⟨S1024x1, .f32⟩ : BufTy).Contents (Elt F) → (⟨S1024x128, .f32⟩ : BufTy).Contents (Elt F)),
    binary main_arg0 main_v10 main_v11 (Host.divf : (⟨S1024x128, .f32⟩ : BufTy).Contents (Elt F) → (⟨S1024x128, .f32⟩ : BufTy).Contents (Elt F) → (⟨S1024x128, .f32⟩ : BufTy).Contents (Elt F)),
    unary main_v5 main_v12 (broadcastInDim S1x128 ![1] bcast_S128_S1x128_1 : (⟨S128, .f32⟩ : BufTy).Contents (Elt F) → (⟨S1x128, .f32⟩ : BufTy).Contents (Elt F)),
    unary main_v12 main_v13 (broadcastInDim S1024x128 ![0, 1] bcast_S1x128_S1024x128_0_1 : (⟨S1x128, .f32⟩ : BufTy).Contents (Elt F) → (⟨S1024x128, .f32⟩ : BufTy).Contents (Elt F)),
    binary main_v11 main_v13 main_v14 (subf : (⟨S1024x128, .f32⟩ : BufTy).Contents (Elt F) → (⟨S1024x128, .f32⟩ : BufTy).Contents (Elt F) → (⟨S1024x128, .f32⟩ : BufTy).Contents (Elt F)),
    binary main_v14 main_v14 main_v15 (mulf : (⟨S1024x128, .f32⟩ : BufTy).Contents (Elt F) → (⟨S1024x128, .f32⟩ : BufTy).Contents (Elt F) → (⟨S1024x128, .f32⟩ : BufTy).Contents (Elt F)),
    nullary main_cst_1 (constant S_ .f32 0x00000000#32),
    binary main_v15 main_cst_1 main_v16 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    unary main_v16 main_v17 (broadcastInDim S1024x1 ![0] bcast_S1024_S1024x1_0 : (⟨S1024, .f32⟩ : BufTy).Contents (Elt F) → (⟨S1024x1, .f32⟩ : BufTy).Contents (Elt F)),
    unary main_v8 main_v18 ((transpose S128x100000 [1, 0] · transposes_S100000x128_S128x100000_1_0) : (⟨S100000x128, .f32⟩ : BufTy).Contents (Elt F) → (⟨S128x100000, .f32⟩ : BufTy).Contents (Elt F)) ]

/-- @main's operations 31 … 60 (window `main_part0`). -/
abbrev ops_part0_1 : List (HloOp τ sig (Elt F)) :=
  [ binary main_v14 main_v18 main_v19 ((fun l r => Host.dotGeneral dot_S1024x128_S128x100000_S1024x100000_1_0_0_1_n_n none l r) : (⟨S1024x128, .f32⟩ : BufTy).Contents (Elt F) → (⟨S128x100000, .f32⟩ : BufTy).Contents (Elt F) → (⟨S1024x100000, .f32⟩ : BufTy).Contents (Elt F)),
    nullary main_cst_2 (constant S_ .f32 0x40000000#32),
    unary main_cst_2 main_v20 (broadcastInDim S1024x100000 ![] bcast_S_S1024x100000 : (⟨S_, .f32⟩ : BufTy).Contents (Elt F) → (⟨S1024x100000, .f32⟩ : BufTy).Contents (Elt F)),
    binary main_v20 main_v19 main_v21 (mulf : (⟨S1024x100000, .f32⟩ : BufTy).Contents (Elt F) → (⟨S1024x100000, .f32⟩ : BufTy).Contents (Elt F) → (⟨S1024x100000, .f32⟩ : BufTy).Contents (Elt F)),
    unary main_v17 main_v22 (broadcastInDim S1024x100000 ![0, 1] bcast_S1024x1_S1024x100000_0_1 : (⟨S1024x1, .f32⟩ : BufTy).Contents (Elt F) → (⟨S1024x100000, .f32⟩ : BufTy).Contents (Elt F)),
    binary main_v22 main_v21 main_v23 (subf : (⟨S1024x100000, .f32⟩ : BufTy).Contents (Elt F) → (⟨S1024x100000, .f32⟩ : BufTy).Contents (Elt F) → (⟨S1024x100000, .f32⟩ : BufTy).Contents (Elt F)),
    binary main_v8 main_v8 main_v24 (mulf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x00000000#32),
    binary main_v24 main_cst_3 main_v25 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v25 main_v26 (broadcastInDim S1x100000 ![1] bcast_S100000_S1x100000_1 : (⟨S100000, .f32⟩ : BufTy).Contents (Elt F) → (⟨S1x100000, .f32⟩ : BufTy).Contents (Elt F)),
    unary main_v26 main_v27 (broadcastInDim S1024x100000 ![0, 1] bcast_S1x100000_S1024x100000_0_1 : (⟨S1x100000, .f32⟩ : BufTy).Contents (Elt F) → (⟨S1024x100000, .f32⟩ : BufTy).Contents (Elt F)),
    binary main_v23 main_v27 main_v28 (addf : (⟨S1024x100000, .f32⟩ : BufTy).Contents (Elt F) → (⟨S1024x100000, .f32⟩ : BufTy).Contents (Elt F) → (⟨S1024x100000, .f32⟩ : BufTy).Contents (Elt F)),
    unary main_v28 main_v29 (Host.negf : (⟨S1024x100000, .f32⟩ : BufTy).Contents (Elt F) → (⟨S1024x100000, .f32⟩ : BufTy).Contents (Elt F)),
    unary main_v29 main_values ((fun x => (Host.topK S1024x75 1 (FloatOps.cmpfTotal .gt) x sliceFits_S1024x100000_S1024x75).1) : (⟨S1024x100000, .f32⟩ : BufTy).Contents (Elt F) → (⟨S1024x75, .f32⟩ : BufTy).Contents (Elt F)),
    unary main_v29 main_indices ((fun x => (Host.topK S1024x75 1 (FloatOps.cmpfTotal .gt) x sliceFits_S1024x100000_S1024x75).2) : (⟨S1024x100000, .f32⟩ : BufTy).Contents (Elt F) → (⟨S1024x75, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S1024x75, .i32⟩) main_call2_v0) (broadcastInDim S1024x75 ![] bcast_S_S1024x75),
    TRef.binary (TRef.of (T := ⟨S1024x75, .i32⟩) main_indices) (TRef.of (T := ⟨S1024x75, .i32⟩) main_call2_v0) (TRef.of (T := ⟨S1024x75, .i1⟩) main_call2_v1) (cmpi .slt),
    TRef.nullary (TRef.of (T := ⟨S_, .i32⟩) main_call2_c_0) (constantI S_ 32 100000#32),
    TRef.unary (TRef.of (T := ⟨S_, .i32⟩) main_call2_c_0) (TRef.of (T := ⟨S1024x75, .i32⟩) main_call2_v2) (broadcastInDim S1024x75 ![] bcast_S_S1024x75),
    TRef.binary (TRef.of (T := ⟨S1024x75, .i32⟩) main_indices) (TRef.of (T := ⟨S1024x75, .i32⟩) main_call2_v2) (TRef.of (T := ⟨S1024x75, .i32⟩) main_call2_v3) addi,
    TRef.ternary (TRef.of (T := ⟨S1024x75, .i1⟩) main_call2_v1) (TRef.of (T := ⟨S1024x75, .i32⟩) main_call2_v3) (TRef.of (T := ⟨S1024x75, .i32⟩) main_indices) (TRef.of (T := ⟨S1024x75, .i32⟩) main_call2_v4) select,
    TRef.unary (TRef.of (T := ⟨S1024x75, .i32⟩) main_call2_v4) (TRef.of (T := ⟨S1024x75x1, .i32⟩) main_call2_v5) (broadcastInDim S1024x75x1 ![0, 1] bcast_S1024x75_S1024x75x1_0_1),
    TRef.nullary (TRef.of (T := ⟨S1, .i32⟩) main_call2_c_1) (constantI S1 32 99999#32),
    TRef.nullary (TRef.of (T := ⟨S_, .i32⟩) main_call2_c_2) (constantI S_ 32 0#32),
    TRef.unary (TRef.of (T := ⟨S_, .i32⟩) main_call2_c_2) (TRef.of (T := ⟨S1024x75x1, .i32⟩) main_call2_v6) (broadcastInDim S1024x75x1 ![] bcast_S_S1024x75x1),
    TRef.binary (TRef.of (T := ⟨S1024x75x1, .i32⟩) main_call2_v5) (TRef.of (T := ⟨S1024x75x1, .i32⟩) main_call2_v6) (TRef.of (T := ⟨S1024x75x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S1024x75x1, .i32⟩) main_call2_v9) (broadcastInDim S1024x75x1 ![0, 1, 2] bcast_S1x1x1_S1024x75x1_0_1_2),
    TRef.binary (TRef.of (T := ⟨S1024x75x1, .i32⟩) main_call2_v5) (TRef.of (T := ⟨S1024x75x1, .i32⟩) main_call2_v9) (TRef.of (T := ⟨S1024x75x1, .i1⟩) main_call2_v10) (cmpi .sle) ]

/-- @main's operations 61 … 90 (window `main_part0`). -/
abbrev ops_part0_2 : List (HloOp τ sig (Elt F)) :=
  [ TRef.binary (TRef.of (T := ⟨S1024x75x1, .i1⟩) main_call2_v7) (TRef.of (T := ⟨S1024x75x1, .i1⟩) main_call2_v10) (TRef.of (T := ⟨S1024x75x1, .i1⟩) main_call2_v11) andi,
    TRef.nullary (TRef.of (T := ⟨S_, .i1⟩) main_call2_c_3) (constantI S_ 1 1#1),
    TRef.binary (TRef.of (T := ⟨S1024x75x1, .i1⟩) main_call2_v11) (TRef.of (T := ⟨S_, .i1⟩) main_call2_c_3) (TRef.of (T := ⟨S1024x75, .i1⟩) main_call2_v12) (fun x v => Host.reduce IntOp.andi x v reducesTo_S1024x75x1_S1024x75_d2 h_S_),
    TRef.binary (TRef.of (T := ⟨S100000, .i32⟩) main_arg2) (TRef.of (T := ⟨S1024x75x1, .i32⟩) main_call2_v5) (TRef.of (T := ⟨S1024x75, .i32⟩) main_call2_v13) (fun x i => Host.gather gather_S100000_S1024x75x1_S1024x75_n_0_n_n_0_2_1 x i),
    TRef.nullary (TRef.of (T := ⟨S_, .i32⟩) main_call2_c_4) (constantI S_ 32 2147483648#32),
    TRef.unary (TRef.of (T := ⟨S_, .i32⟩) main_call2_c_4) (TRef.of (T := ⟨S1024x75, .i32⟩) main_call2_v14) (broadcastInDim S1024x75 ![] bcast_S_S1024x75),
    TRef.ternary (TRef.of (T := ⟨S1024x75, .i1⟩) main_call2_v12) (TRef.of (T := ⟨S1024x75, .i32⟩) main_call2_v13) (TRef.of (T := ⟨S1024x75, .i32⟩) main_call2_v14) (TRef.of (T := ⟨S1024x75, .i32⟩) main_v30) select,
    TRef.unary (TRef.of (T := ⟨S1024x75, .i32⟩) main_v30) (TRef.of (T := ⟨S1024x75x1, .i32⟩) main_call3_v0) (broadcastInDim S1024x75x1 ![0, 1] bcast_S1024x75_S1024x75x1_0_1),
    TRef.nullary (TRef.of (T := ⟨S1x1x10, .i32⟩) main_call3_v1) (iotaInDim S1x1x10 32 2),
    TRef.unary (TRef.of (T := ⟨S1024x75x1, .i32⟩) main_call3_v0) (TRef.of (T := ⟨S1024x75x10, .i32⟩) main_call3_v2) (broadcastInDim S1024x75x10 ![0, 1, 2] bcast_S1024x75x1_S1024x75x10_0_1_2),
    TRef.unary (TRef.of (T := ⟨S1x1x10, .i32⟩) main_call3_v1) (TRef.of (T := ⟨S1024x75x10, .i32⟩) main_call3_v3) (broadcastInDim S1024x75x10 ![0, 1, 2] bcast_S1x1x10_S1024x75x10_0_1_2),
    TRef.binary (TRef.of (T := ⟨S1024x75x10, .i32⟩) main_call3_v2) (TRef.of (T := ⟨S1024x75x10, .i32⟩) main_call3_v3) (TRef.of (T := ⟨S1024x75x10, .i1⟩) main_call3_v4) (cmpi .eq),
    TRef.unary (TRef.of (T := ⟨S1024x75x10, .i1⟩) main_call3_v4) (TRef.of (T := ⟨S1024x75x10, .i32⟩) main_v31) (extui 32 · natLt_1_32),
    nullary main_c (constantI S_ 32 0#32),
    binary main_v31 main_c main_v32 ((fun x v => Host.reduce IntOp.addi x v reducesTo_S1024x75x10_S1024x10_d1 h_S_) : (⟨S1024x75x10, .i32⟩ : BufTy).Contents (Elt F) → (⟨S_, .i32⟩ : BufTy).Contents (Elt F) → (⟨S1024x10, .i32⟩ : BufTy).Contents (Elt F)),
    nullary main_c_4 (constantI S_ 32 0#32),
    binary main_v32 main_c_4 main_v33 ((fun x v => Host.reduce IntOp.addi x v reducesTo_S1024x10_S1024_d1 h_S_) : (⟨S1024x10, .i32⟩ : BufTy).Contents (Elt F) → (⟨S_, .i32⟩ : BufTy).Contents (Elt F) → (⟨S1024, .i32⟩ : BufTy).Contents (Elt F)),
    unary main_v33 main_v34 (broadcastInDim S1024x1 ![0] bcast_S1024_S1024x1_0 : (⟨S1024, .i32⟩ : BufTy).Contents (Elt F) → (⟨S1024x1, .i32⟩ : BufTy).Contents (Elt F)),
    unary main_v34 main_v35 (broadcastInDim S1024x10 ![0, 1] bcast_S1024x1_S1024x10_0_1 : (⟨S1024x1, .i32⟩ : BufTy).Contents (Elt F) → (⟨S1024x10, .i32⟩ : BufTy).Contents (Elt F)),
    binary main_v35 main_v32 main_v36 (subi : (⟨S1024x10, .i32⟩ : BufTy).Contents (Elt F) → (⟨S1024x10, .i32⟩ : BufTy).Contents (Elt F) → (⟨S1024x10, .i32⟩ : BufTy).Contents (Elt F)),
    unary main_arg3 main_v37 (broadcastInDim S1x1x1000 ![2] bcast_S1000_S1x1x1000_2 : (⟨S1000, .i32⟩ : BufTy).Contents (Elt F) → (⟨S1x1x1000, .i32⟩ : BufTy).Contents (Elt F)),
    unary main_v36 main_v38 (broadcastInDim S1024x10x1 ![0, 1] bcast_S1024x10_S1024x10x1_0_1 : (⟨S1024x10, .i32⟩ : BufTy).Contents (Elt F) → (⟨S1024x10x1, .i32⟩ : BufTy).Contents (Elt F)),
    unary main_v37 main_v39 (broadcastInDim S1024x10x1000 ![0, 1, 2] bcast_S1x1x1000_S1024x10x1000_0_1_2 : (⟨S1x1x1000, .i32⟩ : BufTy).Contents (Elt F) → (⟨S1024x10x1000, .i32⟩ : BufTy).Contents (Elt F)),
    unary main_v38 main_v40 (broadcastInDim S1024x10x1000 ![0, 1, 2] bcast_S1024x10x1_S1024x10x1000_0_1_2 : (⟨S1024x10x1, .i32⟩ : BufTy).Contents (Elt F) → (⟨S1024x10x1000, .i32⟩ : BufTy).Contents (Elt F)),
    binary main_v39 main_v40 main_v41 (cmpi .slt : (⟨S1024x10x1000, .i32⟩ : BufTy).Contents (Elt F) → (⟨S1024x10x1000, .i32⟩ : BufTy).Contents (Elt F) → (⟨S1024x10x1000, .i1⟩ : BufTy).Contents (Elt F)),
    unary main_v41 main_v42 ((extui 32 · natLt_1_32) : (⟨S1024x10x1000, .i1⟩ : BufTy).Contents (Elt F) → (⟨S1024x10x1000, .i32⟩ : BufTy).Contents (Elt F)),
    nullary main_c_5 (constantI S_ 32 0#32),
    binary main_v42 main_c_5 main_v43 ((fun x v => Host.reduce IntOp.addi x v reducesTo_S1024x10x1000_S1024x10_d2 h_S_) : (⟨S1024x10x1000, .i32⟩ : BufTy).Contents (Elt F) → (⟨S_, .i32⟩ : BufTy).Contents (Elt F) → (⟨S1024x10, .i32⟩ : BufTy).Contents (Elt F)),
    unary main_v43 main_v44 (sitofp .f32 : (⟨S1024x10, .i32⟩ : BufTy).Contents (Elt F) → (⟨S1024x10, .f32⟩ : BufTy).Contents (Elt F)),
    nullary main_cst_6 (constant S_ .f32 0x447A0000#32) ]

/-- @main's operations 91 … 94 (window `main_part0`). -/
abbrev ops_part0_3 : List (HloOp τ sig (Elt F)) :=
  [ unary main_cst_6 main_v45 (broadcastInDim S1024x10 ![] bcast_S_S1024x10 : (⟨S_, .f32⟩ : BufTy).Contents (Elt F) → (⟨S1024x10, .f32⟩ : BufTy).Contents (Elt F)),
    binary main_v45 main_v44 main_v46 (subf : (⟨S1024x10, .f32⟩ : BufTy).Contents (Elt F) → (⟨S1024x10, .f32⟩ : BufTy).Contents (Elt F) → (⟨S1024x10, .f32⟩ : BufTy).Contents (Elt F)),
    nullary main_cst_7 (constant S_ .f32 0x447A0000#32),
    unary main_cst_7 main_v47 (broadcastInDim S1024x10 ![] bcast_S_S1024x10 : (⟨S_, .f32⟩ : BufTy).Contents (Elt F) → (⟨S1024x10, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 95 … 128 (window `main_part1`). -/
abbrev ops_part1 : List (HloOp τ sig (Elt F)) :=
  [ binary main_v46 main_v47 main_v48 (Host.divf : (⟨S1024x10, .f32⟩ : BufTy).Contents (Elt F) → (⟨S1024x10, .f32⟩ : BufTy).Contents (Elt F) → (⟨S1024x10, .f32⟩ : BufTy).Contents (Elt F)),
    TRef.nullary (TRef.of (T := ⟨S1024x10, .i32⟩) main_call4_v0) (iotaInDim S1024x10 32 1),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S1024x10, .f32⟩) main_v48) (TRef.of (T := ⟨S1024x10, .i32⟩) main_call4_v0) (TRef.of (T := ⟨S_, .f32⟩) main_call4_cst) (TRef.of (T := ⟨S_, .i32⟩) main_call4_c) (TRef.of (T := ⟨S1024, .f32⟩) main_call4_v1_0) (fun x y u v j => (Host.argReduce reducer_argmax_f32_i32 x y u v reducesTo_S1024x10_S1024_d1 h_S_ j).1),
    TRef.quaternary (TRef.of (T := ⟨S1024x10, .f32⟩) main_v48) (TRef.of (T := ⟨S1024x10, .i32⟩) main_call4_v0) (TRef.of (T := ⟨S_, .f32⟩) main_call4_cst) (TRef.of (T := ⟨S_, .i32⟩) main_call4_c) (TRef.of (T := ⟨S1024, .i32⟩) main_v49) (fun x y u v j => (Host.argReduce reducer_argmax_f32_i32 x y u v reducesTo_S1024x10_S1024_d1 h_S_ j).2),
    TRef.unary (TRef.of (T := ⟨S1024, .i32⟩) main_v49) (TRef.of (T := ⟨S1024x1, .i32⟩) main_call5_v0) (broadcastInDim S1024x1 ![0] bcast_S1024_S1024x1_0),
    TRef.nullary (TRef.of (T := ⟨S1x10, .i32⟩) main_call5_v1) (iotaInDim S1x10 32 1),
    TRef.unary (TRef.of (T := ⟨S1024x1, .i32⟩) main_call5_v0) (TRef.of (T := ⟨S1024x10, .i32⟩) main_call5_v2) (broadcastInDim S1024x10 ![0, 1] bcast_S1024x1_S1024x10_0_1),
    TRef.unary (TRef.of (T := ⟨S1x10, .i32⟩) main_call5_v1) (TRef.of (T := ⟨S1024x10, .i32⟩) main_call5_v3) (broadcastInDim S1024x10 ![0, 1] bcast_S1x10_S1024x10_0_1),
    TRef.binary (TRef.of (T := ⟨S1024x10, .i32⟩) main_call5_v2) (TRef.of (T := ⟨S1024x10, .i32⟩) main_call5_v3) (TRef.of (T := ⟨S1024x10, .i1⟩) main_call5_v4) (cmpi .eq),
    TRef.unary (TRef.of (T := ⟨S1024x10, .i1⟩) main_call5_v4) (TRef.of (T := ⟨S1024x10, .f32⟩) main_v50) (uitofp .f32),
    unary main_v49 main_v51 (broadcastInDim S1024x1 ![0] bcast_S1024_S1024x1_0 : (⟨S1024, .i32⟩ : BufTy).Contents (Elt F) → (⟨S1024x1, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S1024x1, .i32⟩) main_call6_v0) (broadcastInDim S1024x1 ![] bcast_S_S1024x1),
    TRef.binary (TRef.of (T := ⟨S1024x1, .i32⟩) main_v51) (TRef.of (T := ⟨S1024x1, .i32⟩) main_call6_v0) (TRef.of (T := ⟨S1024x1, .i1⟩) main_call6_v1) (cmpi .slt),
    TRef.nullary (TRef.of (T := ⟨S_, .i32⟩) main_call6_c_0) (constantI S_ 32 10#32),
    TRef.unary (TRef.of (T := ⟨S_, .i32⟩) main_call6_c_0) (TRef.of (T := ⟨S1024x1, .i32⟩) main_call6_v2) (broadcastInDim S1024x1 ![] bcast_S_S1024x1),
    TRef.binary (TRef.of (T := ⟨S1024x1, .i32⟩) main_v51) (TRef.of (T := ⟨S1024x1, .i32⟩) main_call6_v2) (TRef.of (T := ⟨S1024x1, .i32⟩) main_call6_v3) addi,
    TRef.ternary (TRef.of (T := ⟨S1024x1, .i1⟩) main_call6_v1) (TRef.of (T := ⟨S1024x1, .i32⟩) main_call6_v3) (TRef.of (T := ⟨S1024x1, .i32⟩) main_v51) (TRef.of (T := ⟨S1024x1, .i32⟩) main_call6_v4) select,
    TRef.reshape (TRef.of (T := ⟨S1024x1, .i32⟩) main_call6_v4) (TRef.of (T := ⟨S1024x1x1, .i32⟩) main_call6_v5) (rfl : (.i32 : EltTy) = .i32) shapeCasts_S1024x1_S1024x1x1,
    TRef.nullary (TRef.of (T := ⟨S1, .i32⟩) main_call6_c_1) (constantI S1 32 9#32),
    TRef.nullary (TRef.of (T := ⟨S_, .i32⟩) main_call6_c_2) (constantI S_ 32 0#32),
    TRef.unary (TRef.of (T := ⟨S_, .i32⟩) main_call6_c_2) (TRef.of (T := ⟨S1024x1x1, .i32⟩) main_call6_v6) (broadcastInDim S1024x1x1 ![] bcast_S_S1024x1x1),
    TRef.binary (TRef.of (T := ⟨S1024x1x1, .i32⟩) main_call6_v5) (TRef.of (T := ⟨S1024x1x1, .i32⟩) main_call6_v6) (TRef.of (T := ⟨S1024x1x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S1024x1x1, .i32⟩) main_call6_v9) (broadcastInDim S1024x1x1 ![0, 1, 2] bcast_S1x1x1_S1024x1x1_0_1_2),
    TRef.binary (TRef.of (T := ⟨S1024x1x1, .i32⟩) main_call6_v5) (TRef.of (T := ⟨S1024x1x1, .i32⟩) main_call6_v9) (TRef.of (T := ⟨S1024x1x1, .i1⟩) main_call6_v10) (cmpi .sle),
    TRef.binary (TRef.of (T := ⟨S1024x1x1, .i1⟩) main_call6_v7) (TRef.of (T := ⟨S1024x1x1, .i1⟩) main_call6_v10) (TRef.of (T := ⟨S1024x1x1, .i1⟩) main_call6_v11) andi,
    TRef.nullary (TRef.of (T := ⟨S_, .i1⟩) main_call6_c_3) (constantI S_ 1 1#1),
    TRef.binary (TRef.of (T := ⟨S1024x1x1, .i1⟩) main_call6_v11) (TRef.of (T := ⟨S_, .i1⟩) main_call6_c_3) (TRef.of (T := ⟨S1024x1, .i1⟩) main_call6_v12) (fun x v => Host.reduce IntOp.andi x v reducesTo_S1024x1x1_S1024x1_d2 h_S_),
    TRef.binary (TRef.of (T := ⟨S1024x10, .f32⟩) main_v48) (TRef.of (T := ⟨S1024x1x1, .i32⟩) main_call6_v5) (TRef.of (T := ⟨S1024x1, .f32⟩) main_call6_v13) (fun x i => Host.gather gather_S1024x10_S1024x1x1_S1024x1_n_1_0_0_1_2_11 x i),
    TRef.nullary (TRef.of (T := ⟨S_, .f32⟩) main_call6_cst) (constant S_ .f32 0x7FC00000#32),
    TRef.unary (TRef.of (T := ⟨S_, .f32⟩) main_call6_cst) (TRef.of (T := ⟨S1024x1, .f32⟩) main_call6_v14) (broadcastInDim S1024x1 ![] bcast_S_S1024x1),
    TRef.ternary (TRef.of (T := ⟨S1024x1, .i1⟩) main_call6_v12) (TRef.of (T := ⟨S1024x1, .f32⟩) main_call6_v13) (TRef.of (T := ⟨S1024x1, .f32⟩) main_call6_v14) (TRef.of (T := ⟨S1024x1, .f32⟩) main_v52) select,
    unary main_v52 main_v53 (broadcastInDim S1024x10 ![0, 1] bcast_S1024x1_S1024x10_0_1 : (⟨S1024x1, .f32⟩ : BufTy).Contents (Elt F) → (⟨S1024x10, .f32⟩ : BufTy).Contents (Elt F)),
    binary main_v50 main_v53 main_v54 (mulf : (⟨S1024x10, .f32⟩ : BufTy).Contents (Elt F) → (⟨S1024x10, .f32⟩ : BufTy).Contents (Elt F) → (⟨S1024x10, .f32⟩ : BufTy).Contents (Elt F)) ]

/-- @main's operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., unary_bufs_sub .., unary_bufs_sub .., unary_bufs_sub .., binary_bufs_sub .., unary_bufs_sub .., unary_bufs_sub .., binary_bufs_sub .., binary_bufs_sub .., nullary_bufs_sub .., binary_bufs_sub .., unary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨binary_bufs_sub .., nullary_bufs_sub .., binary_bufs_sub .., binary_bufs_sub .., nullary_bufs_sub .., unary_bufs_sub .., ternary_bufs_sub .., unary_bufs_sub .., nullary_bufs_sub .., unary_bufs_sub .., unary_bufs_sub .., binary_bufs_sub .., unary_bufs_sub .., nullary_bufs_sub .., binary_bufs_sub .., nullary_bufs_sub .., binary_bufs_sub .., unary_bufs_sub .., unary_bufs_sub .., binary_bufs_sub .., unary_bufs_sub .., unary_bufs_sub .., unary_bufs_sub .., unary_bufs_sub .., binary_bufs_sub .., unary_bufs_sub .., nullary_bufs_sub .., binary_bufs_sub .., unary_bufs_sub .., nullary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨unary_bufs_sub .., binary_bufs_sub .., nullary_bufs_sub .., unary_bufs_sub ..⟩
set_option maxRecDepth 8192 in
theorem ops_part0_3_fresh : (ops_part0_3 : List (HloOp τ sig (Elt F))).Forall fun op => op.fresh = ∅ :=
  ⟨rfl, rfl, rfl, rfl⟩
set_option maxRecDepth 8192 in
theorem ops_part1_sub : (ops_part1 : List (HloOp τ sig (Elt F))).Forall fun op => op.bufs ⊆ tcRefs τ sig :=
  ⟨binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., binary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_fresh op h]

set_option maxRecDepth 8192 in
/-- `main_v2`'s composed term of the arguments (named: it is used 2 times). -/
def res_main_v2 (V0 : Valuation τ sig (Elt F)) : (Proc.devRef .tc main_v2 : DevRef τ sig).ty.Contents (Elt F) :=
  Host.divf (V0 (Proc.devRef .tc main_arg1)) (broadcastInDim S100000x128 ![0, 1] bcast_S100000x1_S100000x128_0_1 (Host.sqrt (broadcastInDim S100000x1 ![0] bcast_S100000_S100000x1_0 (Host.reduceAdd (mulf (V0 (Proc.devRef .tc main_arg1)) (V0 (Proc.devRef .tc main_arg1))) (constant S_ .f32 0x00000000#32) reducesTo_S100000x128_S100000_d1 h_S_))))

set_option maxRecDepth 8192 in
/-- `main_v5`'s composed term of the arguments (named: it is used 2 times). -/
def res_main_v5 (V0 : Valuation τ sig (Elt F)) : (Proc.devRef .tc main_v5 : DevRef τ sig).ty.Contents (Elt F) :=
  Host.divf (Host.reduceAdd (res_main_v2 V0) (constant S_ .f32 0x00000000#32) reducesTo_S100000x128_S128_d0 h_S_) (broadcastInDim S128 ![] bcast_S_S128 (constant S_ .f32 0x47C35000#32))

set_option maxRecDepth 8192 in
/-- `main_v8`'s composed term of the arguments (named: it is used 3 times). -/
def res_main_v8 (V0 : Valuation τ sig (Elt F)) : (Proc.devRef .tc main_v8 : DevRef τ sig).ty.Contents (Elt F) :=
  subf (res_main_v2 V0) (broadcastInDim S100000x128 ![0, 1] bcast_S1x128_S100000x128_0_1 (broadcastInDim S1x128 ![1] bcast_S128_S1x128_1 (res_main_v5 V0)))

set_option maxRecDepth 8192 in
/-- `main_v14`'s composed term of the arguments (named: it is used 3 times). -/
def res_main_v14 (V0 : Valuation τ sig (Elt F)) : (Proc.devRef .tc main_v14 : DevRef τ sig).ty.Contents (Elt F) :=
  subf (Host.divf (V0 (Proc.devRef .tc main_arg0)) (broadcastInDim S1024x128 ![0, 1] bcast_S1024x1_S1024x128_0_1 (Host.sqrt (broadcastInDim S1024x1 ![0] bcast_S1024_S1024x1_0 (Host.reduceAdd (mulf (V0 (Proc.devRef .tc main_arg0)) (V0 (Proc.devRef .tc main_arg0))) (constant S_ .f32 0x00000000#32) reducesTo_S1024x128_S1024_d1 h_S_))))) (broadcastInDim S1024x128 ![0, 1] bcast_S1x128_S1024x128_0_1 (broadcastInDim S1x128 ![1] bcast_S128_S1x128_1 (res_main_v5 V0)))

set_option maxRecDepth 8192 in
/-- `main_v29`'s composed term of the arguments (named: it is used 2 times). -/
def res_main_v29 (V0 : Valuation τ sig (Elt F)) : (Proc.devRef .tc main_v29 : DevRef τ sig).ty.Contents (Elt F) :=
  Host.negf (addf (subf (broadcastInDim S1024x100000 ![0, 1] bcast_S1024x1_S1024x100000_0_1 (broadcastInDim S1024x1 ![0] bcast_S1024_S1024x1_0 (Host.reduceAdd (mulf (res_main_v14 V0) (res_main_v14 V0)) (constant S_ .f32 0x00000000#32) reducesTo_S1024x128_S1024_d1 h_S_))) (mulf (broadcastInDim S1024x100000 ![] bcast_S_S1024x100000 (constant S_ .f32 0x40000000#32)) (Host.dotGeneral dot_S1024x128_S128x100000_S1024x100000_1_0_0_1_n_n none (res_main_v14 V0) (transpose S128x100000 [1, 0] (res_main_v8 V0) transposes_S100000x128_S128x100000_1_0)))) (broadcastInDim S1024x100000 ![0, 1] bcast_S1x100000_S1024x100000_0_1 (broadcastInDim S1x100000 ![1] bcast_S100000_S1x100000_1 (Host.reduceAdd (mulf (res_main_v8 V0) (res_main_v8 V0)) (constant S_ .f32 0x00000000#32) reducesTo_S100000x128_S100000_d1 h_S_))))

set_option maxRecDepth 8192 in
/-- `main_indices`'s composed term of the arguments (named: it is used 3 times). -/
def res_main_indices (V0 : Valuation τ sig (Elt F)) : (Proc.devRef .tc main_indices : DevRef τ sig).ty.Contents (Elt F) :=
  (Host.topK S1024x75 1 (FloatOps.cmpfTotal .gt) (res_main_v29 V0) sliceFits_S1024x100000_S1024x75).2

set_option maxRecDepth 8192 in
/-- `main_call2_v5`'s composed term of the arguments (named: it is used 3 times). -/
def res_main_call2_v5 (V0 : Valuation τ sig (Elt F)) : (Proc.devRef .tc main_call2_v5 : DevRef τ sig).ty.Contents (Elt F) :=
  broadcastInDim S1024x75x1 ![0, 1] bcast_S1024x75_S1024x75x1_0_1 (select (cmpi .slt (res_main_indices V0) (broadcastInDim S1024x75 ![] bcast_S_S1024x75 (constantI S_ 32 0#32))) (addi (res_main_indices V0) (broadcastInDim S1024x75 ![] bcast_S_S1024x75 (constantI S_ 32 100000#32))) (res_main_indices V0))

set_option maxRecDepth 8192 in
/-- `main_v32`'s composed term of the arguments (named: it is used 3 times). -/
def res_main_v32 (V0 : Valuation τ sig (Elt F)) : (Proc.devRef .tc main_v32 : DevRef τ sig).ty.Contents (Elt F) :=
  Host.reduce IntOp.addi (extui 32 (cmpi .eq (broadcastInDim S1024x75x10 ![0, 1, 2] bcast_S1024x75x1_S1024x75x10_0_1_2 (broadcastInDim S1024x75x1 ![0, 1] bcast_S1024x75_S1024x75x1_0_1 (select (Host.reduce IntOp.andi (andi (cmpi .sge (res_main_call2_v5 V0) (broadcastInDim S1024x75x1 ![] bcast_S_S1024x75x1 (constantI S_ 32 0#32))) (cmpi .sle (res_main_call2_v5 V0) (broadcastInDim S1024x75x1 ![0, 1, 2] bcast_S1x1x1_S1024x75x1_0_1_2 (broadcastInDim S1x1x1 ![2] bcast_S1_S1x1x1_2 (constantI S1 32 99999#32))))) (constantI S_ 1 1#1) reducesTo_S1024x75x1_S1024x75_d2 h_S_) (Host.gather gather_S100000_S1024x75x1_S1024x75_n_0_n_n_0_2_1 (V0 (Proc.devRef .tc main_arg2)) (res_main_call2_v5 V0)) (broadcastInDim S1024x75 ![] bcast_S_S1024x75 (constantI S_ 32 2147483648#32))))) (broadcastInDim S1024x75x10 ![0, 1, 2] bcast_S1x1x10_S1024x75x10_0_1_2 (iotaInDim S1x1x10 32 2))) natLt_1_32) (constantI S_ 32 0#32) reducesTo_S1024x75x10_S1024x10_d1 h_S_

set_option maxRecDepth 8192 in
/-- `main_v48`'s composed term of the arguments: the p-values. -/
def res_main_v48 (V0 : Valuation τ sig (Elt F)) : (Proc.devRef .tc main_v48 : DevRef τ sig).ty.Contents (Elt F) :=
  Host.divf (subf (broadcastInDim S1024x10 ![] bcast_S_S1024x10 (constant S_ .f32 0x447A0000#32)) (sitofp .f32 (Host.reduce IntOp.addi (extui 32 (cmpi .slt (broadcastInDim S1024x10x1000 ![0, 1, 2] bcast_S1x1x1000_S1024x10x1000_0_1_2 (broadcastInDim S1x1x1000 ![2] bcast_S1000_S1x1x1000_2 (V0 (Proc.devRef .tc main_arg3)))) (broadcastInDim S1024x10x1000 ![0, 1, 2] bcast_S1024x10x1_S1024x10x1000_0_1_2 (broadcastInDim S1024x10x1 ![0, 1] bcast_S1024x10_S1024x10x1_0_1 (subi (broadcastInDim S1024x10 ![0, 1] bcast_S1024x1_S1024x10_0_1 (broadcastInDim S1024x1 ![0] bcast_S1024_S1024x1_0 (Host.reduce IntOp.addi (res_main_v32 V0) (constantI S_ 32 0#32) reducesTo_S1024x10_S1024_d1 h_S_))) (res_main_v32 V0))))) natLt_1_32) (constantI S_ 32 0#32) reducesTo_S1024x10x1000_S1024x10_d2 h_S_))) (broadcastInDim S1024x10 ![] bcast_S_S1024x10 (constant S_ .f32 0x447A0000#32))

set_option maxRecDepth 8192 in
/-- `main_v49`'s composed term of the arguments: each query's first largest p-value. -/
def res_main_v49 (V0 : Valuation τ sig (Elt F)) : (Proc.devRef .tc main_v49 : DevRef τ sig).ty.Contents (Elt F) :=
  fun j => (Host.argReduce reducer_argmax_f32_i32 (res_main_v48 V0) (iotaInDim S1024x10 32 1) (constant S_ .f32 0xFF800000#32) (constantI S_ 32 0#32) reducesTo_S1024x10_S1024_d1 h_S_ j).2

set_option maxRecDepth 8192 in
/-- `main_v51`'s composed term of the arguments (named: it is used 3 times). -/
def res_main_v51 (V0 : Valuation τ sig (Elt F)) : (Proc.devRef .tc main_v51 : DevRef τ sig).ty.Contents (Elt F) :=
  broadcastInDim S1024x1 ![0] bcast_S1024_S1024x1_0 (res_main_v49 V0)

set_option maxRecDepth 8192 in
/-- `main_call6_v5`'s composed term of the arguments (named: it is used 3 times). -/
def res_main_call6_v5 (V0 : Valuation τ sig (Elt F)) : (Proc.devRef .tc main_call6_v5 : DevRef τ sig).ty.Contents (Elt F) :=
  shapeCast _ (select (cmpi .slt (res_main_v51 V0) (broadcastInDim S1024x1 ![] bcast_S_S1024x1 (constantI S_ 32 0#32))) (addi (res_main_v51 V0) (broadcastInDim S1024x1 ![] bcast_S_S1024x1 (constantI S_ 32 10#32))) (res_main_v51 V0)) shapeCasts_S1024x1_S1024x1x1

set_option maxRecDepth 8192 in
/-- The result's composed term of the arguments. -/
def res_main_v54 (V0 : Valuation τ sig (Elt F)) : (Proc.devRef .tc main_v54 : DevRef τ sig).ty.Contents (Elt F) :=
  mulf (uitofp .f32 (cmpi .eq (broadcastInDim S1024x10 ![0, 1] bcast_S1024x1_S1024x10_0_1 (broadcastInDim S1024x1 ![0] bcast_S1024_S1024x1_0 (res_main_v49 V0))) (broadcastInDim S1024x10 ![0, 1] bcast_S1x10_S1024x10_0_1 (iotaInDim S1x10 32 1)))) (broadcastInDim S1024x10 ![0, 1] bcast_S1024x1_S1024x10_0_1 (select (Host.reduce IntOp.andi (andi (cmpi .sge (res_main_call6_v5 V0) (broadcastInDim S1024x1x1 ![] bcast_S_S1024x1x1 (constantI S_ 32 0#32))) (cmpi .sle (res_main_call6_v5 V0) (broadcastInDim S1024x1x1 ![0, 1, 2] bcast_S1x1x1_S1024x1x1_0_1_2 (broadcastInDim S1x1x1 ![2] bcast_S1_S1x1x1_2 (constantI S1 32 9#32))))) (constantI S_ 1 1#1) reducesTo_S1024x1x1_S1024x1_d2 h_S_) (Host.gather gather_S1024x10_S1024x1x1_S1024x1_n_1_0_0_1_2_11 (res_main_v48 V0) (res_main_call6_v5 V0)) (broadcastInDim S1024x1 ![] bcast_S_S1024x1 (constant S_ .f32 0x7FC00000#32))))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_call0_v0, main_call0_cst, main_call0_v1, main_call0_v2, main_v0, main_v1, main_v2, main_cst, main_v3, main_cst_0, main_v4, main_v5, main_v6, main_v7, main_v8, main_call1_v0, main_call1_cst, main_call1_v1, main_call1_v2, main_v9, main_v10, main_v11, main_v12, main_v13, main_v14, main_v15, main_cst_1, main_v16, main_v17, main_v18]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
set_option maxRecDepth 8192 in
set_option maxHeartbeats 2000000 in
theorem val0_1_main_v8 (V0 : Valuation τ sig (Elt F)) : val0_1 V0 (no_index (Proc.devRef .tc main_v8)) = res_main_v8 V0 := by
  unfold val0_1
  simp only [ops_part0_0, TRef.binary, TRef.nullary, TRef.unary, TRef.toBuf, TRef.ofBuf, cast_eq]
  after_results_simp
  simp only [val0_main_arg1] <;> rfl
set_option maxRecDepth 8192 in
set_option maxHeartbeats 2000000 in
theorem val0_1_main_v14 (V0 : Valuation τ sig (Elt F)) : val0_1 V0 (no_index (Proc.devRef .tc main_v14)) = res_main_v14 V0 := by
  unfold val0_1
  simp only [ops_part0_0, TRef.binary, TRef.nullary, TRef.unary, TRef.toBuf, TRef.ofBuf, cast_eq]
  after_results_simp
  simp only [val0_main_arg1, val0_main_arg0] <;> rfl
set_option maxRecDepth 8192 in
set_option maxHeartbeats 2000000 in
theorem val0_1_main_v17 (V0 : Valuation τ sig (Elt F)) : val0_1 V0 (no_index (Proc.devRef .tc main_v17)) = broadcastInDim S1024x1 ![0] bcast_S1024_S1024x1_0 (Host.reduceAdd (mulf (res_main_v14 V0) (res_main_v14 V0)) (constant S_ .f32 0x00000000#32) reducesTo_S1024x128_S1024_d1 h_S_) := by
  unfold val0_1
  simp only [ops_part0_0, TRef.binary, TRef.nullary, TRef.unary, TRef.toBuf, TRef.ofBuf, cast_eq]
  after_results_simp
  simp only [val0_main_arg1, val0_main_arg0] <;> rfl
set_option maxRecDepth 8192 in
set_option maxHeartbeats 2000000 in
theorem val0_1_main_v18 (V0 : Valuation τ sig (Elt F)) : val0_1 V0 (no_index (Proc.devRef .tc main_v18)) = transpose S128x100000 [1, 0] (res_main_v8 V0) transposes_S100000x128_S128x100000_1_0 := by
  unfold val0_1
  simp only [ops_part0_0, TRef.binary, TRef.nullary, TRef.unary, TRef.toBuf, TRef.ofBuf, cast_eq]
  after_results_simp
  simp only [val0_main_arg1] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v19, main_cst_2, main_v20, main_v21, main_v22, main_v23, main_v24, main_cst_3, main_v25, main_v26, main_v27, main_v28, main_v29, main_values, main_indices, main_call2_c, main_call2_v0, main_call2_v1, main_call2_c_0, main_call2_v2, main_call2_v3, main_call2_v4, main_call2_v5, main_call2_c_1, main_call2_c_2, main_call2_v6, main_call2_v7, main_call2_v8, main_call2_v9, main_call2_v10]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
set_option maxRecDepth 8192 in
set_option maxHeartbeats 2000000 in
theorem val0_2_main_call2_v5 (V0 : Valuation τ sig (Elt F)) : val0_2 V0 (no_index (Proc.devRef .tc main_call2_v5)) = res_main_call2_v5 V0 := by
  unfold val0_2
  simp only [ops_part0_1, TRef.binary, TRef.nullary, TRef.ternary, TRef.unary, TRef.toBuf, TRef.ofBuf, cast_eq]
  after_results_simp
  simp only [val0_1_main_v8, val0_1_main_v18, val0_1_main_v14, val0_1_main_v17] <;> rfl
set_option maxRecDepth 8192 in
set_option maxHeartbeats 2000000 in
theorem val0_2_main_call2_v7 (V0 : Valuation τ sig (Elt F)) : val0_2 V0 (no_index (Proc.devRef .tc main_call2_v7)) = cmpi .sge (res_main_call2_v5 V0) (broadcastInDim S1024x75x1 ![] bcast_S_S1024x75x1 (constantI S_ 32 0#32)) := by
  unfold val0_2
  simp only [ops_part0_1, TRef.binary, TRef.nullary, TRef.ternary, TRef.unary, TRef.toBuf, TRef.ofBuf, cast_eq]
  after_results_simp
  simp only [val0_1_main_v8, val0_1_main_v18, val0_1_main_v14, val0_1_main_v17] <;> rfl
set_option maxRecDepth 8192 in
set_option maxHeartbeats 2000000 in
theorem val0_2_main_call2_v10 (V0 : Valuation τ sig (Elt F)) : val0_2 V0 (no_index (Proc.devRef .tc main_call2_v10)) = cmpi .sle (res_main_call2_v5 V0) (broadcastInDim S1024x75x1 ![0, 1, 2] bcast_S1x1x1_S1024x75x1_0_1_2 (broadcastInDim S1x1x1 ![2] bcast_S1_S1x1x1_2 (constantI S1 32 99999#32))) := by
  unfold val0_2
  simp only [ops_part0_1, TRef.binary, TRef.nullary, TRef.ternary, TRef.unary, TRef.toBuf, TRef.ofBuf, cast_eq]
  after_results_simp
  simp only [val0_1_main_v8, val0_1_main_v18, val0_1_main_v14, val0_1_main_v17] <;> rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_call2_v11, main_call2_c_3, main_call2_v12, main_call2_v13, main_call2_c_4, main_call2_v14, main_v30, main_call3_v0, main_call3_v1, main_call3_v2, main_call3_v3, main_call3_v4, main_v31, main_c, main_v32, main_c_4, main_v33, main_v34, main_v35, main_v36, main_v37, main_v38, main_v39, main_v40, main_v41, main_v42, main_c_5, main_v43, main_v44, main_cst_6]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
theorem val0_3_main_arg3 (V0 : Valuation τ sig (Elt F)) : val0_3 V0 (no_index (Proc.devRef .tc main_arg3)) = V0 (Proc.devRef .tc main_arg3) :=
  (val0_3_keep V0 main_arg3 (by decide)).trans (val0_2_main_arg3 V0)
set_option maxRecDepth 8192 in
set_option maxHeartbeats 2000000 in
theorem val0_3_main_v32 (V0 : Valuation τ sig (Elt F)) : val0_3 V0 (no_index (Proc.devRef .tc main_v32)) = res_main_v32 V0 := by
  unfold val0_3
  simp only [ops_part0_2, TRef.binary, TRef.nullary, TRef.ternary, TRef.unary, TRef.toBuf, TRef.ofBuf, cast_eq]
  after_results_simp
  simp only [val0_2_main_call2_v5, val0_2_main_arg2, val0_2_main_call2_v10, val0_2_main_call2_v7] <;> rfl
set_option maxRecDepth 8192 in
set_option maxHeartbeats 2000000 in
theorem val0_3_main_v44 (V0 : Valuation τ sig (Elt F)) : val0_3 V0 (no_index (Proc.devRef .tc main_v44)) = sitofp .f32 (Host.reduce IntOp.addi (extui 32 (cmpi .slt (broadcastInDim S1024x10x1000 ![0, 1, 2] bcast_S1x1x1000_S1024x10x1000_0_1_2 (broadcastInDim S1x1x1000 ![2] bcast_S1000_S1x1x1000_2 (V0 (Proc.devRef .tc main_arg3)))) (broadcastInDim S1024x10x1000 ![0, 1, 2] bcast_S1024x10x1_S1024x10x1000_0_1_2 (broadcastInDim S1024x10x1 ![0, 1] bcast_S1024x10_S1024x10x1_0_1 (subi (broadcastInDim S1024x10 ![0, 1] bcast_S1024x1_S1024x10_0_1 (broadcastInDim S1024x1 ![0] bcast_S1024_S1024x1_0 (Host.reduce IntOp.addi (res_main_v32 V0) (constantI S_ 32 0#32) reducesTo_S1024x10_S1024_d1 h_S_))) (res_main_v32 V0))))) natLt_1_32) (constantI S_ 32 0#32) reducesTo_S1024x10x1000_S1024x10_d2 h_S_) := by
  unfold val0_3
  simp only [ops_part0_2, TRef.binary, TRef.nullary, TRef.ternary, TRef.unary, TRef.toBuf, TRef.ofBuf, cast_eq]
  after_results_simp
  simp only [val0_2_main_call2_v5, val0_2_main_arg2, val0_2_main_call2_v10, val0_2_main_call2_v7, val0_2_main_arg3] <;> rfl
set_option maxRecDepth 8192 in
set_option maxHeartbeats 2000000 in
theorem val0_3_main_cst_6 (V0 : Valuation τ sig (Elt F)) : val0_3 V0 (no_index (Proc.devRef .tc main_cst_6)) = constant S_ .f32 0x447A0000#32 := by
  unfold val0_3
  simp only [ops_part0_2, TRef.binary, TRef.nullary, TRef.ternary, TRef.unary, TRef.toBuf, TRef.ofBuf, cast_eq]
  after_results_simp
  all_goals rfl

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_v45, main_v46, main_cst_7, main_v47]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
theorem val1_main_arg0 (V0 : Valuation τ sig (Elt F)) : val1 V0 (no_index (Proc.devRef .tc main_arg0)) = V0 (Proc.devRef .tc main_arg0) :=
  (val1_keep V0 main_arg0 (by decide)).trans (val0_3_main_arg0 V0)
theorem val1_main_arg1 (V0 : Valuation τ sig (Elt F)) : val1 V0 (no_index (Proc.devRef .tc main_arg1)) = V0 (Proc.devRef .tc main_arg1) :=
  (val1_keep V0 main_arg1 (by decide)).trans (val0_3_main_arg1 V0)
theorem val1_main_arg2 (V0 : Valuation τ sig (Elt F)) : val1 V0 (no_index (Proc.devRef .tc main_arg2)) = V0 (Proc.devRef .tc main_arg2) :=
  (val1_keep V0 main_arg2 (by decide)).trans (val0_3_main_arg2 V0)
theorem val1_main_arg3 (V0 : Valuation τ sig (Elt F)) : val1 V0 (no_index (Proc.devRef .tc main_arg3)) = V0 (Proc.devRef .tc main_arg3) :=
  (val1_keep V0 main_arg3 (by decide)).trans (val0_3_main_arg3 V0)
theorem val1_main_v32 (V0 : Valuation τ sig (Elt F)) : val1 V0 (no_index (Proc.devRef .tc main_v32)) = res_main_v32 V0 :=
  (val1_keep V0 main_v32 (by decide)).trans (val0_3_main_v32 V0)
set_option maxRecDepth 8192 in
theorem val1_main_v46 (V0 : Valuation τ sig (Elt F)) : val1 V0 (no_index (Proc.devRef .tc main_v46)) = subf (broadcastInDim S1024x10 ![] bcast_S_S1024x10 (constant S_ .f32 0x447A0000#32)) (sitofp .f32 (Host.reduce IntOp.addi (extui 32 (cmpi .slt (broadcastInDim S1024x10x1000 ![0, 1, 2] bcast_S1x1x1000_S1024x10x1000_0_1_2 (broadcastInDim S1x1x1000 ![2] bcast_S1000_S1x1x1000_2 (V0 (Proc.devRef .tc main_arg3)))) (broadcastInDim S1024x10x1000 ![0, 1, 2] bcast_S1024x10x1_S1024x10x1000_0_1_2 (broadcastInDim S1024x10x1 ![0, 1] bcast_S1024x10_S1024x10x1_0_1 (subi (broadcastInDim S1024x10 ![0, 1] bcast_S1024x1_S1024x10_0_1 (broadcastInDim S1024x1 ![0] bcast_S1024_S1024x1_0 (Host.reduce IntOp.addi (res_main_v32 V0) (constantI S_ 32 0#32) reducesTo_S1024x10_S1024_d1 h_S_))) (res_main_v32 V0))))) natLt_1_32) (constantI S_ 32 0#32) reducesTo_S1024x10x1000_S1024x10_d2 h_S_)) := by
  unfold val1
  simp only [ops_part0_3]
  after_results_simp
  simp only [val0_3_main_v44, val0_3_main_cst_6] <;> rfl
set_option maxRecDepth 8192 in
theorem val1_main_v47 (V0 : Valuation τ sig (Elt F)) : val1 V0 (no_index (Proc.devRef .tc main_v47)) = broadcastInDim S1024x10 ![] bcast_S_S1024x10 (constant S_ .f32 0x447A0000#32) := by
  unfold val1
  simp only [ops_part0_3]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v48, main_call4_v0, main_call4_cst, main_call4_c, main_call4_v1_0, main_v49, main_call5_v0, main_call5_v1, main_call5_v2, main_call5_v3, main_call5_v4, main_v50, main_v51, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v52, main_v53, main_v54]
set_option maxRecDepth 8192 in
theorem ops_part1_writes : (ops_part1 : List (HloOp τ sig (Elt F))).Forall fun op => op.writes ⊆ (ops_part1_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
set_option maxRecDepth 8192 in
set_option maxHeartbeats 2000000 in
theorem val2_main_v54 (V0 : Valuation τ sig (Elt F)) : val2 V0 (no_index (Proc.devRef .tc main_v54)) = res_main_v54 V0 := by
  unfold val2
  simp only [ops_part1, TRef.binary, TRef.nullary, TRef.quaternary, TRef.reshape, TRef.ternary, TRef.unary, TRef.toBuf, TRef.ofBuf, cast_eq]
  after_results_simp
  simp only [val1_main_v32, val1_main_v47, val1_main_v46] <;> rfl

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54) = res_main_v54 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v54).trans ((congrFun (after_ops (launchContents m c)) (Proc.devRef .tc main_v54)).trans (val2_main_v54 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c))),
      (h c main_arg3).trans ((congrFun (after_ops (launchContents m c)) (Proc.devRef .tc main_arg3)).trans (val2_main_arg3 (launchContents m c)))⟩)
    (run_seq scopedRefs_eq scopedSems_eq defs main (fun _ => ops) main_eq (fun _ => ops_sub) m ρ fun _ => ops_fresh)

end Cert.ReferenceIdeal.Pf

end
-- ==== Proof.Val.PreFacts.lean ====
/-
The side conditions of the precondition's operations.
-/
module

public import proofs.«01_k».proof.Pre_separated
public import Idealize.ShloMosaic.Lib.Affine
public import Idealize.ShloMosaic.Lib.Decide

@[expose] public section
open Idealize.ShloMosaic

namespace Cert.Pre_separated

/-- Every side condition is a closed arithmetic fact. -/
theorem facts : Facts where
  reducesTo_S100000x128_S100000_d1 := by decide
  h_S_ := by decide
  bcast_S100000_S100000x1_0 := by decide
  bcast_S100000x1_S100000x128_0_1 := by decide
  reducesTo_S100000x128_S128_d0 := by decide
  bcast_S_S128 := by decide
  bcast_S128_S1x128_1 := by decide
  bcast_S1x128_S100000x128_0_1 := by decide
  reducesTo_S1024x128_S1024_d1 := by decide
  bcast_S1024_S1024x1_0 := by decide
  bcast_S1024x1_S1024x128_0_1 := by decide
  bcast_S1x128_S1024x128_0_1 := by decide
  transposes_S100000x128_S128x100000_1_0 := by decide
  bcast_S_S1024x100000 := by decide
  bcast_S1024x1_S1024x100000_0_1 := by decide
  bcast_S100000_S1x100000_1 := by decide
  bcast_S1x100000_S1024x100000_0_1 := by decide
  sliceFits_S1024x100000_S1024x75 := by decide
  slices_S1024x75_S1024x1_0_74 := by decide
  bcast_S_S1024x1 := by decide
  natLt_1_32 := by decide
  reducesTo_S1024x100000_S1024_d1 := by decide
  dot_S1024x128_S128x100000_S1024x100000_1_0_0_1_n_n_wf := by decide

end Cert.Pre_separated

end
-- ==== Proof.Val.Spec.lean ====
/-
What the two programs compute, in plain functions of row and column numbers over the extended reals.
-/
module

public import Idealize.ShloMosaic.Lib.Pointwise

@[expose] public noncomputable section
open Idealize.ShloMosaic

namespace Cert.Val

variable {n p : Nat}

/-- The Euclidean length of row `i`. -/
def len (x : Fin n → Fin 128 → EReal) (i : Fin n) : EReal := Ideal.sqrt (∑ k, x i k * x i k)

/-- Row `i` divided by its length. -/
def unit (x : Fin n → Fin 128 → EReal) (i : Fin n) (k : Fin 128) : EReal := Ideal.div (x i k) (len x i)

/-- The mean of the normalized training rows. -/
def center (t : Fin p → Fin 128 → EReal) (k : Fin 128) : EReal :=
  Ideal.div (∑ j, unit t j k) (Ideal.ofBits .f32 0x47C35000#32)

/-- A normalized row less the center. -/
def resid (c : Fin 128 → EReal) (x : Fin n → Fin 128 → EReal) (i : Fin n) (k : Fin 128) : EReal := unit x i k - c k

/-- The squared distance of query `i` and training row `j`, by the expansion both programs use. -/
def d2 (q : Fin n → Fin 128 → EReal) (t : Fin p → Fin 128 → EReal) (i : Fin n) (j : Fin p) : EReal :=
  (∑ k, resid (center t) q i k * resid (center t) q i k)
      - Ideal.ofBits .f32 0x40000000#32 * (∑ k, resid (center t) q i k * resid (center t) t j k)
    + ∑ k, resid (center t) t j k * resid (center t) t j k

/-- A rank-two array read by row and column. -/
def rows {a b : Nat} {α : Type} (x : (⟨2, ![a, b]⟩ : Shape).Idx → α) (i : Fin a) (k : Fin b) : α := x (ix2 i k)

end Cert.Val

end
-- ==== Proof.Val.Lit.lean ====
/-
The programs' literals, read as the rational numbers their words are.
-/
module

public import Idealize.ShloMosaic.Lib.Pointwise

@[expose] public noncomputable section
open Idealize.ShloMosaic

namespace Cert.Val

theorem lit_top : Ideal.ofBits .f32 0x7F800000#32 = ⊤ := by simp [Ideal.ofBits, Ideal.ieee]
theorem lit_bot : Ideal.ofBits .f32 0xFF800000#32 = ⊥ := by simp [Ideal.ofBits, Ideal.ieee]
theorem lit_75 : Ideal.ofBits .f32 0x42960000#32 = ((75 : ℝ) : EReal) := by
  simp [Ideal.ofBits, Ideal.ieee, -EReal.coe_mul, -EReal.coe_neg]; norm_num
theorem lit_76 : Ideal.ofBits .f32 0x42980000#32 = ((76 : ℝ) : EReal) := by
  simp [Ideal.ofBits, Ideal.ieee, -EReal.coe_mul, -EReal.coe_neg]; norm_num
theorem lit_neg_big : Ideal.ofBits .f32 0xCE6E6B28#32 = ((-1000000000 : ℝ) : EReal) := by
  simp [Ideal.ofBits, Ideal.ieee, -EReal.coe_mul, -EReal.coe_neg]; norm_num
theorem lit_big : Ideal.ofBits .f32 0x4E6E6B28#32 = ((1000000000 : ℝ) : EReal) := by
  simp [Ideal.ofBits, Ideal.ieee, -EReal.coe_mul, -EReal.coe_neg]; norm_num
theorem lit_half : Ideal.ofBits .f32 0x3F000000#32 = ((1 / 2 : ℝ) : EReal) := by
  simp [Ideal.ofBits, Ideal.ieee, -EReal.coe_mul, -EReal.coe_neg]; norm_num
theorem lit_17 : Ideal.ofBits .f32 0x41880000#32 = ((17 : ℝ) : EReal) := by
  simp [Ideal.ofBits, Ideal.ieee, -EReal.coe_mul, -EReal.coe_neg]; norm_num
theorem lit_1000 : Ideal.ofBits .f32 0x447A0000#32 = ((1000 : ℝ) : EReal) := by
  simp [Ideal.ofBits, Ideal.ieee, -EReal.coe_mul, -EReal.coe_neg]; norm_num
theorem lit_256 : Ideal.ofBits .f32 0x43800000#32 = ((256 : ℝ) : EReal) := by
  simp [Ideal.ofBits, Ideal.ieee, -EReal.coe_mul, -EReal.coe_neg]; norm_num
theorem lit_65536 : Ideal.ofBits .f32 0x47800000#32 = ((65536 : ℝ) : EReal) := by
  simp [Ideal.ofBits, Ideal.ieee, -EReal.coe_mul, -EReal.coe_neg]; norm_num
theorem lit_inv256 : Ideal.ofBits .f32 0x3B800000#32 = ((1 / 256 : ℝ) : EReal) := by
  simp [Ideal.ofBits, Ideal.ieee, -EReal.coe_mul, -EReal.coe_neg]; norm_num
theorem lit_inv65536 : Ideal.ofBits .f32 0x37800000#32 = ((1 / 65536 : ℝ) : EReal) := by
  simp [Ideal.ofBits, Ideal.ieee, -EReal.coe_mul, -EReal.coe_neg]; norm_num
theorem lit_2 : Ideal.ofBits .f32 0x40000000#32 = ((2 : ℝ) : EReal) := by
  simp [Ideal.ofBits, Ideal.ieee, -EReal.coe_mul, -EReal.coe_neg]; norm_num
theorem lit_100000 : Ideal.ofBits .f32 0x47C35000#32 = ((100000 : ℝ) : EReal) := by
  simp [Ideal.ofBits, Ideal.ieee, -EReal.coe_mul, -EReal.coe_neg]; norm_num
theorem lit_fifth1 : Ideal.ofBits .f32 0x3E4CCCCD#32 = ((13421773 / 67108864 : ℝ) : EReal) := by
  simp [Ideal.ofBits, Ideal.ieee, -EReal.coe_mul, -EReal.coe_neg]; norm_num
theorem lit_fifth2 : Ideal.ofBits .f32 0x3ECCCCCD#32 = ((13421773 / 33554432 : ℝ) : EReal) := by
  simp [Ideal.ofBits, Ideal.ieee, -EReal.coe_mul, -EReal.coe_neg]; norm_num
theorem lit_fifth3 : Ideal.ofBits .f32 0x3F19999A#32 = ((5033165 / 8388608 : ℝ) : EReal) := by
  simp [Ideal.ofBits, Ideal.ieee, -EReal.coe_mul, -EReal.coe_neg]; norm_num
theorem lit_fifth4 : Ideal.ofBits .f32 0x3F4CCCCD#32 = ((13421773 / 16777216 : ℝ) : EReal) := by
  simp [Ideal.ofBits, Ideal.ieee, -EReal.coe_mul, -EReal.coe_neg]; norm_num
theorem lit_gap : Ideal.ofBits .f32 0x33D6BF95#32 = ((14073749 / 140737488355328 : ℝ) : EReal) := by
  simp [Ideal.ofBits, Ideal.ieee, -EReal.coe_mul, -EReal.coe_neg]; norm_num

end Cert.Val

end
-- ==== Proof.Val.Below.lean ====
/-
How many keys of a row lie below a threshold, and the scalar forms the searches read it through.
-/
module

public import proofs.«01_k».proof.Proof.Val.Lit
public import Idealize.ShloMosaic.Lib.IndicatorCount
public import Idealize.ShloMosaic.Lib.StableHlo.Predicate

@[expose] public noncomputable section
open Idealize.ShloMosaic

namespace Cert.Val

/-- How many of row `i`'s keys lie below `x`. -/
def below {n : ℕ} (v : (⟨2, ![16, n]⟩ : Shape).Idx → EReal) (i : Fin 16) (x : EReal) : ℕ :=
  (Finset.univ.filter fun k : Fin n => v (ix2 i k) < x).card

theorem below_mono {n : ℕ} (v : (⟨2, ![16, n]⟩ : Shape).Idx → EReal) (i : Fin 16) : Monotone (below v i) := fun _ _ h =>
  Finset.card_le_card fun k hk => by
    simp only [Finset.mem_filter, Finset.mem_univ, true_and] at hk ⊢
    exact hk.trans_le h

theorem ofBool_decide (p : Prop) [Decidable p] : BitVec.ofBool (decide p) = 1#1 ↔ p := by
  by_cases h : p <;> simp [h]

/-- A counted sum of bits, as a number. -/
theorem sitofp_count {n : ℕ} (hn : n < 2 ^ 31) (p : Fin n → Prop) [DecidablePred p] :
    (FloatOps.sitofp (F := Ideal) FTy.f32 (Finset.univ.fold IntOp.addi (0#32)
        fun k => BitVec.setWidth 32 (BitVec.ofBool (decide (p k)))) : EReal)
      = (((Finset.univ.filter p).card : ℝ) : EReal) := by
  rw [Idealize.ShloMosaic.IndicatorCount.fold_addi_setWidth_eq_card (w := 32) (fun k => BitVec.ofBool (decide (p k)))]
  simp only [ofBool_decide]
  have hc : (Finset.univ.filter p).card ≤ n := by simpa using Finset.card_le_univ (Finset.univ.filter p)
  have hi : (BitVec.ofNat 32 (Finset.univ.filter p).card).toInt = ((Finset.univ.filter p).card : ℤ) := by
    exact StableHlo.Predicate.toInt_ofNat_small _ (by omega)
  show (((BitVec.ofNat 32 (Finset.univ.filter p).card).toInt : ℝ) : EReal) = _
  rw [hi]
  norm_cast

theorem sel_bit {α : Type} (p : Prop) [Decidable p] (a b : α) :
    Scalar.select (BitVec.ofBool (decide p)) a b = if p then a else b := by
  unfold Scalar.select
  by_cases h : p <;> simp [h]

theorem andi_bits (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

theorem sitofp_bit (p : Prop) [Decidable p] :
    (FloatOps.sitofp (F := Ideal) FTy.f32 (BitVec.setWidth 32 (BitVec.ofBool (decide p))) : EReal) = if p then 1 else 0 := by
  show (((BitVec.setWidth 32 (BitVec.ofBool (decide p))).toInt : ℝ) : EReal) = _
  by_cases h : p <;> simp [h]

theorem cast_lt_76 (n : ℕ) : (((n : ℝ) : EReal) < ((76 : ℝ) : EReal)) ↔ n < 76 := by norm_cast
theorem cast_lt_75 (n : ℕ) : (((n : ℝ) : EReal) < ((75 : ℝ) : EReal)) ↔ n < 75 := by norm_cast
theorem cast_eq_76 (n : ℕ) : (((n : ℝ) : EReal) = ((76 : ℝ) : EReal)) ↔ n = 76 := by norm_cast
theorem cast_eq_75 (n : ℕ) : (((n : ℝ) : EReal) = ((75 : ℝ) : EReal)) ↔ n = 75 := by norm_cast
theorem «76_lt_cast» (n : ℕ) : (((76 : ℝ) : EReal) < ((n : ℝ) : EReal)) ↔ 76 < n := by norm_cast
theorem «75_lt_cast» (n : ℕ) : (((75 : ℝ) : EReal) < ((n : ℝ) : EReal)) ↔ 75 < n := by norm_cast

/-- The flag is below one half exactly when it is zero. -/
theorem lt_half {d : EReal} (hd : d = 0 ∨ d = 1) : d < Ideal.ofBits FTy.f32 0x3F000000#32 ↔ d = 0 := by
  rw [lit_half]
  rcases hd with rfl | rfl
  · simp only [iff_true]; exact_mod_cast (by norm_num : (0 : ℝ) < 1 / 2)
  · simp only [one_ne_zero, iff_false, not_lt]; exact_mod_cast (by norm_num : (1 / 2 : ℝ) ≤ 1)

/-- A loop that may go on by its counter and does not has its flag up. -/
theorem go_bit {p : Prop} [Decidable p]
    (h : ¬ Scalar.andi 1#1 (Scalar.xori (BitVec.ofBool (decide p)) 1#1) = 1#1) : p := by
  by_contra hp
  exact h (by simp only [hp]; decide)

end Cert.Val

end
-- ==== Proof.Val.PreRead.lean ====
/-
The precondition read at an index.
-/
module

public import proofs.«01_k».proof.Proof.Val.Spec
public import proofs.«01_k».proof.Pre_separated
public import Idealize.ShloMosaic.Lib.StableHlo.Predicate
public import proofs.«01_k».proof.Proof.Val.Below
public import Idealize.ShloMosaic.Lib.IndicatorCount

@[expose] public noncomputable section
open Idealize.ShloMosaic Cert.Val

namespace Cert.Val

theorem bit_and (a b : BitVec 1) : a &&& b = 1#1 ↔ a = 1#1 ∧ b = 1#1 := by revert a b; decide
theorem bit_or (a b : BitVec 1) : a ||| b = 1#1 ↔ a = 1#1 ∨ b = 1#1 := by revert a b; decide
theorem bit_bool (b : Bool) : BitVec.ofBool b = 1#1 ↔ b = true := by cases b <;> decide

end Cert.Val

namespace Cert.Pre_separated

variable [Facts]
open Facts

/-- The normalized training rows. -/
def units (t : FVec Ideal S100000x128 .f32) : FVec Ideal S100000x128 .f32 :=
  Host.divf t (broadcastInDim S100000x128 ![0, 1] bcast_S100000x1_S100000x128_0_1 (fn_norm (F := Ideal) t))

/-- Their mean. -/
def mean (t : FVec Ideal S100000x128 .f32) : FVec Ideal S128 .f32 :=
  Host.divf ((fun x v => Host.reduceAdd x v reducesTo_S100000x128_S128_d0 h_S_) (units t) (constant S_ .f32 0x00000000#32))
    (broadcastInDim S128 ![] bcast_S_S128 (constant S_ .f32 0x47C35000#32))

/-- The centered training rows. -/
def trows (t : FVec Ideal S100000x128 .f32) : FVec Ideal S100000x128 .f32 :=
  subf (units t) (broadcastInDim S100000x128 ![0, 1] bcast_S1x128_S100000x128_0_1
    (broadcastInDim S1x128 ![1] bcast_S128_S1x128_1 (mean t)))

/-- The centered query rows. -/
def qrows (q : FVec Ideal S1024x128 .f32) (t : FVec Ideal S100000x128 .f32) : FVec Ideal S1024x128 .f32 :=
  subf (Host.divf q (broadcastInDim S1024x128 ![0, 1] bcast_S1024x1_S1024x128_0_1 (fn_norm_0 (F := Ideal) q)))
    (broadcastInDim S1024x128 ![0, 1] bcast_S1x128_S1024x128_0_1 (broadcastInDim S1x128 ![1] bcast_S128_S1x128_1 (mean t)))

/-- The distances of centered rows. -/
def distOf (v14 : FVec Ideal S1024x128 .f32) (v8 : FVec Ideal S100000x128 .f32) : FVec Ideal S1024x100000 .f32 :=
  addf (subf
    (broadcastInDim S1024x100000 ![0, 1] bcast_S1024x1_S1024x100000_0_1 (broadcastInDim S1024x1 ![0] bcast_S1024_S1024x1_0
      ((fun x v => Host.reduceAdd x v reducesTo_S1024x128_S1024_d1 h_S_) (mulf v14 v14) (constant S_ .f32 0x00000000#32))))
    (mulf (broadcastInDim S1024x100000 ![] bcast_S_S1024x100000 (constant S_ .f32 0x40000000#32))
      ((fun l r => Host.dotGeneral dot_S1024x128_S128x100000_S1024x100000_1_0_0_1_n_n none l r) v14
        ((transpose S128x100000 [1, 0] · transposes_S100000x128_S128x100000_1_0) v8))))
    (broadcastInDim S1024x100000 ![0, 1] bcast_S1x100000_S1024x100000_0_1 (broadcastInDim S1x100000 ![1] bcast_S100000_S1x100000_1
      ((fun x v => Host.reduceAdd x v reducesTo_S100000x128_S100000_d1 h_S_) (mulf v8 v8) (constant S_ .f32 0x00000000#32))))

/-- The distances. -/
def dist (q : FVec Ideal S1024x128 .f32) (t : FVec Ideal S100000x128 .f32) : FVec Ideal S1024x100000 .f32 :=
  distOf (qrows q t) (trows t)

theorem units_apply (t : FVec Ideal S100000x128 .f32) (i : Fin 100000) (k : Fin 128) :
    units t (ix2 i k) = unit (rows t) i k := by
  pointwise [units, fn_norm]
  simp only [unit, len, rows]

theorem mean_apply (t : FVec Ideal S100000x128 .f32) (k : Fin 128) :
    mean t (ix1 k) = center (rows t) k := by
  pointwise [mean, units_apply]
  simp only [center]

theorem trows_apply (t : FVec Ideal S100000x128 .f32) (i : Fin 100000) (k : Fin 128) :
    trows t (ix2 i k) = resid (center (rows t)) (rows t) i k := by
  pointwise [trows, mean_apply, units_apply]
  simp only [resid]

theorem qrows_apply (q : FVec Ideal S1024x128 .f32) (t : FVec Ideal S100000x128 .f32) (i : Fin 1024) (k : Fin 128) :
    qrows q t (ix2 i k) = resid (center (rows t)) (rows q) i k := by
  pointwise [qrows, mean_apply, fn_norm_0]
  simp only [resid, unit, len, rows]

theorem dist_apply (q : FVec Ideal S1024x128 .f32) (t : FVec Ideal S100000x128 .f32) (i : Fin 1024) (j : Fin 100000) :
    dist q t (ix2 i j) = d2 (rows q) (rows t) i j := by
  pointwise [dist, distOf, qrows_apply, trows_apply]
  simp only [d2]

/-- The distance at rank 75, as the precondition takes it. -/
def edge (D : FVec Ideal S1024x100000 .f32) : FVec Ideal S1024x1 .f32 :=
  Host.negf ((extractStridedSlice S1024x1 ![0, 74] · slices_S1024x75_S1024x1_0_74)
    ((fun x => (Host.topK S1024x75 1 (FloatOps.cmpfTotal .gt) x sliceFits_S1024x100000_S1024x75).1) (Host.negf D)))

/-- The rows not farther than that. -/
def close (D : FVec Ideal S1024x100000 .f32) (T : FVec Ideal S1024x1 .f32) : IVec S1024x100000 1 :=
  cmpf .ole D (broadcastInDim S1024x100000 ![0, 1] bcast_S1024x1_S1024x100000_0_1 T)

/-- How many they are. -/
def howMany (D : FVec Ideal S1024x100000 .f32) (T : FVec Ideal S1024x1 .f32) : IVec S1024 32 :=
  Host.reduce IntOp.addi (extui 32 (close D T) natLt_1_32) (constantI S_ 32 0#32) reducesTo_S1024x100000_S1024_d1 h_S_

/-- The precondition with its distances, its threshold and its count as arguments. -/
def test (D : FVec Ideal S1024x100000 .f32) (T : FVec Ideal S1024x1 .f32) (n : IVec S1024 32) : IVec S1024x100000 1 :=
  andi (ori (close D T) (cmpf .oge D (broadcastInDim S1024x100000 ![0, 1] bcast_S1024x1_S1024x100000_0_1
      (addf T (broadcastInDim S1024x1 ![] bcast_S_S1024x1 (constant S_ .f32 0x33D6BF95#32))))))
    (broadcastInDim S1024x100000 ![0, 1] bcast_S1024x1_S1024x100000_0_1
      (cmpi .eq (broadcastInDim S1024x1 ![0] bcast_S1024_S1024x1_0 n)
        (broadcastInDim S1024x1 ![] bcast_S_S1024x1 (constantI S_ 32 75#32))))

theorem fn_eq (q : FVec Ideal S1024x128 .f32) (t : FVec Ideal S100000x128 .f32) (l : IVec S100000 32) (c : IVec S1000 32) :
    fn (F := Ideal) q t l c = test (dist q t) (edge (dist q t)) (howMany (dist q t) (edge (dist q t))) := rfl

theorem test_apply (D : FVec Ideal S1024x100000 .f32) (T : FVec Ideal S1024x1 .f32) (n : IVec S1024 32) (i : Fin 1024) (j : Fin 100000)
    (h : test D T n (ix2 i j) = 1#1) :
    (D (ix2 i j) ≤ T (ix2 i 0) ∨ T (ix2 i 0) + Ideal.ofBits .f32 0x33D6BF95#32 ≤ D (ix2 i j)) ∧ n (ix1 i) = 75#32 := by
  revert h
  pointwise [test, close]
  simp only [IntOp.andi, IntOp.ori, IntOp.cmpi, bit_and, bit_or, bit_bool, decide_eq_true_eq, beq_iff_eq]
  exact id

/-- The count the precondition fixes, as the size of a set. -/
theorem howMany_apply (D : FVec Ideal S1024x100000 .f32) (T : FVec Ideal S1024x1 .f32) (i : Fin 1024) (h : howMany D T (ix1 i) = 75#32) :
    (Finset.univ.filter fun j : Fin 100000 => D (ix2 i j) ≤ T (ix2 i 0)).card = 75 := by
  revert h
  pointwise [howMany, close]
  intro h
  have h' : BitVec.ofNat 32 (Finset.univ.filter fun j : Fin 100000 => D (ix2 i j) ≤ T (ix2 i 0)).card = 75#32 := by
    refine Eq.trans ?_ ((IndicatorCount.fold_addi_setWidth_eq_card (w := 32) (fun j : Fin 100000 => BitVec.ofBool (decide (D (ix2 i j) ≤ T (ix2 i 0)))) Finset.univ).symm.trans h)
    exact congrArg (BitVec.ofNat 32) (congrArg Finset.card (Finset.filter_congr fun j _ => (ofBool_decide _).symm))
  have hl := (Finset.card_filter_le (Finset.univ : Finset (Fin 100000)) fun j => D (ix2 i j) ≤ T (ix2 i 0))
  rw [Finset.card_univ, Fintype.card_fin] at hl
  have := congrArg BitVec.toNat h'
  rw [BitVec.toNat_ofNat, Nat.mod_eq_of_lt (by omega)] at this
  exact this

end Cert.Pre_separated

end
-- ==== Proof.Val.Geo.lean ====
/-
What the squared distances of a query can be: real numbers between 0 and 4, or, when a zero row spoils them, the two
infinities.
-/
module

public import proofs.«01_k».proof.Proof.Val.Spec
public import proofs.«01_k».proof.Proof.Val.Lit

@[expose] public noncomputable section
open Idealize.ShloMosaic Cert.Val

namespace Cert.Val

variable {n p : ℕ}

theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem mul_self_nonneg' (x : EReal) : 0 ≤ x * x := by
  induction x with
  | bot => simp
  | top => simp
  | coe x => exact_mod_cast mul_self_nonneg x

theorem div_coe (a r : ℝ) (h : r ≠ 0) : Ideal.div (a : EReal) (r : EReal) = ((a / r : ℝ) : EReal) := by
  rw [Ideal.div, if_neg (by exact_mod_cast h), ← EReal.coe_inv, ← EReal.coe_mul, div_eq_mul_inv]

theorem mul_self_top (x : EReal) (h : x = ⊥ ∨ x = ⊤) : x * x = ⊤ := by
  rcases h with rfl | rfl <;> simp

/-- A normalized row is real and no longer than one; a row of zeros has no direction. -/
theorem unit_kind (x : Fin n → Fin 128 → EReal) (i : Fin n) :
    (∃ u : Fin 128 → ℝ, (∀ k, unit x i k = (u k : EReal)) ∧ ∑ k, u k ^ 2 ≤ 1) ∨ ∀ k, unit x i k = ⊥ := by
  by_cases hS : ∑ k, x i k * x i k = ⊤
  · refine .inl ⟨fun _ => 0, fun k => ?_, by simp⟩
    have e : len x i = ⊤ := by rw [len, hS]; rfl
    rw [unit, e, Ideal.div, if_neg (by simp), EReal.inv_top, mul_zero, EReal.coe_zero]
  have hx : ∀ k, ∃ a : ℝ, x i k = (a : EReal) := fun k => by
    have hk : x i k * x i k ≠ ⊤ := fun h => hS (top_le_iff.1 (h ▸ Finset.single_le_sum (f := fun k => x i k * x i k) (fun k _ => mul_self_nonneg' _) (Finset.mem_univ k)))
    rcases hv : x i k with _ | _ | a
    · rw [hv] at hk; exact absurd (by rfl) hk
    · rw [hv] at hk; exact absurd (by rfl) hk
    · exact ⟨a, rfl⟩
  choose a ha using hx
  have e : ∑ k, x i k * x i k = ((∑ k, a k ^ 2 : ℝ) : EReal) := by
    rw [← sum_coe]
    exact Finset.sum_congr rfl fun k _ => by rw [ha, ← EReal.coe_mul, sq]
  have hn : 0 ≤ ∑ k, a k ^ 2 := Finset.sum_nonneg fun k _ => sq_nonneg _
  have el : len x i = ((Real.sqrt (∑ k, a k ^ 2) : ℝ) : EReal) := by
    rw [len, e]
    exact if_neg (not_lt.2 hn)
  rcases hn.eq_or_lt with h0 | hp
  · refine .inr fun k => ?_
    have hk : a k = 0 := by
      have := (Finset.sum_eq_zero_iff_of_nonneg fun k _ => sq_nonneg (a k)).1 h0.symm k (Finset.mem_univ k)
      exact pow_eq_zero_iff (two_ne_zero) |>.1 this
    rw [unit, ha, hk, el, ← h0, Real.sqrt_zero, EReal.coe_zero, Ideal.div, if_pos rfl, if_neg (lt_irrefl _)]
  · refine .inl ⟨fun k => a k / Real.sqrt (∑ k, a k ^ 2), fun k => ?_, ?_⟩
    · rw [unit, ha, el, div_coe _ _ (Real.sqrt_pos.2 hp).ne']
    · simp only [div_pow]
      rw [← Finset.sum_div, Real.sq_sqrt hn, div_self hp.ne']

/-- A distance whose first part is infinite is infinite. -/
theorem d2_inf {q : Fin n → Fin 128 → EReal} {t : Fin p → Fin 128 → EReal} {i : Fin n} {k : Fin 128}
    (h : resid (center t) q i k = ⊥ ∨ resid (center t) q i k = ⊤) (j : Fin p) : d2 q t i j = ⊥ ∨ d2 q t i j = ⊤ := by
  have hq : ∑ k, resid (center t) q i k * resid (center t) q i k = ⊤ :=
    top_le_iff.1 ((mul_self_top _ h).ge.trans (Finset.single_le_sum (f := fun k => resid (center t) q i k * resid (center t) q i k) (fun k _ => mul_self_nonneg' _) (Finset.mem_univ k)))
  have ht : (∑ k, resid (center t) t j k * resid (center t) t j k) ≠ ⊥ :=
    ne_bot_of_le_ne_bot EReal.zero_ne_bot (Finset.sum_nonneg fun k _ => mul_self_nonneg' _)
  unfold d2
  rw [hq]
  generalize Ideal.ofBits .f32 0x40000000#32 * (∑ k, resid (center t) q i k * resid (center t) t j k) = y
  by_cases hy : y = ⊤
  · left; rw [hy, sub_eq_add_neg, EReal.neg_top, EReal.add_bot, EReal.bot_add]
  · right
    rw [sub_eq_add_neg, EReal.top_add_of_ne_bot (by rwa [Ne, EReal.neg_eq_bot_iff]), EReal.top_add_of_ne_bot ht]

theorem sum_bot {ι : Type} [Fintype ι] (f : ι → EReal) (j : ι) (h : f j = ⊥) : ∑ k, f k = ⊥ := by
  classical
  rw [← Finset.add_sum_erase _ _ (Finset.mem_univ j), h, EReal.bot_add]

/-- A query's squared distances are real, not negative and at most four, or they are all infinite. -/
theorem d2_kind (q : Fin n → Fin 128 → EReal) (t : Fin p → Fin 128 → EReal) (i : Fin n) :
    (∀ j, ∃ d : ℝ, d2 q t i j = (d : EReal) ∧ 0 ≤ d ∧ d ≤ 4) ∨ ∀ j, d2 q t i j = ⊥ ∨ d2 q t i j = ⊤ := by
  by_cases hb : ∃ j, unit t j 0 = ⊥
  · obtain ⟨j0, hj0⟩ := hb
    have hc : center t 0 = ⊥ := by
      rw [center, sum_bot _ j0 hj0, lit_100000, Ideal.div, if_neg (by exact_mod_cast (by norm_num : (100000 : ℝ) ≠ 0)), ← EReal.coe_inv, EReal.bot_mul_coe_of_pos (by norm_num)]
    refine .inr (d2_inf (k := 0) ?_)
    rw [resid, hc]
    rcases unit_kind q i with ⟨u, hu, -⟩ | hu
    · right; rw [hu, sub_eq_add_neg, EReal.neg_bot, EReal.coe_add_top]
    · left; rw [hu, sub_eq_add_neg, EReal.bot_add]
  have ht : ∀ j, ∃ u : Fin 128 → ℝ, (∀ k, unit t j k = (u k : EReal)) ∧ ∑ k, u k ^ 2 ≤ 1 := fun j =>
    (unit_kind t j).resolve_right fun h => hb ⟨j, h 0⟩
  choose v hv hv1 using ht
  have hc : ∀ k, center t k = ((( ∑ j, v j k) / 100000 : ℝ) : EReal) := fun k => by
    rw [center, lit_100000, ← div_coe _ _ (by norm_num), ← sum_coe]
    simp only [hv]
  set c : Fin 128 → ℝ := fun k => (∑ j, v j k) / 100000 with hcd
  rcases unit_kind q i with ⟨u, hu, hu1⟩ | hu
  swap
  · refine .inr (d2_inf (k := 0) (.inl ?_))
    rw [resid, hu, sub_eq_add_neg, EReal.bot_add]
  refine .inl fun j => ?_
  have e : d2 q t i j = ((∑ k, (u k - c k) * (u k - c k) - 2 * ∑ k, (u k - c k) * (v j k - c k) + ∑ k, (v j k - c k) * (v j k - c k) : ℝ) : EReal) := by
    simp only [d2, resid, hu, hv, hc, lit_2]
    simp only [← EReal.coe_sub, ← EReal.coe_mul, sum_coe, ← EReal.coe_add]
    rfl
  refine ⟨_, e, ?_⟩
  have e2 : ∑ k, (u k - c k) * (u k - c k) - 2 * ∑ k, (u k - c k) * (v j k - c k) + ∑ k, (v j k - c k) * (v j k - c k) = ∑ k, (u k - v j k) ^ 2 := by
    rw [Finset.mul_sum, ← Finset.sum_sub_distrib, ← Finset.sum_add_distrib]
    exact Finset.sum_congr rfl fun k _ => by ring
  rw [e2]
  refine ⟨Finset.sum_nonneg fun k _ => sq_nonneg _, ?_⟩
  calc ∑ k, (u k - v j k) ^ 2 ≤ ∑ k, (2 * u k ^ 2 + 2 * v j k ^ 2) := Finset.sum_le_sum fun k _ => by nlinarith [sq_nonneg (u k + v j k)]
    _ = 2 * ∑ k, u k ^ 2 + 2 * ∑ k, v j k ^ 2 := by rw [Finset.sum_add_distrib, ← Finset.mul_sum, ← Finset.mul_sum]
    _ ≤ 4 := by linarith [hv1 j]

/-- A threshold that separates a proper nonempty part of real numbers at most four is real. -/
theorem edge_real {p : ℕ} (hp : 75 < p) {d : Fin p → EReal} {T : EReal} (hd : ∀ j, ∃ r : ℝ, d j = (r : EReal) ∧ 0 ≤ r ∧ r ≤ 4)
    (hc : (Finset.univ.filter fun j => d j ≤ T).card = 75) : ∃ r : ℝ, T = (r : EReal) ∧ r ≤ 4 := by
  obtain ⟨a, ha⟩ := Finset.card_pos.1 (hc ▸ (by norm_num : 0 < 75))
  have : ∃ b, ¬ d b ≤ T := by
    by_contra h
    push Not at h
    rw [Finset.filter_true_of_mem fun j _ => h j] at hc
    simp at hc
    omega
  obtain ⟨b, hb⟩ := this
  obtain ⟨x, hx, -⟩ := hd a
  obtain ⟨y, hy, -, hy4⟩ := hd b
  simp only [Finset.mem_filter, Finset.mem_univ, true_and] at ha
  rw [hx] at ha
  rw [hy, not_le] at hb
  have et := EReal.coe_toReal (ne_top_of_lt hb) (ne_bot_of_le_ne_bot (EReal.coe_ne_bot x) ha)
  refine ⟨_, et.symm, ?_⟩
  rw [← et] at hb
  have : T.toReal < y := by exact_mod_cast hb
  linarith

/-- Infinite distances have the threshold zero. -/
theorem edge_inf {p : ℕ} (hp : 75 < p) {d : Fin p → EReal} {E : EReal} (hd : ∀ j, d j = ⊥ ∨ d j = ⊤)
    (hc : (Finset.univ.filter fun j => d j ≤ E).card = 75) : (Finset.univ.filter fun j => d j ≤ ((0 : ℝ) : EReal)).card = 75 := by
  have hE : E ≠ ⊤ := fun h => by
    rw [Finset.filter_true_of_mem fun j _ => by rw [h]; exact le_top] at hc
    simp at hc
    omega
  rw [← hc]
  refine congrArg Finset.card (Finset.filter_congr fun j _ => ?_)
  rcases hd j with h | h <;> rw [h]
  · simp only [bot_le]
  · simp only [top_le_iff, EReal.coe_ne_top, hE]

end Cert.Val

end
-- ==== Proof.Val.Tail.lean ====
/-
From class counts to the answer: the p-values, and the first class of the largest one.
-/
module

public import proofs.«01_k».proof.Proof.Val.Lit
public import proofs.«01_k».proof.Proof.Val.Below

@[expose] public noncomputable section
open Idealize.ShloMosaic Cert.Val

namespace Cert.Val

/-- The p-value of class `k`, from the class counts and the calibration scores. -/
def cred (N : Fin 10 → ℕ) (cali : Fin 1000 → BitVec 32) (k : Fin 10) : EReal :=
  Ideal.div (Ideal.ofBits .f32 0x447A0000#32
    - (((Finset.univ.filter fun m => (cali m).slt (BitVec.ofNat 32 (∑ c, N c - N k))).card : ℝ) : EReal)) (Ideal.ofBits .f32 0x447A0000#32)

/-- Class `a` is the first with the largest value. -/
structure First (p : Fin 10 → EReal) (a : Fin 10) : Prop where
  top : ∀ k, p k ≤ p a
  first : ∀ k, k < a → p k < p a

theorem exists_first (p : Fin 10 → EReal) : ∃ a, First p a := by
  classical
  obtain ⟨m, -, hm⟩ := Finset.exists_max_image Finset.univ p ⟨0, Finset.mem_univ _⟩
  let s := Finset.univ.filter fun k => p k = p m
  have hs : s.Nonempty := ⟨m, by simp [s]⟩
  refine ⟨s.min' hs, fun k => ?_, fun k hk => ?_⟩
  · have : p (s.min' hs) = p m := (Finset.mem_filter.1 (s.min'_mem hs)).2
    rw [this]; exact hm k (Finset.mem_univ _)
  · have : p (s.min' hs) = p m := (Finset.mem_filter.1 (s.min'_mem hs)).2
    rw [this]
    refine lt_of_le_of_ne (hm k (Finset.mem_univ _)) fun e => ?_
    exact absurd (s.min'_le k (by simp [s, e])) (not_le.2 hk)

theorem First.unique {p : Fin 10 → EReal} {a b : Fin 10} (ha : First p a) (hb : First p b) : a = b := by
  rcases lt_trichotomy a b with h | h | h
  · exact absurd (ha.top b) (not_le.2 (hb.first a h))
  · exact h
  · exact absurd (hb.top a) (not_le.2 (ha.first b h))

/-- The answer's row: the largest p-value at its first class, zero elsewhere. -/
def answer (p : Fin 10 → EReal) (k : Fin 10) : EReal :=
  if k = (exists_first p).choose then p k else 0

theorem First.answer {p : Fin 10 → EReal} {a : Fin 10} (h : First p a) (k : Fin 10) :
    answer p k = if k = a then p a else 0 := by
  unfold Cert.Val.answer
  rw [h.unique (exists_first p).choose_spec]
  split_ifs with e
  · rw [e]
  · rfl

/-- The largest value is the fold of the maximum. -/
theorem First.best {p : Fin 10 → EReal} {a : Fin 10} (h : First p a) : Finset.univ.fold max ⊥ p = p a :=
  le_antisymm ((Finset.fold_max_le _).2 ⟨bot_le, fun k _ => h.top k⟩) ((Finset.le_fold_max _).2 (.inr ⟨a, Finset.mem_univ _, le_rfl⟩))

/-- Unpacking three counts below 256 from one number. -/
theorem unpack (a b c : ℕ) (ha : a < 256) (hb : b < 256) :
    ⌊((a + 256 * b + 65536 * c : ℝ)) * (1 / 65536)⌋ = (c : ℤ) ∧ ⌊((a + 256 * b : ℝ)) * (1 / 256)⌋ = (b : ℤ) := by
  have ha' : (a : ℝ) ≤ 255 := by exact_mod_cast Nat.le_of_lt_succ ha
  have hb' : (b : ℝ) ≤ 255 := by exact_mod_cast Nat.le_of_lt_succ hb
  have ha0 : (0 : ℝ) ≤ a := a.cast_nonneg
  have hb0 : (0 : ℝ) ≤ b := b.cast_nonneg
  constructor <;> rw [Int.floor_eq_iff] <;> constructor <;> push_cast <;> linarith

end Cert.Val

end
-- ==== Proof.Val.Count.lean ====
/-
The third call's class counts: unpacked from the weighted sums.
-/
module

public import proofs.«01_k».proof.Proof.Val.Tail
public import proofs.«01_k».proof.Proof.Val.Geo
public import proofs.«01_k».proof.Proof.KI.Select

@[expose] public noncomputable section
open Idealize.ShloMosaic Cert.Val

namespace Cert.KernelIdeal.Pf
open Cert.KernelIdeal.Gen

/-- The sum of the weights of group `g` over the mask. -/
def packed (x2 : IVec S1x102400 32) (mk : IVec S16x102400 1) (g : BitVec 32) : FVec Ideal S16x1 .f32 :=
  shapeCast S16x1 (multiReduction .add [1] S16 (select mk (broadcastTo S16x102400 (shapeCast S1x102400
    (select (cmpi .eq (ohsel (F := Ideal) x2) (broadcast S1x102400 g)) (pwt (F := Ideal) x2) (broadcast S1x102400 (Scalar.ofBits .f32 0x00000000#32)))
    shapeCasts_S1x102400_S1x102400) broadcasts_S1x102400_S16x102400) (broadcast S16x102400 (Scalar.ofBits .f32 0x00000000#32)))
    0x00000000#32 reduces_S16x102400_S16 (.inl rfl) rfl) shapeCasts_S16_S16x1

/-- The highest count in a packed sum. -/
def hi (A : FVec Ideal S16x1 .f32) : FVec Ideal S16x1 .f32 := floor (mulf A (broadcast S16x1 (Scalar.ofBits .f32 0x37800000#32)))
/-- What is left of it. -/
def rest (A : FVec Ideal S16x1 .f32) : FVec Ideal S16x1 .f32 := subf A (mulf (hi A) (broadcast S16x1 (Scalar.ofBits .f32 0x47800000#32)))
/-- The middle count. -/
def mid (A : FVec Ideal S16x1 .f32) : FVec Ideal S16x1 .f32 := floor (mulf (rest A) (broadcast S16x1 (Scalar.ofBits .f32 0x3B800000#32)))
/-- The lowest count. -/
def lo (A : FVec Ideal S16x1 .f32) : FVec Ideal S16x1 .f32 := subf (rest A) (mulf (mid A) (broadcast S16x1 (Scalar.ofBits .f32 0x43800000#32)))

/-- The class counts. -/
def counts (x2 : IVec S1x102400 32) (mk : IVec S16x102400 1) : FVec Ideal S16x10 .f32 :=
  concatenate S16x10 1 [⟨S16x1, lo (packed x2 mk 0#32)⟩, ⟨S16x1, mid (packed x2 mk 0#32)⟩, ⟨S16x1, hi (packed x2 mk 0#32)⟩, ⟨S16x1, lo (packed x2 mk 1#32)⟩, ⟨S16x1, mid (packed x2 mk 1#32)⟩, ⟨S16x1, hi (packed x2 mk 1#32)⟩, ⟨S16x1, lo (packed x2 mk 2#32)⟩, ⟨S16x1, mid (packed x2 mk 2#32)⟩, ⟨S16x1, hi (packed x2 mk 2#32)⟩, ⟨S16x1, lo (packed x2 mk 3#32)⟩] concatenates_S16x1_S16x1_S16x1_S16x1_S16x1_S16x1_S16x1_S16x1_S16x1_S16x1_S16x10_d1

theorem nonconf2_eq (x2 : IVec S1x102400 32) (mk : IVec S16x102400 1) :
    nonconf2 (F := Ideal) x2 mk = fptosi 32 (subf (broadcastTo S16x10 (shapeCast S16x1
      (multiReduction .add [1] S16 (counts x2 mk) 0x00000000#32 reduces_S16x10_S16 (.inl rfl) rfl) shapeCasts_S16_S16x1) broadcasts_S16x1_S16x10) (counts x2 mk)) := rfl

def col0 (v : IVec S16x10 32) (w : IVec S1x1000 32) : FVec Ideal S16x1 .f32 :=
  shapeCast S16x1 (multiReduction .add [1] S16 (sitofp .f32 (extui 32 (cmpi .slt (broadcastTo S16x1000 w broadcasts_S1x1000_S16x1000)
    (broadcastTo S16x1000 (extractStridedSlice S16x1 ![0, 0] v slices_S16x10_o0_0_S16x1) broadcasts_S16x1_S16x1000)) natLt_1_32))
    0x00000000#32 reduces_S16x1000_S16 (.inl rfl) rfl) shapeCasts_S16_S16x1

def col1 (v : IVec S16x10 32) (w : IVec S1x1000 32) : FVec Ideal S16x1 .f32 :=
  shapeCast S16x1 (multiReduction .add [1] S16 (sitofp .f32 (extui 32 (cmpi .slt (broadcastTo S16x1000 w broadcasts_S1x1000_S16x1000)
    (broadcastTo S16x1000 (extractStridedSlice S16x1 ![0, 1] v slices_S16x10_o0_1_S16x1) broadcasts_S16x1_S16x1000)) natLt_1_32))
    0x00000000#32 reduces_S16x1000_S16 (.inl rfl) rfl) shapeCasts_S16_S16x1

def col8 (v : IVec S16x10 32) (w : IVec S1x1000 32) : FVec Ideal S16x1 .f32 :=
  shapeCast S16x1 (multiReduction .add [1] S16 (sitofp .f32 (extui 32 (cmpi .slt (broadcastTo S16x1000 w broadcasts_S1x1000_S16x1000)
    (broadcastTo S16x1000 (extractStridedSlice S16x1 ![0, 8] v slices_S16x10_o0_8_S16x1) broadcasts_S16x1_S16x1000)) natLt_1_32))
    0x00000000#32 reduces_S16x1000_S16 (.inl rfl) rfl) shapeCasts_S16_S16x1

def col9 (v : IVec S16x10 32) (w : IVec S1x1000 32) : FVec Ideal S16x1 .f32 :=
  shapeCast S16x1 (multiReduction .add [1] S16 (sitofp .f32 (extui 32 (cmpi .slt (broadcastTo S16x1000 w broadcasts_S1x1000_S16x1000)
    (broadcastTo S16x1000 (extractStridedSlice S16x1 ![0, 9] v slices_S16x10_o0_9_S16x1) broadcasts_S16x1_S16x1000)) natLt_1_32))
    0x00000000#32 reduces_S16x1000_S16 (.inl rfl) rfl) shapeCasts_S16_S16x1

/-- How many calibration scores lie below each class's nonconformity. -/
def ranks (v : IVec S16x10 32) (w : IVec S1x1000 32) : FVec Ideal S16x10 .f32 :=
  concatenate S16x10 1 [⟨S16x1, col0 v w⟩, ⟨S16x1, col1 v w⟩, ⟨S16x1, k2_pay58 (F := Ideal) v w⟩, ⟨S16x1, k2_pay59 (F := Ideal) v w⟩, ⟨S16x1, k2_pay60 (F := Ideal) v w⟩, ⟨S16x1, k2_pay61 (F := Ideal) v w⟩, ⟨S16x1, k2_pay62 (F := Ideal) v w⟩, ⟨S16x1, k2_pay63 (F := Ideal) v w⟩, ⟨S16x1, col8 v w⟩, ⟨S16x1, col9 v w⟩] concatenates_S16x1_S16x1_S16x1_S16x1_S16x1_S16x1_S16x1_S16x1_S16x1_S16x1_S16x10_d1

/-- The p-values. -/
def pvals (P : FVec Ideal S16x10 .f32) : FVec Ideal S16x10 .f32 :=
  divf (subf (broadcast S16x10 (Scalar.ofBits .f32 0x447A0000#32)) P) (broadcast S16x10 (Scalar.ofBits .f32 0x447A0000#32))

/-- Each row's largest p-value. -/
def best (p : FVec Ideal S16x10 .f32) : FVec Ideal S16x1 .f32 :=
  shapeCast S16x1 (multiReduction .maximumf [1] S16 p 0xFF800000#32 reduces_S16x10_S16 (.inl rfl) rfl) shapeCasts_S16_S16x1

/-- The first class of it. -/
def pred (p : FVec Ideal S16x10 .f32) : IVec S16x1 32 :=
  shapeCast S16x1 (multiReductionI .minsi [1] S16 (select (cmpf .oeq p (broadcastTo S16x10 (best p) broadcasts_S16x1_S16x10))
    (iota .tc S16x10 32 [1] iota_S16x10_d1_w32) (broadcast S16x10 11#32)) 2147483647#32 reduces_S16x10_S16 rfl) shapeCasts_S16_S16x1

theorem creds2_eq (x2 : IVec S1x102400 32) (mk : IVec S16x102400 1) (x3 : IVec S1x1000 32) :
    creds2 (F := Ideal) x2 mk x3 = select (cmpi .eq (iota .tc S16x10 32 [1] iota_S16x10_d1_w32)
        (broadcastTo S16x10 (pred (pvals (ranks (nonconf2 (F := Ideal) x2 mk) (k2_pay53 (F := Ideal) x3)))) broadcasts_S16x1_S16x10))
      (broadcastTo S16x10 (shapeCast S16x1 (best (pvals (ranks (nonconf2 (F := Ideal) x2 mk) (k2_pay53 (F := Ideal) x3)))) shapeCasts_S16x1_S16x1) broadcasts_S16x1_S16x10)
      (broadcast S16x10 (Scalar.ofBits .f32 0x00000000#32)) := rfl

theorem ohsel_apply (x2 : IVec S1x102400 32) (j : Fin 102400) (l : ℕ) (hl : l < 12) (h : x2 (ix2 0 j) = BitVec.ofNat 32 l) :
    ohsel (F := Ideal) x2 (ix2 0 j) = BitVec.ofNat 32 (l / 3) := by
  pointwise [ohsel, k2_pay37, k2_pay35, k2_pay36, k2_pay22]
  rw [h]
  interval_cases l <;> decide

/-- A label of 12 or more is none of the first twelve words. -/
theorem far {l : ℕ} (hl : l < 2 ^ 32) (h : 12 ≤ l) : BitVec.ofNat 32 l ∉ Set.range fun l : Fin 12 => BitVec.ofNat 32 l.val := by
  rintro ⟨k, hk⟩
  have := congrArg BitVec.toNat hk
  simp only [BitVec.toNat_ofNat] at this
  rw [Nat.mod_eq_of_lt hl, Nat.mod_eq_of_lt (by omega)] at this
  omega

theorem divsi_three (x : BitVec 32) : IntOp.divsi .vector x 3#32 = x.sdiv 3#32 :=
  if_neg (by rintro (h | ⟨-, h⟩) <;> exact absurd h (by decide))

theorem remsi_three (x : BitVec 32) : IntOp.remsi .vector x 3#32 = x.srem 3#32 :=
  if_neg (by rintro (h | ⟨-, h⟩) <;> exact absurd h (by decide))

/-- A label of 12 or more, or a negative one, is in none of the four groups. -/
theorem ohsel_far (x2 : IVec S1x102400 32) (j : Fin 102400) (h : x2 (ix2 0 j) ∉ Set.range fun l : Fin 12 => BitVec.ofNat 32 l.val) (g : ℕ) (hg : g < 4) :
    ohsel (F := Ideal) x2 (ix2 0 j) ≠ BitVec.ofNat 32 g := by
  pointwise [ohsel, k2_pay37, k2_pay35, k2_pay36, k2_pay22]
  revert h
  generalize x2 (ix2 0 j) = x
  intro h
  rw [divsi_three, remsi_three]
  have hq : (x.sdiv 3#32).toInt = x.toInt.tdiv 3 := BitVec.toInt_sdiv_of_ne_or_ne x 3#32 (.inr (by decide))
  have hr : (x.srem 3#32).toInt = x.toInt.tmod 3 := BitVec.toInt_srem x 3#32
  have hg' : (BitVec.ofNat 32 g).toInt = g := StableHlo.Predicate.toInt_ofNat_small _ (by omega)
  have hlo := BitVec.le_toInt x
  have hhi := BitVec.toInt_lt (x := x)
  have h12 : x.toInt < 0 ∨ 12 ≤ x.toInt := by
    by_contra hc
    push Not at hc
    refine h ⟨⟨x.toInt.toNat, by omega⟩, BitVec.eq_of_toInt_eq ?_⟩
    have := StableHlo.Predicate.toInt_ofNat_small x.toInt.toNat (by omega)
    simp only [this]
    omega
  rcases h12 with hn | hp
  · have t1 : x.toInt.tdiv 3 = -((-x.toInt) / 3) := by
      rw [← Int.tdiv_eq_ediv_of_nonneg (by omega), Int.neg_tdiv, neg_neg]
    have t2 : x.toInt.tmod 3 = -((-x.toInt) % 3) := by
      rw [← Int.tmod_eq_emod_of_nonneg (by omega), Int.neg_tmod, neg_neg]
    rw [t1] at hq
    rw [t2] at hr
    have e1 : IntOp.cmpi CmpIPredicate.sgt x 0#32 = 0#1 := by
      show BitVec.ofBool (BitVec.slt 0#32 x) = _
      rw [show BitVec.slt 0#32 x = false by simp [BitVec.slt]; omega]; rfl
    have e2 : IntOp.cmpi CmpIPredicate.slt x 0#32 = 1#1 := by
      show BitVec.ofBool (BitVec.slt x 0#32) = _
      rw [show BitVec.slt x 0#32 = true by simp [BitVec.slt]; omega]; rfl
    rw [e1, e2]
    by_cases hm : x.srem 3#32 = 0#32
    · rw [hm]
      intro he
      have he' := congrArg BitVec.toInt (show x.sdiv 3#32 = _ from he)
      have hm' := congrArg BitVec.toInt hm
      rw [hr, show (0#32 : BitVec 32).toInt = 0 from rfl] at hm'
      rw [hq, hg'] at he'
      clear e1 e2 h hm he
      omega
    · have e3 : IntOp.cmpi CmpIPredicate.ne (x.srem 3#32) 0#32 = 1#1 := by
        show BitVec.ofBool (x.srem 3#32 != 0#32) = _
        rw [bne_iff_ne.2 hm]; rfl
      rw [e3]
      intro he
      have he' := congrArg BitVec.toInt (show x.sdiv 3#32 - 1#32 = _ from he)
      rw [BitVec.toInt_sub, hq, hg', show (1#32 : BitVec 32).toInt = 1 from rfl, Int.bmod_def] at he'
      norm_num at he'
      split_ifs at he' <;> omega
  · have e1 : IntOp.cmpi CmpIPredicate.sgt x 0#32 = 1#1 := by
      show BitVec.ofBool (BitVec.slt 0#32 x) = _
      rw [show BitVec.slt 0#32 x = true by simp [BitVec.slt]; omega]; rfl
    have e2 : IntOp.cmpi CmpIPredicate.slt x 0#32 = 0#1 := by
      show BitVec.ofBool (BitVec.slt x 0#32) = _
      rw [show BitVec.slt x 0#32 = false by simp [BitVec.slt]; omega]; rfl
    rw [e1, e2]
    intro he
    have he' := congrArg BitVec.toInt (show x.sdiv 3#32 = _ from (if_neg (by
      generalize IntOp.cmpi CmpIPredicate.ne (x.srem 3#32) 0#32 = b
      revert b; decide)).symm.trans he)
    rw [hq, hg', Int.tdiv_eq_ediv_of_nonneg (by omega)] at he'
    omega

theorem pwt_apply (x2 : IVec S1x102400 32) (j : Fin 102400) (l : ℕ) (hl : l < 12) (h : x2 (ix2 0 j) = BitVec.ofNat 32 l) :
    pwt (F := Ideal) x2 (ix2 0 j) = if l % 3 = 0 then ((1 : ℝ) : EReal) else if l % 3 = 1 then ((256 : ℝ) : EReal) else ((65536 : ℝ) : EReal) := by
  have e : pwt (F := Ideal) x2 (ix2 0 j)
      = Scalar.select (IntOp.cmpi .eq (x2 (ix2 0 j) - 3#32 * ohsel (F := Ideal) x2 (ix2 0 j)) 0#32) (1 : EReal)
          (Scalar.select (IntOp.cmpi .eq (x2 (ix2 0 j) - 3#32 * ohsel (F := Ideal) x2 (ix2 0 j)) 1#32) (Ideal.ofBits .f32 0x43800000#32) (Ideal.ofBits .f32 0x47800000#32)) := by
    have e2 : pwt (F := Ideal) x2 = select (cmpi .eq (subi (k2_pay22 x2) (muli (broadcast S1x102400 3#32) (ohsel (F := Ideal) x2))) (broadcast S1x102400 0#32))
      (broadcast S1x102400 (Scalar.ofBits .f32 0x3F800000#32))
      (select (cmpi .eq (subi (k2_pay22 x2) (muli (broadcast S1x102400 3#32) (ohsel (F := Ideal) x2))) (broadcast S1x102400 1#32))
        (broadcast S1x102400 (Scalar.ofBits .f32 0x43800000#32)) (broadcast S1x102400 (Scalar.ofBits .f32 0x47800000#32))) := rfl
    rw [e2]
    pointwise [k2_pay22]
    rfl
  rw [e, ohsel_apply x2 j l hl h, h, lit_256, lit_65536]
  interval_cases l <;> rfl

/-- How many of the mask's positions have label `c`. -/
def tally (mk : IVec S16x102400 1) (lab : Fin 102400 → ℕ) (i : Fin 16) (c : ℕ) : ℕ :=
  (Finset.univ.filter fun j => mk (ix2 i j) = 1#1 ∧ lab j = c).card

theorem packed_apply (x2 : IVec S1x102400 32) (mk : IVec S16x102400 1) (lab : Fin 102400 → ℕ) (hl : ∀ j, lab j < 2 ^ 32)
    (h : ∀ j, x2 (ix2 0 j) = BitVec.ofNat 32 (lab j)) (i : Fin 16) (g : ℕ) (hg : g < 4) :
    packed x2 mk (BitVec.ofNat 32 g) (ix2 i 0)
      = (((tally mk lab i (3 * g) + 256 * tally mk lab i (3 * g + 1) + 65536 * tally mk lab i (3 * g + 2) : ℝ)) : EReal) := by
  have e : packed x2 mk (BitVec.ofNat 32 g) (ix2 i 0) = ∑ j : Fin 102400, Scalar.select (mk (ix2 i j))
      (Scalar.select (IntOp.cmpi .eq (ohsel (F := Ideal) x2 (ix2 0 j)) (BitVec.ofNat 32 g)) (pwt (F := Ideal) x2 (ix2 0 j)) (0 : EReal)) 0 := by
    pointwise [packed]
  have hs : ∀ j : Fin 102400, Scalar.select (mk (ix2 i j))
      (Scalar.select (IntOp.cmpi .eq (ohsel (F := Ideal) x2 (ix2 0 j)) (BitVec.ofNat 32 g)) (pwt (F := Ideal) x2 (ix2 0 j)) (0 : EReal)) 0
      = ((((if mk (ix2 i j) = 1#1 ∧ lab j = 3 * g then 1 else 0) + 256 * (if mk (ix2 i j) = 1#1 ∧ lab j = 3 * g + 1 then 1 else 0)
        + 65536 * (if mk (ix2 i j) = 1#1 ∧ lab j = 3 * g + 2 then 1 else 0) : ℝ)) : EReal) := fun j => by
    rcases lt_or_ge (lab j) 12 with hj | hj
    swap
    · have eq : IntOp.cmpi .eq (ohsel (F := Ideal) x2 (ix2 0 j)) (BitVec.ofNat 32 g) = 0#1 := by
        have := ohsel_far x2 j (h j ▸ far (hl j) hj) g hg
        show BitVec.ofBool (decide _) = _
        rw [decide_eq_false this]
        rfl
      rw [eq, if_neg (by omega), if_neg (by omega), if_neg (by omega)]
      have z : ∀ b : BitVec 1, Scalar.select b (0 : EReal) 0 = 0 := fun b => by unfold Scalar.select; split_ifs <;> rfl
      refine (z _).trans ?_
      norm_num
    rw [ohsel_apply x2 j (lab j) hj (h j), pwt_apply x2 j (lab j) hj (h j)]
    generalize lab j = l at hj ⊢
    by_cases hm : mk (ix2 i j) = 1#1
    · have eq : IntOp.cmpi .eq (BitVec.ofNat 32 (l / 3)) (BitVec.ofNat 32 g) = BitVec.ofBool (decide (l / 3 = g)) := by
        interval_cases l <;> interval_cases g <;> rfl
      rw [eq, sel_bit, show ∀ a b : EReal, Scalar.select (mk (ix2 i j)) a b = a from fun a b => if_pos hm]
      simp only [hm, true_and]
      by_cases hq : l / 3 = g
      · rw [if_pos hq]
        have : l % 3 = 0 ∨ l % 3 = 1 ∨ l % 3 = 2 := by omega
        rcases this with r | r | r
        · rw [if_pos r, if_pos (by omega), if_neg (by omega), if_neg (by omega)]; norm_num
        · rw [if_neg (by omega), if_pos r, if_neg (by omega), if_pos (by omega), if_neg (by omega)]; norm_num
        · rw [if_neg (by omega), if_neg (by omega), if_neg (by omega), if_neg (by omega), if_pos (by omega)]; norm_num
      · rw [if_neg hq, if_neg (by omega), if_neg (by omega), if_neg (by omega)]; norm_num
    · rw [show ∀ a b : EReal, Scalar.select (mk (ix2 i j)) a b = b from fun a b => if_neg hm]
      simp [hm]
  rw [e, Finset.sum_congr rfl fun j _ => hs j, sum_coe, Finset.sum_add_distrib, Finset.sum_add_distrib, ← Finset.mul_sum, ← Finset.mul_sum,
    Finset.sum_boole, Finset.sum_boole, Finset.sum_boole]
  rfl

section
variable {A : FVec Ideal S16x1 .f32} {i : Fin 16} {a b c : ℕ}
  (hA : A (ix2 i 0) = ((a + 256 * b + 65536 * c : ℝ) : EReal)) (ha : a < 256) (hb : b < 256)
include hA ha hb

theorem hi_apply : hi A (ix2 i 0) = ((c : ℝ) : EReal) := by
  have e : hi A (ix2 i 0) = Ideal.liftRound Int.floor (A (ix2 i 0) * Ideal.ofBits .f32 0x37800000#32) := by pointwise [hi]
  rw [e, hA, lit_inv65536, ← EReal.coe_mul]
  show (((⌊((a + 256 * b + 65536 * c : ℝ)) * (1 / 65536)⌋ : ℤ) : ℝ) : EReal) = _
  rw [(unpack a b c ha hb).1]
  norm_cast

theorem rest_apply : rest A (ix2 i 0) = ((a + 256 * b : ℝ) : EReal) := by
  have e : rest A (ix2 i 0) = A (ix2 i 0) - hi A (ix2 i 0) * Ideal.ofBits .f32 0x47800000#32 := by pointwise [rest]
  rw [e, hi_apply hA ha hb, hA, lit_65536, ← EReal.coe_mul, ← EReal.coe_sub]
  congr 1
  ring

theorem mid_apply : mid A (ix2 i 0) = ((b : ℝ) : EReal) := by
  have e : mid A (ix2 i 0) = Ideal.liftRound Int.floor (rest A (ix2 i 0) * Ideal.ofBits .f32 0x3B800000#32) := by pointwise [mid]
  rw [e, rest_apply hA ha hb, lit_inv256, ← EReal.coe_mul]
  show (((⌊((a + 256 * b : ℝ)) * (1 / 256)⌋ : ℤ) : ℝ) : EReal) = _
  rw [(unpack a b c ha hb).2]
  norm_cast

theorem lo_apply : lo A (ix2 i 0) = ((a : ℝ) : EReal) := by
  have e : lo A (ix2 i 0) = rest A (ix2 i 0) - mid A (ix2 i 0) * Ideal.ofBits .f32 0x43800000#32 := by pointwise [lo]
  rw [e, rest_apply hA ha hb, mid_apply hA ha hb, lit_256, ← EReal.coe_mul, ← EReal.coe_sub]
  congr 1
  ring

end

/-- Every class count is the tally. -/
theorem counts_apply (x2 : IVec S1x102400 32) (mk : IVec S16x102400 1) (lab : Fin 102400 → ℕ) (hl : ∀ j, lab j < 2 ^ 32)
    (h : ∀ j, x2 (ix2 0 j) = BitVec.ofNat 32 (lab j)) (i : Fin 16) (hm : ∀ c, tally mk lab i c < 256) (k : Fin 10) :
    counts x2 mk (ix2 i k) = (((tally mk lab i k : ℕ) : ℝ) : EReal) := by
  have hp := fun g hg => packed_apply x2 mk lab hl h i g hg
  fin_cases k
  · refine Eq.trans (b := lo (packed x2 mk 0#32) (ix2 i 0)) (by pointwise [counts]) ?_
    exact lo_apply (hp 0 (by norm_num)) (hm _) (hm _)
  · refine Eq.trans (b := mid (packed x2 mk 0#32) (ix2 i 0)) (by pointwise [counts]) ?_
    exact mid_apply (hp 0 (by norm_num)) (hm _) (hm _)
  · refine Eq.trans (b := hi (packed x2 mk 0#32) (ix2 i 0)) (by pointwise [counts]) ?_
    exact hi_apply (hp 0 (by norm_num)) (hm _) (hm _)
  · refine Eq.trans (b := lo (packed x2 mk 1#32) (ix2 i 0)) (by pointwise [counts]) ?_
    exact lo_apply (hp 1 (by norm_num)) (hm _) (hm _)
  · refine Eq.trans (b := mid (packed x2 mk 1#32) (ix2 i 0)) (by pointwise [counts]) ?_
    exact mid_apply (hp 1 (by norm_num)) (hm _) (hm _)
  · refine Eq.trans (b := hi (packed x2 mk 1#32) (ix2 i 0)) (by pointwise [counts]) ?_
    exact hi_apply (hp 1 (by norm_num)) (hm _) (hm _)
  · refine Eq.trans (b := lo (packed x2 mk 2#32) (ix2 i 0)) (by pointwise [counts]) ?_
    exact lo_apply (hp 2 (by norm_num)) (hm _) (hm _)
  · refine Eq.trans (b := mid (packed x2 mk 2#32) (ix2 i 0)) (by pointwise [counts]) ?_
    exact mid_apply (hp 2 (by norm_num)) (hm _) (hm _)
  · refine Eq.trans (b := hi (packed x2 mk 2#32) (ix2 i 0)) (by pointwise [counts]) ?_
    exact hi_apply (hp 2 (by norm_num)) (hm _) (hm _)
  · refine Eq.trans (b := lo (packed x2 mk 3#32) (ix2 i 0)) (by pointwise [counts]) ?_
    exact lo_apply (hp 3 (by norm_num)) (hm _) (hm _)

/-- The nonconformity of class `k`: how many of the mask's positions have another label. -/
theorem nonconf2_apply (x2 : IVec S1x102400 32) (mk : IVec S16x102400 1) (lab : Fin 102400 → ℕ) (hl : ∀ j, lab j < 2 ^ 32)
    (h : ∀ j, x2 (ix2 0 j) = BitVec.ofNat 32 (lab j)) (i : Fin 16) (hm : ∀ c, tally mk lab i c < 256) (k : Fin 10) :
    nonconf2 (F := Ideal) x2 mk (ix2 i k) = BitVec.ofNat 32 (∑ c : Fin 10, tally mk lab i c - tally mk lab i k) := by
  have e : nonconf2 (F := Ideal) x2 mk (ix2 i k) = Ideal.fptosi 32 (∑ c : Fin 10, counts x2 mk (ix2 i c) - counts x2 mk (ix2 i k)) := by
    rw [nonconf2_eq]
    pointwise
    rfl
  rw [e, Finset.sum_congr rfl fun c _ => counts_apply x2 mk lab hl h i hm c, counts_apply x2 mk lab hl h i hm k, sum_coe, ← EReal.coe_sub]
  have hk : tally mk lab i k ≤ ∑ c : Fin 10, tally mk lab i c := Finset.single_le_sum (f := fun c : Fin 10 => tally mk lab i c) (fun _ _ => Nat.zero_le _) (Finset.mem_univ k)
  have ht : ∑ c : Fin 10, tally mk lab i c ≤ 10 * 256 := by
    refine (Finset.sum_le_card_nsmul Finset.univ (fun c : Fin 10 => tally mk lab i c) 256 fun c _ => (hm c).le).trans ?_
    rw [Finset.card_univ, Fintype.card_fin]
    norm_num
  have er : (∑ c : Fin 10, ((tally mk lab i c : ℕ) : ℝ)) - ((tally mk lab i k : ℕ) : ℝ) = (((∑ c : Fin 10, tally mk lab i c - tally mk lab i k : ℕ)) : ℝ) := by
    rw [Nat.cast_sub hk, Nat.cast_sum]
  rw [er, Ideal.fptosi, Ideal.toIntClamped_coe, if_pos (Nat.cast_nonneg _), Int.floor_natCast]
  have hn : (∑ c : Fin 10, tally mk lab i c) - tally mk lab i k ≤ 10 * 256 := (Nat.sub_le _ _).trans ht
  generalize (∑ c : Fin 10, tally mk lab i c) - tally mk lab i k = n at hn ⊢
  rw [min_eq_right (by norm_num <;> omega), max_eq_right (by norm_num <;> omega), BitVec.ofInt_natCast]

/-- The ranks are counts. -/
theorem ranks_apply (v : IVec S16x10 32) (w : IVec S1x1000 32) (i : Fin 16) (k : Fin 10) :
    ranks v w (ix2 i k) = (((Finset.univ.filter fun m : Fin 1000 => (w (ix2 0 m)).slt (v (ix2 i k))).card : ℝ) : EReal) := by
  have e : ranks v w (ix2 i k) = ∑ m : Fin 1000, (FloatOps.sitofp (F := Ideal) FTy.f32 (BitVec.setWidth 32 (IntOp.cmpi .slt (w (ix2 0 m)) (v (ix2 i k)))) : EReal) := by
    fin_cases k <;> pointwise [ranks, col0, col1, k2_pay58, k2_pay59, k2_pay60, k2_pay61, k2_pay62, k2_pay63, col8, col9]
  have hs : ∀ m : Fin 1000, (FloatOps.sitofp (F := Ideal) FTy.f32 (BitVec.setWidth 32 (IntOp.cmpi .slt (w (ix2 0 m)) (v (ix2 i k)))) : EReal)
      = ((if (w (ix2 0 m)).slt (v (ix2 i k)) then (1 : ℝ) else 0 : ℝ) : EReal) := fun m => by
    have := sitofp_bit ((w (ix2 0 m)).slt (v (ix2 i k)) = true)
    rw [Bool.decide_eq_true] at this
    refine (show _ = _ from this).trans ?_
    split_ifs <;> simp
  rw [e, Finset.sum_congr rfl fun m _ => hs m, sum_coe, Finset.sum_boole]

theorem toInt_minsi (x y : BitVec 32) : (IntOp.minsi x y).toInt = min x.toInt y.toInt := by
  unfold IntOp.minsi
  split_ifs with h
  all_goals
    simp only [BitVec.slt, BitVec.sle, decide_eq_true_eq] at h
    omega

/-- The first class of the largest value, as the kernel finds it. -/
theorem pred_apply (p : FVec Ideal S16x10 .f32) (i : Fin 16) (a : Fin 10) (h : First (fun k => p (ix2 i k)) a) :
    pred p (ix2 i 0) = BitVec.ofNat 32 a := by
  have eb : best p (ix2 i 0) = p (ix2 i a) := by
    rw [← h.best, ← lit_bot]
    pointwise [best]
  have e : pred p (ix2 i 0) = Finset.univ.fold IntOp.minsi 2147483647#32 fun k : Fin 10 =>
      Scalar.select (BitVec.ofBool (decide (p (ix2 i k) = best p (ix2 i 0)))) (BitVec.ofNat 32 k) 11#32 := by
    pointwise [pred]
  rw [e, eb]
  refine BitVec.eq_of_toInt_eq ?_
  rw [← Finset.fold_hom (op' := (min : ℤ → ℤ → ℤ)) toInt_minsi]
  simp only [sel_bit]
  have hv : ∀ k : Fin 10, (BitVec.ofNat 32 k).toInt = (k : ℤ) := fun k => StableHlo.Predicate.toInt_ofNat_small _ (by omega)
  rw [hv]
  refine le_antisymm ((Finset.fold_min_le _).2 (.inr ⟨a, Finset.mem_univ _, ?_⟩)) ((Finset.le_fold_min _).2 ⟨?_, fun k _ => ?_⟩)
  · rw [if_pos rfl, hv]
  · have : (2147483647#32 : BitVec 32).toInt = 2147483647 := by decide
    rw [this]; omega
  · split_ifs with hk
    · rw [hv]
      by_contra hc
      have hlt : k < a := by
        rw [Fin.lt_def]; omega
      exact absurd (h.first k hlt) (by simp only [hk]; exact lt_irrefl _)
    · have : (11#32 : BitVec 32).toInt = 11 := by decide
      rw [this]; omega

/-- The third call's result block. -/
theorem creds2_apply (x2 : IVec S1x102400 32) (mk : IVec S16x102400 1) (x3 : IVec S1x1000 32) (lab : Fin 102400 → ℕ) (hl : ∀ j, lab j < 2 ^ 32)
    (h : ∀ j, x2 (ix2 0 j) = BitVec.ofNat 32 (lab j)) (i : Fin 16) (hm : ∀ c, tally mk lab i c < 256) (k : Fin 10) :
    creds2 (F := Ideal) x2 mk x3 (ix2 i k) = answer (cred (fun c => tally mk lab i c) fun m => x3 (ix2 0 m)) k := by
  set p := pvals (ranks (nonconf2 (F := Ideal) x2 mk) (k2_pay53 (F := Ideal) x3)) with hp
  have ep : ∀ k, p (ix2 i k) = cred (fun c => tally mk lab i c) (fun m => x3 (ix2 0 m)) k := fun k => by
    have e : p (ix2 i k) = Ideal.div (Ideal.ofBits .f32 0x447A0000#32 - ranks (nonconf2 (F := Ideal) x2 mk) (k2_pay53 (F := Ideal) x3) (ix2 i k)) (Ideal.ofBits .f32 0x447A0000#32) := by
      rw [hp]
      pointwise [pvals]
    have e53 : ∀ m : Fin 1000, k2_pay53 (F := Ideal) x3 (ix2 0 m) = x3 (ix2 0 m) := fun m => by pointwise [k2_pay53]
    rw [e, ranks_apply, nonconf2_apply x2 mk lab hl h i hm k]
    simp only [e53]
    rfl
  obtain ⟨a, ha⟩ := exists_first fun k => p (ix2 i k)
  have eb : best p (ix2 i 0) = p (ix2 i a) := by
    rw [← ha.best, ← lit_bot]
    pointwise [best]
  have e : creds2 (F := Ideal) x2 mk x3 (ix2 i k) = Scalar.select (IntOp.cmpi .eq (BitVec.ofNat 32 k) (pred p (ix2 i 0))) (best p (ix2 i 0)) (0 : EReal) := by
    rw [creds2_eq, ← hp]
    pointwise
  have ha' : First (cred (fun c => tally mk lab i c) fun m => x3 (ix2 0 m)) a := by
    have : (fun k => p (ix2 i k)) = cred (fun c => tally mk lab i c) fun m => x3 (ix2 0 m) := funext ep
    rwa [this] at ha
  rw [e, pred_apply p i a ha, eb, ha'.answer, ep a]
  have eq : IntOp.cmpi .eq (BitVec.ofNat 32 (k : ℕ)) (BitVec.ofNat 32 (a : ℕ)) = BitVec.ofBool (decide (k = a)) := by
    clear_value p; clear e eb ha ha' ep; revert k a; decide
  rw [eq, sel_bit]

end Cert.KernelIdeal.Pf

end
-- ==== Proof.Val.Bracket.lean ====
/-
A bracketing search for a threshold below which exactly `n` keys lie, read at one row: what its brackets, its found
threshold and its flag satisfy after every step.
-/
module

public import proofs.«01_k».proof.Proof.Val.Lit

@[expose] public noncomputable section
open Idealize.ShloMosaic

namespace Cert.Val

/-- The larger of a start and of the chosen probes. -/
theorem fold_max_cases (t : Fin 8 → EReal) : Finset.univ.fold max ⊥ t = ⊥ ∨ ∃ k, Finset.univ.fold max ⊥ t = t k := by
  rcases (Finset.le_fold_max (s := Finset.univ) (b := ⊥) (f := t) (Finset.univ.fold max ⊥ t)).1 le_rfl with h | ⟨k, _, h⟩
  · exact .inl (le_bot_iff.1 h)
  · exact .inr ⟨k, le_antisymm h ((Finset.le_fold_max _).2 (.inr ⟨k, Finset.mem_univ _, le_rfl⟩))⟩

theorem fold_min_cases (t : Fin 8 → EReal) : Finset.univ.fold min ⊤ t = ⊤ ∨ ∃ k, Finset.univ.fold min ⊤ t = t k := by
  rcases (Finset.fold_min_le (s := Finset.univ) (b := ⊤) (f := t) (Finset.univ.fold min ⊤ t)).1 le_rfl with h | ⟨k, _, h⟩
  · exact .inl (top_le_iff.1 h)
  · exact .inr ⟨k, le_antisymm ((Finset.fold_min_le _).2 (.inr ⟨k, Finset.mem_univ _, le_rfl⟩)) h⟩

theorem le_fold (t : Fin 8 → EReal) (k : Fin 8) : t k ≤ Finset.univ.fold max ⊥ t :=
  (Finset.le_fold_max _).2 (.inr ⟨k, Finset.mem_univ _, le_rfl⟩)

theorem fold_le (t : Fin 8 → EReal) (k : Fin 8) : Finset.univ.fold min ⊤ t ≤ t k :=
  (Finset.fold_min_le _).2 (.inr ⟨k, Finset.mem_univ _, le_rfl⟩)

/-- The next lower bracket. -/
def nextLo (f : EReal → ℕ) (n : ℕ) (t : Fin 8 → EReal) (m lo : EReal) : EReal :=
  max lo (Finset.univ.fold max ⊥ fun k => if f (t k) < n then t k else m)

/-- The next upper bracket. -/
def nextHi (f : EReal → ℕ) (n : ℕ) (t : Fin 8 → EReal) (m hi : EReal) : EReal :=
  min hi (Finset.univ.fold min ⊤ fun k => if n < f (t k) then t k else m)

/-- The threshold found, if one probe meets the count. -/
def found (f : EReal → ℕ) (n : ℕ) (t : Fin 8 → EReal) (m : EReal) : EReal :=
  Finset.univ.fold min ⊤ fun k => if f (t k) = n then t k else m

theorem nextLo_spec {f : EReal → ℕ} {n : ℕ} {t : Fin 8 → EReal} {m lo : EReal} (hm : m ≤ lo) (hlo : f lo < n) :
    f (nextLo f n t m lo) < n ∧ lo ≤ nextLo f n t m lo ∧ ∀ k, f (t k) < n → t k ≤ nextLo f n t m lo := by
  refine ⟨?_, le_max_left _ _, fun k hk => ?_⟩
  · unfold nextLo
    rcases max_choice lo (Finset.univ.fold max ⊥ fun k => if f (t k) < n then t k else m) with h | h
    · rw [h]; exact hlo
    · rcases fold_max_cases fun k => if f (t k) < n then t k else m with h' | ⟨k, h'⟩
      · rw [h', max_eq_left bot_le]; exact hlo
      · rw [h']
        split_ifs with hk
        · rcases max_choice lo (t k) with e | e <;> rw [e] <;> assumption
        · rw [max_eq_left hm]; exact hlo
  · refine le_trans ?_ (le_max_right _ _)
    refine le_trans ?_ (le_fold _ k)
    rw [if_pos hk]

theorem nextHi_spec {f : EReal → ℕ} {n : ℕ} {t : Fin 8 → EReal} {m hi : EReal} (hm : hi ≤ m) (hhi : n < f hi) :
    n < f (nextHi f n t m hi) ∧ nextHi f n t m hi ≤ hi ∧ ∀ k, n < f (t k) → nextHi f n t m hi ≤ t k := by
  refine ⟨?_, min_le_left _ _, fun k hk => ?_⟩
  · unfold nextHi
    rcases min_choice hi (Finset.univ.fold min ⊤ fun k => if n < f (t k) then t k else m) with h | h
    · rw [h]; exact hhi
    · rcases fold_min_cases fun k => if n < f (t k) then t k else m with h' | ⟨k, h'⟩
      · rw [h', min_eq_left le_top]; exact hhi
      · rw [h']
        split_ifs with hk
        · rcases min_choice hi (t k) with e | e <;> rw [e] <;> assumption
        · rw [min_eq_left hm]; exact hhi
  · refine le_trans (min_le_right _ _) ?_
    refine le_trans (fold_le _ k) ?_
    rw [if_pos hk]

/-- The found threshold meets the count. -/
theorem found_spec {f : EReal → ℕ} (hf : Monotone f) {n : ℕ} {t : Fin 8 → EReal} {m : EReal} (hm : n < f m) {k : Fin 8}
    (hk : f (t k) = n) : f (found f n t m) = n := by
  have hle : found f n t m ≤ t k := (fold_le _ k).trans (by rw [if_pos hk])
  rcases fold_min_cases fun k => if f (t k) = n then t k else m with h | ⟨k', h⟩
  · rw [found, h] at hle
    have : f ⊤ = n := by rw [← top_le_iff.1 hle]; exact hk
    exact absurd (hf (le_top : m ≤ ⊤)) (by omega)
  · have e : found f n t m = _ := h
    rw [e]
    split_ifs with hk'
    · exact hk'
    · rw [e, if_neg hk'] at hle
      exact absurd (hf hle) (by omega)

/-- The bracket shrinks by this factor at every step that does not meet the count. -/
def rate : ℝ := 20000002 / 100000000

/-- What a row of the search satisfies after `s` steps. -/
structure Inv (f : EReal → ℕ) (n : ℕ) (s : ℕ) (lo hi tb dn : EReal) : Prop where
  real : ∃ l h : ℝ, lo = l ∧ hi = h ∧ 0 ≤ l ∧ h ≤ 17 ∧ (dn = 0 → h - l ≤ 17 * rate ^ s)
  below : f lo < n
  above : n < f hi
  flag : dn = 0 ∨ dn = 1 ∧ f tb = n

/-- One step keeps it. -/
theorem Inv.step {f : EReal → ℕ} (hf : Monotone f) {n s : ℕ} {lo hi tb dn : EReal} (I : Inv f n s lo hi tb dn)
    {t : Fin 8 → EReal} {m M a1 a2 a3 a4 : EReal} (em : m = ((-1000000000 : ℝ) : EReal)) (eM : M = ((1000000000 : ℝ) : EReal))
    (e1 : a1 = ((13421773 / 67108864 : ℝ) : EReal)) (e2 : a2 = ((13421773 / 33554432 : ℝ) : EReal))
    (e3 : a3 = ((5033165 / 8388608 : ℝ) : EReal)) (e4 : a4 = ((13421773 / 16777216 : ℝ) : EReal))
    (t0 : t 0 = lo + (hi - lo) * a1) (t1 : t 1 = lo + (hi - lo) * a2) (t2 : t 2 = lo + (hi - lo) * a3)
    (t3 : t 3 = lo + (hi - lo) * a4)
    {tb' dn' : EReal} (htb : tb' = if dn = 0 ∧ ∃ k, f (t k) = n then found f n t M else tb)
    (hdn : dn' = if ∃ k, f (t k) = n then 1 else dn) :
    Inv f n (s + 1) (nextLo f n t m lo) (nextHi f n t M hi) tb' dn' := by
  obtain ⟨⟨l, h, rfl, rfl, hl0, hh, hw⟩, hb, ha, hflag⟩ := I
  have hlo := nextLo_spec (f := f) (n := n) (t := t) (m := m) (lo := (l : EReal))
    (by rw [em]; exact_mod_cast (by linarith : (-1000000000 : ℝ) ≤ l)) hb
  have hhi := nextHi_spec (f := f) (n := n) (t := t) (m := M) (hi := (h : EReal))
    (by rw [eM]; exact_mod_cast (by linarith : h ≤ (1000000000 : ℝ))) ha
  have hM : n < f M := ha.trans_le (hf (by rw [eM]; exact_mod_cast (by linarith : h ≤ (1000000000 : ℝ))))
  set L := nextLo f n t m (l : EReal) with hL
  set H := nextHi f n t M (h : EReal) with hH
  have hLH : L < H := by
    by_contra hc
    exact absurd (hf (not_lt.1 hc)) (by omega)
  have hLt : L ≠ ⊤ := ne_top_of_lt hLH
  have hLb : L ≠ ⊥ := fun e => by
    have := hlo.2.1; rw [e] at this; exact (EReal.coe_ne_bot l) (le_bot_iff.1 this)
  have hHb : H ≠ ⊥ := ne_bot_of_gt hLH
  have hHt : H ≠ ⊤ := fun e => by
    have := hhi.2.1; rw [e] at this; exact (EReal.coe_ne_top h) (top_le_iff.1 this)
  obtain ⟨l', hl'⟩ : ∃ l' : ℝ, L = l' := ⟨L.toReal, (EReal.coe_toReal hLt hLb).symm⟩
  obtain ⟨h', hh'⟩ : ∃ h' : ℝ, H = h' := ⟨H.toReal, (EReal.coe_toReal hHt hHb).symm⟩
  refine ⟨⟨l', h', hl', hh', ?_, ?_, ?_⟩, hlo.1, hhi.1, ?_⟩
  · have := hlo.2.1; rw [hl'] at this; have : l ≤ l' := by exact_mod_cast this
    linarith
  · have := hhi.2.1; rw [hh'] at this; have : h' ≤ h := by exact_mod_cast this
    linarith
  · intro d0
    have hno : ¬ ∃ k, f (t k) = n := fun he => by rw [hdn, if_pos he] at d0; exact one_ne_zero d0
    have hd : dn = 0 := by rw [hdn, if_neg hno] at d0; exact d0
    have hw := hw hd
    have l1 : l ≤ l' := by have := hlo.2.1; rw [hl'] at this; exact_mod_cast this
    have h1 : h' ≤ h := by have := hhi.2.1; rw [hh'] at this; exact_mod_cast this
    have key : ∀ (k : Fin 8) (a : ℝ), t k = ((l : EReal) + (h - l) * (a : ℝ)) → l + (h - l) * a ≤ l' ∨ h' ≤ l + (h - l) * a := by
      intro k a e
      have e' : t k = ((l + (h - l) * a : ℝ) : EReal) := by rw [e]; norm_cast
      rcases lt_trichotomy (f (t k)) n with c | c | c
      · left; have := hlo.2.2 k c; rw [hl', e'] at this; exact_mod_cast this
      · exact absurd ⟨k, c⟩ hno
      · right; have := hhi.2.2 k c; rw [hh', e'] at this; exact_mod_cast this
    have k1 := key 0 _ (by rw [t0, e1])
    have k2 := key 1 _ (by rw [t1, e2])
    have k3 := key 2 _ (by rw [t2, e3])
    have k4 := key 3 _ (by rw [t3, e4])
    have hlh : l ≤ h := by
      have : (l' : EReal) < h' := by rw [← hl', ← hh']; exact hLH
      have : l' < h' := by exact_mod_cast this
      linarith
    have : h' - l' ≤ (h - l) * rate := by
      unfold rate
      rcases k1 with k1 | k1 <;> rcases k2 with k2 | k2 <;> rcases k3 with k3 | k3 <;> rcases k4 with k4 | k4 <;> nlinarith
    calc h' - l' ≤ (h - l) * rate := this
      _ ≤ (17 * rate ^ s) * rate := mul_le_mul_of_nonneg_right hw (by unfold rate; norm_num)
      _ = 17 * rate ^ (s + 1) := by rw [pow_succ]; ring
  · by_cases he : ∃ k, f (t k) = n
    · right
      refine ⟨by rw [hdn, if_pos he], ?_⟩
      rw [htb]
      split_ifs with hc
      · obtain ⟨k, hk⟩ := he
        exact found_spec hf hM hk
      · rcases hflag with c | c
        · exact absurd ⟨c, he⟩ hc
        · exact c.2
    · rw [hdn, if_neg he, htb, if_neg (fun c => he c.2)]
      exact hflag

/-- Twelve steps without meeting the count leave less than the gap. -/
theorem rate_small : 17 * rate ^ 12 < 14073749 / 140737488355328 := by unfold rate; norm_num

end Cert.Val

end
-- ==== Proof.Val.Srch1.lean ====
/-
The first search read at a row: its state is the bracketing search of the row's keys.
-/
module

public import proofs.«01_k».proof.Proof.Val.Bracket
public import proofs.«01_k».proof.Proof.Val.Below
public import proofs.«01_k».proof.Proof.KI.Select

@[expose] public noncomputable section
open Idealize.ShloMosaic Cert.Val

namespace Cert.KernelIdeal.Pf
open Cert.KernelIdeal.Gen

theorem cnt1_apply (v : FVec Ideal S16x3200 .f32) (s : Carry Ideal) (i : Fin 16) (k : Fin 8) :
    cnt1 v s (ix2 i k) = (((below v i (thr1 s (ix2 i k)) : ℕ) : ℝ) : EReal) := by
  fin_cases k <;> pointwise [cnt1, thr1, k2_pay76, k2_pay77, k2_pay74, k2_pay75] <;> exact sitofp_count (by norm_num) _

theorem thr1_0 (s : Carry Ideal) (i : Fin 16) :
    thr1 s (ix2 i 0) = s.2.1 (ix2 i 0) + (s.2.2.1 (ix2 i 0) - s.2.1 (ix2 i 0)) * Ideal.ofBits .f32 0x3E4CCCCD#32 := by
  pointwise [thr1, k2_pay76, k2_pay66, k2_pay64]

theorem thr1_1 (s : Carry Ideal) (i : Fin 16) :
    thr1 s (ix2 i 1) = s.2.1 (ix2 i 0) + (s.2.2.1 (ix2 i 0) - s.2.1 (ix2 i 0)) * Ideal.ofBits .f32 0x3ECCCCCD#32 := by
  pointwise [thr1, k2_pay76, k2_pay67, k2_pay64]

theorem thr1_2 (s : Carry Ideal) (i : Fin 16) :
    thr1 s (ix2 i 2) = s.2.1 (ix2 i 0) + (s.2.2.1 (ix2 i 0) - s.2.1 (ix2 i 0)) * Ideal.ofBits .f32 0x3F19999A#32 := by
  pointwise [thr1, k2_pay76, k2_pay68, k2_pay64]

theorem thr1_3 (s : Carry Ideal) (i : Fin 16) :
    thr1 s (ix2 i 3) = s.2.1 (ix2 i 0) + (s.2.2.1 (ix2 i 0) - s.2.1 (ix2 i 0)) * Ideal.ofBits .f32 0x3F4CCCCD#32 := by
  pointwise [thr1, k2_pay76, k2_pay69, k2_pay64]

theorem hit1_apply (v : FVec Ideal S16x3200 .f32) (s : Carry Ideal) (i : Fin 16) (k : Fin 8) :
    hit1 v s (ix2 i k) = BitVec.ofBool (decide (below v i (thr1 s (ix2 i k)) = 76)) := by
  have h : hit1 v s (ix2 i k) = BitVec.ofBool (decide (cnt1 v s (ix2 i k) = Ideal.ofBits .f32 0x42980000#32)) := by
    have e : hit1 v s = cmpf .oeq (cnt1 v s) (broadcast S16x8 (Scalar.ofBits .f32 0x42980000#32)) := rfl
    rw [e]
    pointwise
  refine h.trans (congrArg BitVec.ofBool (decide_eq_decide.2 ?_))
  simp only [cnt1_apply, lit_76, cast_eq_76]

theorem any1_apply (v : FVec Ideal S16x3200 .f32) (s : Carry Ideal) (i : Fin 16) :
    any1 v s (ix2 i 0) = BitVec.ofBool (decide (∃ k, below v i (thr1 s (ix2 i k)) = 76)) := by
  have h : any1 v s (ix2 i 0) = BitVec.ofBool (decide (0 < Finset.univ.fold max (Ideal.ofBits .f32 0xFF800000#32)
      fun k : Fin 8 => Scalar.select (hit1 v s (ix2 i k)) (1 : EReal) 0)) := by
    pointwise [any1, k2_pay79, hit1]
  rw [h, lit_bot]
  congr 2
  refine eq_iff_iff.2 ?_
  simp only [Finset.lt_fold_max, not_lt_bot, false_or, Finset.mem_univ, true_and, hit1_apply, sel_bit]
  refine exists_congr fun k => ?_
  split_ifs with h <;> simp [h]

theorem lo1_apply (v : FVec Ideal S16x3200 .f32) (s : Carry Ideal) (i : Fin 16) :
    (step1 v s).2.1 (ix2 i 0)
      = nextLo (below v i) 76 (fun k => thr1 s (ix2 i k)) (Ideal.ofBits .f32 0xCE6E6B28#32) (s.2.1 (ix2 i 0)) := by
  pointwise [step1, k2_pay7, k2_pay5]
  unfold nextLo
  rw [lit_bot]
  simp only [cnt1_apply, lit_76, cast_lt_76]

theorem hi1_apply (v : FVec Ideal S16x3200 .f32) (s : Carry Ideal) (i : Fin 16) :
    (step1 v s).2.2.1 (ix2 i 0)
      = nextHi (below v i) 76 (fun k => thr1 s (ix2 i k)) (Ideal.ofBits .f32 0x4E6E6B28#32) (s.2.2.1 (ix2 i 0)) := by
  pointwise [step1, k2_pay9, k2_pay6]
  unfold nextHi
  rw [lit_top]
  simp only [cnt1_apply, lit_76, «76_lt_cast»]

theorem tb1_apply (v : FVec Ideal S16x3200 .f32) (s : Carry Ideal) (i : Fin 16)
    (hd : s.2.2.2.2.2.2 (ix2 i 0) = 0 ∨ s.2.2.2.2.2.2 (ix2 i 0) = 1) :
    (step1 v s).2.2.2.2.2.1 (ix2 i 0)
      = if s.2.2.2.2.2.2 (ix2 i 0) = 0 ∧ ∃ k, below v i (thr1 s (ix2 i k)) = 76 then
          found (below v i) 76 (fun k => thr1 s (ix2 i k)) (Ideal.ofBits .f32 0x4E6E6B28#32)
        else s.2.2.2.2.2.1 (ix2 i 0) := by
  pointwise [step1, k2_pay3, k2_pay80]
  rw [any1_apply, lit_top, andi_bits, sel_bit]
  simp only [hit1_apply, sel_bit]
  have e : s.2.2.2.2.2.2 (ix2 i 0) < Ideal.ofBits FTy.f32 0x3F000000#32 ↔ s.2.2.2.2.2.2 (ix2 i 0) = 0 := lt_half hd
  simp only [e]
  rfl

theorem dn1_apply (v : FVec Ideal S16x3200 .f32) (s : Carry Ideal) (i : Fin 16)
    (hd : s.2.2.2.2.2.2 (ix2 i 0) = 0 ∨ s.2.2.2.2.2.2 (ix2 i 0) = 1) :
    (step1 v s).2.2.2.2.2.2 (ix2 i 0)
      = if ∃ k, below v i (thr1 s (ix2 i k)) = 76 then 1 else s.2.2.2.2.2.2 (ix2 i 0) := by
  pointwise [step1, k2_pay4]
  rw [any1_apply, sitofp_bit]
  rcases hd with hd | hd <;> rw [hd] <;> split_ifs <;> simp

/-- The state of row `i` after `n` steps. -/
def Row1 (v : FVec Ideal S16x3200 .f32) (n : ℕ) (s : Carry Ideal) (i : Fin 16) : Prop :=
  Inv (below v i) 76 n (s.2.1 (ix2 i 0)) (s.2.2.1 (ix2 i 0)) (s.2.2.2.2.2.1 (ix2 i 0)) (s.2.2.2.2.2.2 (ix2 i 0))

theorem Row1.step {v : FVec Ideal S16x3200 .f32} {n : ℕ} {s : Carry Ideal} {i : Fin 16} (I : Row1 v n s i) :
    Row1 v (n + 1) (step1 v s) i := by
  have hd : s.2.2.2.2.2.2 (ix2 i 0) = 0 ∨ s.2.2.2.2.2.2 (ix2 i 0) = 1 := I.flag.imp id And.left
  unfold Row1
  rw [lo1_apply, hi1_apply, tb1_apply v s i hd, dn1_apply v s i hd]
  exact Inv.step (below_mono v i) I lit_neg_big lit_big lit_fifth1 lit_fifth2 lit_fifth3 lit_fifth4
    (thr1_0 s i) (thr1_1 s i) (thr1_2 s i) (thr1_3 s i) rfl rfl

/-- When the search stops before its last step every row has met its count. -/
theorem stop1 {s : Carry Ideal} (hc : Scalar.cmpi .slt s.1 8#32 = 1#1) (h : ¬ more1 s = 1#1) (i : Fin 16)
    (hd : s.2.2.2.2.2.2 (ix2 i 0) = 0 ∨ s.2.2.2.2.2.2 (ix2 i 0) = 1) : s.2.2.2.2.2.2 (ix2 i 0) = 1 := by
  revert h
  pointwise [more1, k2_pay2]
  rw [hc, lit_top]
  intro h
  have h' := go_bit h
  rw [Finset.lt_fold_min] at h'
  have h2 := h'.2 (i, 0) (Finset.mem_univ _)
  rcases hd with hd | hd
  · exfalso
    simp only [hd] at h2
    rw [if_neg (by rw [lit_half]; exact not_lt.2 (by exact_mod_cast (by norm_num : (0 : ℝ) ≤ 1 / 2)))] at h2
    exact lt_irrefl _ h2
  · exact hd

/-- Where the search ends: a row's brackets hold, and a row that has not met its count took every step. -/
theorem loop1_row (v : FVec Ideal S16x3200 .f32) :
    ∀ (k : ℕ) (s : Carry Ideal), k ≤ 8 → s.1 = BitVec.ofNat 32 (8 - k) → ∀ i, Row1 v (8 - k) s i →
      ∃ n, Row1 v n (loop1 v k s) i ∧ ((loop1 v k s).2.2.2.2.2.2 (ix2 i 0) = 1 ∨ n = 8)
  | 0, s, _, _ => fun i h => ⟨8, h, .inr rfl⟩
  | k + 1, s, hk, hs => by
    intro i h
    rw [loop1]
    split_ifs with hm
    · refine loop1_row v k (step1 v s) (by omega) ?_ i ?_
      · show Scalar.addi s.1 1#32 = _
        rw [hs]
        exact count1 k hk
      · have := h.step
        rwa [show 8 - (k + 1) + 1 = 8 - k by omega] at this
    · have hc : Scalar.cmpi .slt s.1 8#32 = 1#1 := by
        rw [hs]
        have : ∀ k : Fin 8, Scalar.cmpi .slt (BitVec.ofNat 32 (8 - (k.val + 1))) 8#32 = 1#1 := by decide
        exact this ⟨k, by omega⟩
      exact ⟨_, h, .inl (stop1 hc hm i (h.flag.imp id And.left))⟩

/-- From an infinitely low bracket every probe is infinitely low. -/
theorem thr1_low (s : Carry Ideal) (i : Fin 16) (h : s.2.1 (ix2 i 0) = ⊥) (k : Fin 8) : thr1 s (ix2 i k) = ⊥ := by
  fin_cases k <;> pointwise [thr1, k2_pay76, k2_pay64, k2_pay65, k2_pay66, k2_pay67, k2_pay68, k2_pay69, k2_pay70, k2_pay71, k2_pay72, k2_pay73] <;>
    simp only [h, sub_eq_add_neg, EReal.bot_add]

/-- The state of a row whose lower bracket is infinitely low. -/
def Flat1 (s : Carry Ideal) (i : Fin 16) : Prop :=
  s.2.1 (ix2 i 0) = ⊥ ∧ s.2.2.1 (ix2 i 0) = ((17 : ℝ) : EReal) ∧ s.2.2.2.2.2.2 (ix2 i 0) = 0

/-- A step leaves such a row where it is. -/
theorem Flat1.step {s : Carry Ideal} {i : Fin 16} (h : Flat1 s i) (v : FVec Ideal S16x3200 .f32) : Flat1 (step1 v s) i := by
  obtain ⟨hl, hh, hd⟩ := h
  have h0 : below v i ⊥ = 0 := by
    rw [below, Finset.filter_false_of_mem fun _ _ => not_lt_bot, Finset.card_empty]
  refine ⟨?_, ?_, ?_⟩
  · rw [lo1_apply]
    simp only [nextLo, thr1_low s i hl, h0, hl, ite_self]
    exact le_bot_iff.1 (max_le le_rfl ((Finset.fold_max_le _).2 ⟨le_rfl, fun _ _ => by simp⟩))
  · rw [hi1_apply, hh]
    simp only [nextHi, thr1_low s i hl, h0, Nat.not_lt_zero, ↓reduceIte, lit_big]
    refine min_eq_left ((Finset.le_fold_min _).2 ⟨le_top, fun _ _ => ?_⟩)
    exact_mod_cast (by norm_num : (17 : ℝ) ≤ 1000000000)
  · rw [dn1_apply v s i (.inl hd)]
    simp [thr1_low s i hl, h0, hd]

/-- The search leaves such a row where it is. -/
theorem loop1_flat (v : FVec Ideal S16x3200 .f32) (i : Fin 16) : ∀ (k : ℕ) (s : Carry Ideal), Flat1 s i → Flat1 (loop1 v k s) i
  | 0, _, h => h
  | k + 1, s, h => by
    rw [loop1]
    split_ifs
    · exact loop1_flat v i k _ (h.step v)
    · exact h

end Cert.KernelIdeal.Pf

end
-- ==== Proof.Val.Srch2.lean ====
/-
The second search read at a row: its state is the bracketing search of the row's keys.
-/
module

public import proofs.«01_k».proof.Proof.Val.Bracket
public import proofs.«01_k».proof.Proof.Val.Below
public import proofs.«01_k».proof.Proof.KI.Select

@[expose] public noncomputable section
open Idealize.ShloMosaic Cert.Val

namespace Cert.KernelIdeal.Pf
open Cert.KernelIdeal.Gen

theorem cnt2_apply (v : FVec Ideal S16x102400 .f32) (s : Carry Ideal) (i : Fin 16) (k : Fin 8) :
    cnt2 v s (ix2 i k) = (((below v i (thr2 s (ix2 i k)) : ℕ) : ℝ) : EReal) := by
  fin_cases k <;> pointwise [cnt2, thr2, k2_pay93, k2_pay94, k2_pay91, k2_pay92] <;> exact sitofp_count (by norm_num) _

theorem thr2_0 (s : Carry Ideal) (i : Fin 16) :
    thr2 s (ix2 i 0) = s.2.1 (ix2 i 0) + (s.2.2.1 (ix2 i 0) - s.2.1 (ix2 i 0)) * Ideal.ofBits .f32 0x3E4CCCCD#32 := by
  pointwise [thr2, k2_pay93, k2_pay83, k2_pay81]

theorem thr2_1 (s : Carry Ideal) (i : Fin 16) :
    thr2 s (ix2 i 1) = s.2.1 (ix2 i 0) + (s.2.2.1 (ix2 i 0) - s.2.1 (ix2 i 0)) * Ideal.ofBits .f32 0x3ECCCCCD#32 := by
  pointwise [thr2, k2_pay93, k2_pay84, k2_pay81]

theorem thr2_2 (s : Carry Ideal) (i : Fin 16) :
    thr2 s (ix2 i 2) = s.2.1 (ix2 i 0) + (s.2.2.1 (ix2 i 0) - s.2.1 (ix2 i 0)) * Ideal.ofBits .f32 0x3F19999A#32 := by
  pointwise [thr2, k2_pay93, k2_pay85, k2_pay81]

theorem thr2_3 (s : Carry Ideal) (i : Fin 16) :
    thr2 s (ix2 i 3) = s.2.1 (ix2 i 0) + (s.2.2.1 (ix2 i 0) - s.2.1 (ix2 i 0)) * Ideal.ofBits .f32 0x3F4CCCCD#32 := by
  pointwise [thr2, k2_pay93, k2_pay86, k2_pay81]

theorem hit2_apply (v : FVec Ideal S16x102400 .f32) (s : Carry Ideal) (i : Fin 16) (k : Fin 8) :
    hit2 v s (ix2 i k) = BitVec.ofBool (decide (below v i (thr2 s (ix2 i k)) = 75)) := by
  have h : hit2 v s (ix2 i k) = BitVec.ofBool (decide (cnt2 v s (ix2 i k) = Ideal.ofBits .f32 0x42960000#32)) := by
    have e : hit2 v s = cmpf .oeq (cnt2 v s) (broadcast S16x8 (Scalar.ofBits .f32 0x42960000#32)) := rfl
    rw [e]
    pointwise
  refine h.trans (congrArg BitVec.ofBool (decide_eq_decide.2 ?_))
  simp only [cnt2_apply, lit_75, cast_eq_75]

theorem any2_apply (v : FVec Ideal S16x102400 .f32) (s : Carry Ideal) (i : Fin 16) :
    any2 v s (ix2 i 0) = BitVec.ofBool (decide (∃ k, below v i (thr2 s (ix2 i k)) = 75)) := by
  have h : any2 v s (ix2 i 0) = BitVec.ofBool (decide (0 < Finset.univ.fold max (Ideal.ofBits .f32 0xFF800000#32)
      fun k : Fin 8 => Scalar.select (hit2 v s (ix2 i k)) (1 : EReal) 0)) := by
    pointwise [any2, k2_pay96, hit2]
  rw [h, lit_bot]
  congr 2
  refine eq_iff_iff.2 ?_
  simp only [Finset.lt_fold_max, not_lt_bot, false_or, Finset.mem_univ, true_and, hit2_apply, sel_bit]
  refine exists_congr fun k => ?_
  split_ifs with h <;> simp [h]

theorem lo2_apply (v : FVec Ideal S16x102400 .f32) (s : Carry Ideal) (i : Fin 16) :
    (step2 v s).2.1 (ix2 i 0)
      = nextLo (below v i) 75 (fun k => thr2 s (ix2 i k)) (Ideal.ofBits .f32 0xCE6E6B28#32) (s.2.1 (ix2 i 0)) := by
  pointwise [step2, k2_pay16, k2_pay14]
  unfold nextLo
  rw [lit_bot]
  simp only [cnt2_apply, lit_75, cast_lt_75]

theorem hi2_apply (v : FVec Ideal S16x102400 .f32) (s : Carry Ideal) (i : Fin 16) :
    (step2 v s).2.2.1 (ix2 i 0)
      = nextHi (below v i) 75 (fun k => thr2 s (ix2 i k)) (Ideal.ofBits .f32 0x4E6E6B28#32) (s.2.2.1 (ix2 i 0)) := by
  pointwise [step2, k2_pay18, k2_pay15]
  unfold nextHi
  rw [lit_top]
  simp only [cnt2_apply, lit_75, «75_lt_cast»]

theorem tb2_apply (v : FVec Ideal S16x102400 .f32) (s : Carry Ideal) (i : Fin 16)
    (hd : s.2.2.2.2.2.2 (ix2 i 0) = 0 ∨ s.2.2.2.2.2.2 (ix2 i 0) = 1) :
    (step2 v s).2.2.2.2.2.1 (ix2 i 0)
      = if s.2.2.2.2.2.2 (ix2 i 0) = 0 ∧ ∃ k, below v i (thr2 s (ix2 i k)) = 75 then
          found (below v i) 75 (fun k => thr2 s (ix2 i k)) (Ideal.ofBits .f32 0x4E6E6B28#32)
        else s.2.2.2.2.2.1 (ix2 i 0) := by
  pointwise [step2, k2_pay12, k2_pay97]
  rw [any2_apply, lit_top, andi_bits, sel_bit]
  simp only [hit2_apply, sel_bit]
  have e : s.2.2.2.2.2.2 (ix2 i 0) < Ideal.ofBits FTy.f32 0x3F000000#32 ↔ s.2.2.2.2.2.2 (ix2 i 0) = 0 := lt_half hd
  simp only [e]
  rfl

theorem dn2_apply (v : FVec Ideal S16x102400 .f32) (s : Carry Ideal) (i : Fin 16)
    (hd : s.2.2.2.2.2.2 (ix2 i 0) = 0 ∨ s.2.2.2.2.2.2 (ix2 i 0) = 1) :
    (step2 v s).2.2.2.2.2.2 (ix2 i 0)
      = if ∃ k, below v i (thr2 s (ix2 i k)) = 75 then 1 else s.2.2.2.2.2.2 (ix2 i 0) := by
  pointwise [step2, k2_pay13]
  rw [any2_apply, sitofp_bit]
  rcases hd with hd | hd <;> rw [hd] <;> split_ifs <;> simp

/-- The state of row `i` after `n` steps. -/
def Row2 (v : FVec Ideal S16x102400 .f32) (n : ℕ) (s : Carry Ideal) (i : Fin 16) : Prop :=
  Inv (below v i) 75 n (s.2.1 (ix2 i 0)) (s.2.2.1 (ix2 i 0)) (s.2.2.2.2.2.1 (ix2 i 0)) (s.2.2.2.2.2.2 (ix2 i 0))

theorem Row2.step {v : FVec Ideal S16x102400 .f32} {n : ℕ} {s : Carry Ideal} {i : Fin 16} (I : Row2 v n s i) :
    Row2 v (n + 1) (step2 v s) i := by
  have hd : s.2.2.2.2.2.2 (ix2 i 0) = 0 ∨ s.2.2.2.2.2.2 (ix2 i 0) = 1 := I.flag.imp id And.left
  unfold Row2
  rw [lo2_apply, hi2_apply, tb2_apply v s i hd, dn2_apply v s i hd]
  exact Inv.step (below_mono v i) I lit_neg_big lit_big lit_fifth1 lit_fifth2 lit_fifth3 lit_fifth4
    (thr2_0 s i) (thr2_1 s i) (thr2_2 s i) (thr2_3 s i) rfl rfl

/-- When the search stops before its last step every row has met its count. -/
theorem stop2 {s : Carry Ideal} (hc : Scalar.cmpi .slt s.1 12#32 = 1#1) (h : ¬ more2 s = 1#1) (i : Fin 16)
    (hd : s.2.2.2.2.2.2 (ix2 i 0) = 0 ∨ s.2.2.2.2.2.2 (ix2 i 0) = 1) : s.2.2.2.2.2.2 (ix2 i 0) = 1 := by
  revert h
  pointwise [more2, k2_pay11]
  rw [hc, lit_top]
  intro h
  have h' := go_bit h
  rw [Finset.lt_fold_min] at h'
  have h2 := h'.2 (i, 0) (Finset.mem_univ _)
  rcases hd with hd | hd
  · exfalso
    simp only [hd] at h2
    rw [if_neg (by rw [lit_half]; exact not_lt.2 (by exact_mod_cast (by norm_num : (0 : ℝ) ≤ 1 / 2)))] at h2
    exact lt_irrefl _ h2
  · exact hd

/-- Where the search ends: a row's brackets hold, and a row that has not met its count took every step. -/
theorem loop2_row (v : FVec Ideal S16x102400 .f32) :
    ∀ (k : ℕ) (s : Carry Ideal), k ≤ 12 → s.1 = BitVec.ofNat 32 (12 - k) → ∀ i, Row2 v (12 - k) s i →
      ∃ n, Row2 v n (loop2 v k s) i ∧ ((loop2 v k s).2.2.2.2.2.2 (ix2 i 0) = 1 ∨ n = 12)
  | 0, s, _, _ => fun i h => ⟨12, h, .inr rfl⟩
  | k + 1, s, hk, hs => by
    intro i h
    rw [loop2]
    split_ifs with hm
    · refine loop2_row v k (step2 v s) (by omega) ?_ i ?_
      · show Scalar.addi s.1 1#32 = _
        rw [hs]
        exact count2 k hk
      · have := h.step
        rwa [show 12 - (k + 1) + 1 = 12 - k by omega] at this
    · have hc : Scalar.cmpi .slt s.1 12#32 = 1#1 := by
        rw [hs]
        have : ∀ k : Fin 12, Scalar.cmpi .slt (BitVec.ofNat 32 (12 - (k.val + 1))) 12#32 = 1#1 := by decide
        exact this ⟨k, by omega⟩
      exact ⟨_, h, .inl (stop2 hc hm i (h.flag.imp id And.left))⟩

/-- From an infinitely low bracket every probe is infinitely low. -/
theorem thr2_low (s : Carry Ideal) (i : Fin 16) (h : s.2.1 (ix2 i 0) = ⊥) (k : Fin 8) : thr2 s (ix2 i k) = ⊥ := by
  fin_cases k <;> pointwise [thr2, k2_pay93, k2_pay81, k2_pay82, k2_pay83, k2_pay84, k2_pay85, k2_pay86, k2_pay87, k2_pay88, k2_pay89, k2_pay90] <;>
    simp only [h, sub_eq_add_neg, EReal.bot_add]

/-- The state of a row whose lower bracket is infinitely low. -/
def Flat2 (s : Carry Ideal) (i : Fin 16) : Prop :=
  s.2.1 (ix2 i 0) = ⊥ ∧ s.2.2.1 (ix2 i 0) = ((17 : ℝ) : EReal) ∧ s.2.2.2.2.2.2 (ix2 i 0) = 0

/-- A step leaves such a row where it is. -/
theorem Flat2.step {s : Carry Ideal} {i : Fin 16} (h : Flat2 s i) (v : FVec Ideal S16x102400 .f32) : Flat2 (step2 v s) i := by
  obtain ⟨hl, hh, hd⟩ := h
  have h0 : below v i ⊥ = 0 := by
    rw [below, Finset.filter_false_of_mem fun _ _ => not_lt_bot, Finset.card_empty]
  refine ⟨?_, ?_, ?_⟩
  · rw [lo2_apply]
    simp only [nextLo, thr2_low s i hl, h0, hl, ite_self]
    exact le_bot_iff.1 (max_le le_rfl ((Finset.fold_max_le _).2 ⟨le_rfl, fun _ _ => by simp⟩))
  · rw [hi2_apply, hh]
    simp only [nextHi, thr2_low s i hl, h0, Nat.not_lt_zero, ↓reduceIte, lit_big]
    refine min_eq_left ((Finset.le_fold_min _).2 ⟨le_top, fun _ _ => ?_⟩)
    exact_mod_cast (by norm_num : (17 : ℝ) ≤ 1000000000)
  · rw [dn2_apply v s i (.inl hd)]
    simp [thr2_low s i hl, h0, hd]

/-- The search leaves such a row where it is. -/
theorem loop2_flat (v : FVec Ideal S16x102400 .f32) (i : Fin 16) : ∀ (k : ℕ) (s : Carry Ideal), Flat2 s i → Flat2 (loop2 v k s) i
  | 0, _, h => h
  | k + 1, s, h => by
    rw [loop2]
    split_ifs
    · exact loop2_flat v i k _ (h.step v)
    · exact h

end Cert.KernelIdeal.Pf

end
-- ==== Proof.Val.Mask.lean ====
/-
The two searches together: the mask they leave is the set of the 75 nearest rows.
-/
module

public import proofs.«01_k».proof.Proof.Val.Srch1
public import proofs.«01_k».proof.Proof.Val.Srch2

@[expose] public noncomputable section
open Idealize.ShloMosaic Cert.Val

namespace Cert.Val

/-- Two lower sets of one size are one set, when one of them is strictly below its complement. -/
theorem lower_eq {ι : Type} [DecidableEq ι] {key : ι → EReal} {A N : Finset ι}
    (hA : ∀ a ∈ A, ∀ b, b ∉ A → key a ≤ key b) (hN : ∀ a ∈ N, ∀ b, b ∉ N → key a < key b) (hc : A.card = N.card) : A = N := by
  refine Finset.eq_of_subset_of_card_le (fun a ha => ?_) hc.ge
  by_contra hn
  have : ¬ N ⊆ A := fun hs => hn (Finset.eq_of_subset_of_card_le hs hc.le ▸ ha)
  obtain ⟨b, hb, hb'⟩ := Finset.not_subset.1 this
  exact absurd (hA a ha b hb') (not_le.2 (hN b hb a hn))

/-- The threshold `T` has exactly 75 keys at or below it, and the others at least the gap above. -/
structure Edge {m : ℕ} (key : Fin m → EReal) (T : ℝ) : Prop where
  card : (Finset.univ.filter fun j => key j ≤ (T : EReal)).card = 75
  apart : ∀ j, key j ≤ (T : EReal) ∨ ((T + 14073749 / 140737488355328 : ℝ) : EReal) ≤ key j

/-- A search that met its count, or took all its steps, has met it. -/
theorem Edge.met {m : ℕ} {key : Fin m → EReal} {T : ℝ} (E : Edge key T) {f : EReal → ℕ}
    (hf : ∀ x, f x = (Finset.univ.filter fun j => key j < x).card) {n : ℕ} {lo hi tb dn : EReal}
    (I : Inv f 75 n lo hi tb dn) (he : dn = 1 ∨ n = 12) : dn = 1 ∧ f tb = 75 := by
  rcases I.flag with h0 | h1
  · exfalso
    rcases he with h1 | rfl
    · rw [h1] at h0; exact one_ne_zero h0
    obtain ⟨l, h, rfl, rfl, hl, hh, hw⟩ := I.real
    have hw := hw h0
    have hb := I.below
    have ha := I.above
    rw [hf] at hb ha
    have e1 : ∃ j, key j ≤ (T : EReal) ∧ (l : EReal) ≤ key j := by
      by_contra hc
      push Not at hc
      have := Finset.card_le_card (s := Finset.univ.filter fun j => key j ≤ (T : EReal)) (t := Finset.univ.filter fun j => key j < (l : EReal))
        (fun j hj => by simp only [Finset.mem_filter, Finset.mem_univ, true_and] at hj ⊢; exact hc j hj)
      rw [E.card] at this
      omega
    have e2 : ∃ j, ¬ key j ≤ (T : EReal) ∧ key j < (h : EReal) := by
      by_contra hc
      push Not at hc
      have := Finset.card_le_card (s := Finset.univ.filter fun j => key j < (h : EReal)) (t := Finset.univ.filter fun j => key j ≤ (T : EReal))
        (fun j hj => by
          simp only [Finset.mem_filter, Finset.mem_univ, true_and] at hj ⊢
          by_contra hn
          exact absurd (hc j (not_le.1 hn)) (not_le.2 hj))
      rw [E.card] at this
      omega
    obtain ⟨j, hj, hj'⟩ := e1
    obtain ⟨k, hk, hk'⟩ := e2
    have a1 : l ≤ T := by exact_mod_cast hj'.trans hj
    have a2 : T + 14073749 / 140737488355328 < h := by
      rcases E.apart k with c | c
      · exact absurd c hk
      · exact_mod_cast c.trans_lt hk'
    have := rate_small
    linarith
  · exact h1

/-- The keys below a threshold that meets the count are those at or below `T`. -/
theorem Edge.set {m : ℕ} {key : Fin m → EReal} {T : ℝ} (E : Edge key T) {x : EReal}
    (h : (Finset.univ.filter fun j => key j < x).card = 75) (j : Fin m) : key j < x ↔ key j ≤ (T : EReal) := by
  have := lower_eq (key := key) (A := Finset.univ.filter fun j => key j < x) (N := Finset.univ.filter fun j => key j ≤ (T : EReal))
    (fun a ha b hb => by
      simp only [Finset.mem_filter, Finset.mem_univ, true_and, not_lt] at ha hb
      exact ha.le.trans hb)
    (fun a ha b hb => by
      simp only [Finset.mem_filter, Finset.mem_univ, true_and, not_le] at ha hb
      exact ha.trans_lt hb) (h.trans E.card.symm)
  have hj := Finset.ext_iff.1 this j
  simpa only [Finset.mem_filter, Finset.mem_univ, true_and] using hj

/-- The key of chunk `c`'s member `r`. -/
def member (c : Fin 3200) (r : Fin 32) : Fin 102400 := ⟨c.val / 128 * 4096 + r.val * 128 + c.val % 128, by omega⟩

theorem member_inj {c c' : Fin 3200} {r r' : Fin 32} (h : member c r = member c' r') : c = c' := by
  have := congrArg Fin.val h
  simp only [member] at this
  ext
  omega

theorem member_surj (j : Fin 102400) : ∃ c r, member c r = j :=
  ⟨⟨j.val / 4096 * 128 + j.val % 128, by omega⟩, ⟨j.val % 4096 / 128, by omega⟩, by ext; simp only [member]; omega⟩

end Cert.Val

namespace Cert.KernelIdeal.Pf
open Cert.KernelIdeal.Gen

/-- A row of ordinary keys: none is negative, and the first of every chunk is at most 4. -/
def Plain (x0 : FVec Ideal S16x102400 .f32) (i : Fin 16) : Prop :=
  (∀ j, 0 ≤ x0 (ix2 i j)) ∧ ∀ c, x0 (ix2 i (member c 0)) ≤ ((4 : ℝ) : EReal)

/-- What the searches are given: keys with a wide enough gap, and the smallest key of every chunk. A row's keys are
ordinary, or those below 17 are infinitely low. -/
structure Good (x0 : FVec Ideal S16x102400 .f32) (x1 : FVec Ideal S16x3200 .f32) (T : Fin 16 → ℝ) : Prop where
  least : ∀ i c, x1 (ix2 i c) = Finset.univ.fold min ⊤ fun r : Fin 32 => x0 (ix2 i (member c r))
  kind : ∀ i, Plain x0 i ∨ ∀ j, x0 (ix2 i j) < ((17 : ℝ) : EReal) → x0 (ix2 i j) = ⊥
  top : ∀ i, T i ≤ 4
  edge : ∀ i, Edge (fun j => x0 (ix2 i j)) (T i)

variable {x0 : FVec Ideal S16x102400 .f32} {x1 : FVec Ideal S16x3200 .f32} {T : Fin 16 → ℝ}

theorem low_apply (x1 : FVec Ideal S16x3200 .f32) (i : Fin 16) :
    k2_pay23 (F := Ideal) x1 (ix2 i 0) = Finset.univ.fold min ⊤ fun c : Fin 3200 => x1 (ix2 i c) := by
  pointwise [k2_pay23, k2_pay21]
  rw [lit_top]

theorem Good.chunk_le (G : Good x0 x1 T) (i : Fin 16) (c : Fin 3200) (r : Fin 32) : x1 (ix2 i c) ≤ x0 (ix2 i (member c r)) := by
  rw [G.least]
  exact (Finset.fold_min_le _).2 (.inr ⟨r, Finset.mem_univ _, le_rfl⟩)

theorem Good.chunk_nonneg (G : Good x0 x1 T) {i : Fin 16} (P : Plain x0 i) (c : Fin 3200) : 0 ≤ x1 (ix2 i c) := by
  rw [G.least]
  exact (Finset.le_fold_min _).2 ⟨le_top, fun r _ => P.1 _⟩

theorem Good.low_le (G : Good x0 x1 T) (i : Fin 16) (c : Fin 3200) : k2_pay23 (F := Ideal) x1 (ix2 i 0) ≤ x1 (ix2 i c) := by
  rw [low_apply]
  exact (Finset.fold_min_le _).2 (.inr ⟨c, Finset.mem_univ _, le_rfl⟩)

theorem Good.low_real (G : Good x0 x1 T) {i : Fin 16} (P : Plain x0 i) : ∃ l : ℝ, k2_pay23 (F := Ideal) x1 (ix2 i 0) = (l : EReal) ∧ 0 ≤ l ∧ l ≤ 4 := by
  have h0 : 0 ≤ k2_pay23 (F := Ideal) x1 (ix2 i 0) := by
    rw [low_apply]
    exact (Finset.le_fold_min _).2 ⟨le_top, fun c _ => G.chunk_nonneg P c⟩
  have h4 : k2_pay23 (F := Ideal) x1 (ix2 i 0) ≤ ((4 : ℝ) : EReal) := ((G.low_le i 0).trans (G.chunk_le i 0 0)).trans (P.2 0)
  have e := EReal.coe_toReal (ne_top_of_le_ne_top (EReal.coe_ne_top 4) h4) (ne_bot_of_le_ne_bot EReal.zero_ne_bot h0)
  refine ⟨_, e.symm, ?_, ?_⟩
  · rw [← e] at h0; exact_mod_cast h0
  · rw [← e] at h4; exact_mod_cast h4

/-- The first search's start. -/
theorem Good.start1 (G : Good x0 x1 T) {i : Fin 16} (P : Plain x0 i) :
    Row1 (k2_pay21 (F := Ideal) x1) 0 (0#32, k2_pay23 (F := Ideal) x1, k2_pay24 (F := Ideal), k2_pay25 (F := Ideal), k2_pay26 (F := Ideal), k2_pay27 (F := Ideal), k2_pay28 (F := Ideal)) i := by
  obtain ⟨l, hl, h0, h4⟩ := G.low_real P
  have e24 : k2_pay24 (F := Ideal) (ix2 i 0) = ((17 : ℝ) : EReal) := by pointwise [k2_pay24]; exact lit_17
  have e28 : k2_pay28 (F := Ideal) (ix2 i 0) = 0 := by pointwise [k2_pay28]
  have e21 : ∀ c : Fin 3200, k2_pay21 (F := Ideal) x1 (ix2 i c) = x1 (ix2 i c) := fun c => by pointwise [k2_pay21]
  unfold Row1
  dsimp only
  rw [hl, e24, e28]
  refine ⟨⟨l, 17, rfl, rfl, h0, le_rfl, fun _ => ?_⟩, ?_, ?_, .inl rfl⟩
  · simp only [pow_zero]; linarith
  · rw [← hl, below, Finset.filter_false_of_mem]
    · simp
    · intro c _
      rw [e21]
      exact not_lt.2 (G.low_le i c)
  · rw [below, Finset.filter_true_of_mem]
    · simp
    · intro c _
      rw [e21]
      refine ((G.chunk_le i c 0).trans (P.2 c)).trans_lt ?_
      exact_mod_cast (by norm_num : (4 : ℝ) < 17)

/-- The threshold the first search leaves is real, at most 17, and has at least 76 chunks below it. -/
theorem Good.mid (G : Good x0 x1 T) {i : Fin 16} (P : Plain x0 i) :
    ∃ h : ℝ, k2_pay29 (F := Ideal) (final1 (F := Ideal) x1).2.2.1 (final1 (F := Ideal) x1).2.2.2.2.2.1 (final1 (F := Ideal) x1).2.2.2.2.2.2 (ix2 i 0) = (h : EReal) ∧ h ≤ 17
      ∧ 76 ≤ below (k2_pay21 (F := Ideal) x1) i h := by
  obtain ⟨n, I, -⟩ := loop1_row (k2_pay21 (F := Ideal) x1) 8 _ le_rfl rfl i (G.start1 P)
  change Row1 (k2_pay21 (F := Ideal) x1) n (final1 (F := Ideal) x1) i at I
  have e : k2_pay29 (F := Ideal) (final1 (F := Ideal) x1).2.2.1 (final1 (F := Ideal) x1).2.2.2.2.2.1 (final1 (F := Ideal) x1).2.2.2.2.2.2 (ix2 i 0)
      = if Ideal.ofBits .f32 0x3F000000#32 < (final1 (F := Ideal) x1).2.2.2.2.2.2 (ix2 i 0) then (final1 (F := Ideal) x1).2.2.2.2.2.1 (ix2 i 0) else (final1 (F := Ideal) x1).2.2.1 (ix2 i 0) := by
    pointwise [k2_pay29]
  rw [e]
  obtain ⟨l, h, hl, hh, h0, h17, -⟩ := I.real
  split_ifs with hd
  · have h1 : below (k2_pay21 (F := Ideal) x1) i ((final1 (F := Ideal) x1).2.2.2.2.2.1 (ix2 i 0)) = 76 := by
      rcases I.flag with c | c
      · rw [c, lit_half] at hd
        exact absurd hd (not_lt.2 (by exact_mod_cast (by norm_num : (0 : ℝ) ≤ 1 / 2)))
      · exact c.2
    have a := I.above
    have b := I.below
    have hlt : (final1 (F := Ideal) x1).2.2.2.2.2.1 (ix2 i 0) < (final1 (F := Ideal) x1).2.2.1 (ix2 i 0) := by
      by_contra hc
      have := below_mono (k2_pay21 (F := Ideal) x1) i (not_lt.1 hc)
      omega
    have hgt : (final1 (F := Ideal) x1).2.1 (ix2 i 0) < (final1 (F := Ideal) x1).2.2.2.2.2.1 (ix2 i 0) := by
      by_contra hc
      have := below_mono (k2_pay21 (F := Ideal) x1) i (not_lt.1 hc)
      omega
    have er := EReal.coe_toReal (ne_top_of_lt hlt) (ne_bot_of_gt hgt)
    refine ⟨_, er.symm, ?_, ?_⟩
    · rw [← er, hh] at hlt
      have : ((final1 (F := Ideal) x1).2.2.2.2.2.1 (ix2 i 0)).toReal < h := by exact_mod_cast hlt
      linarith
    · rw [er, h1]
  · refine ⟨h, hh, h17, ?_⟩
    rw [← hh]
    exact I.above.le

/-- As many keys as chunks lie below a threshold. -/
theorem Good.chunks_le_keys (G : Good x0 x1 T) (i : Fin 16) (x : EReal) : below (k2_pay21 (F := Ideal) x1) i x ≤ below (k2_pay20 (F := Ideal) x0) i x := by
  have e21 : ∀ c : Fin 3200, k2_pay21 (F := Ideal) x1 (ix2 i c) = x1 (ix2 i c) := fun c => by pointwise [k2_pay21]
  have e20 : ∀ c : Fin 102400, k2_pay20 (F := Ideal) x0 (ix2 i c) = x0 (ix2 i c) := fun c => by pointwise [k2_pay20]
  have hx : ∀ c : Fin 3200, x1 (ix2 i c) < x → ∃ r : Fin 32, x0 (ix2 i (member c r)) < x := fun c hc => by
    rw [G.least, Finset.fold_min_lt] at hc
    rcases hc with hc | ⟨r, -, hr⟩
    · exact absurd hc (not_lt.2 le_top)
    · exact ⟨r, hr⟩
  classical
  refine Finset.card_le_card_of_injOn (fun c => if h : x1 (ix2 i c) < x then member c (hx c h).choose else 0) ?_ ?_
  · intro c hc
    have hc' : x1 (ix2 i c) < x := by simpa [e21] using hc
    simp only [dif_pos hc']
    simpa [e20] using (hx c hc').choose_spec
  · intro c hc c' hc' he
    have h1 : x1 (ix2 i c) < x := by simpa [e21] using hc
    have h2 : x1 (ix2 i c') < x := by simpa [e21] using hc'
    simp only [dif_pos h1, dif_pos h2] at he
    exact member_inj he

/-- The second search's start. -/
theorem Good.start2 (G : Good x0 x1 T) {i : Fin 16} (P : Plain x0 i) :
    Row2 (k2_pay20 (F := Ideal) x0) 0 (0#32, k2_pay23 (F := Ideal) x1, k2_pay29 (F := Ideal) (final1 (F := Ideal) x1).2.2.1 (final1 (F := Ideal) x1).2.2.2.2.2.1 (final1 (F := Ideal) x1).2.2.2.2.2.2,
      k2_pay30 (F := Ideal), k2_pay31 (F := Ideal), k2_pay32 (F := Ideal), k2_pay33 (F := Ideal)) i := by
  obtain ⟨l, hl, h0, h4⟩ := G.low_real P
  obtain ⟨h, hh, h17, hc⟩ := G.mid P
  have e33 : k2_pay33 (F := Ideal) (ix2 i 0) = 0 := by pointwise [k2_pay33]
  have e20 : ∀ c : Fin 102400, k2_pay20 (F := Ideal) x0 (ix2 i c) = x0 (ix2 i c) := fun c => by pointwise [k2_pay20]
  unfold Row2
  dsimp only
  rw [hl, hh, e33]
  refine ⟨⟨l, h, rfl, rfl, h0, h17, fun _ => ?_⟩, ?_, ?_, .inl rfl⟩
  · simp only [pow_zero]; linarith
  · rw [← hl, below, Finset.filter_false_of_mem]
    · simp
    · intro j _
      obtain ⟨c, r, rfl⟩ := member_surj j
      rw [e20]
      exact not_lt.2 ((G.low_le i c).trans (G.chunk_le i c r))
  · have := G.chunks_le_keys i h
    omega

/-- A row with an infinitely low key: both searches end where they start, at an upper bracket of 17. -/
theorem Good.flat (G : Good x0 x1 T) {i : Fin 16} (h : ∀ j, x0 (ix2 i j) < ((17 : ℝ) : EReal) → x0 (ix2 i j) = ⊥) :
    Flat2 (final2 (F := Ideal) x0 x1) i := by
  have e24 : k2_pay24 (F := Ideal) (ix2 i 0) = ((17 : ℝ) : EReal) := by pointwise [k2_pay24]; exact lit_17
  have e28 : k2_pay28 (F := Ideal) (ix2 i 0) = 0 := by pointwise [k2_pay28]
  have e33 : k2_pay33 (F := Ideal) (ix2 i 0) = 0 := by pointwise [k2_pay33]
  have hlow : k2_pay23 (F := Ideal) x1 (ix2 i 0) = ⊥ := by
    have hne : (Finset.univ.filter fun j : Fin 102400 => x0 (ix2 i j) ≤ (T i : EReal)).Nonempty := by
      rw [← Finset.card_pos, (G.edge i).card]; norm_num
    obtain ⟨j, hj⟩ := hne
    have hj' : x0 (ix2 i j) = ⊥ := by
      refine h j ((Finset.mem_filter.1 hj).2.trans_lt ?_)
      have := G.top i
      exact_mod_cast (by linarith : T i < 17)
    obtain ⟨c, r, rfl⟩ := member_surj j
    exact le_bot_iff.1 (((G.low_le i c).trans (G.chunk_le i c r)).trans hj'.le)
  have S1 : Flat1 (0#32, k2_pay23 (F := Ideal) x1, k2_pay24 (F := Ideal), k2_pay25 (F := Ideal), k2_pay26 (F := Ideal), k2_pay27 (F := Ideal), k2_pay28 (F := Ideal)) i := by
    unfold Flat1
    dsimp only
    exact ⟨hlow, e24, e28⟩
  have F1 := loop1_flat (k2_pay21 (F := Ideal) x1) i 8 _ S1
  change Flat1 (final1 (F := Ideal) x1) i at F1
  suffices S2 : Flat2 (0#32, k2_pay23 (F := Ideal) x1, k2_pay29 (F := Ideal) (final1 (F := Ideal) x1).2.2.1 (final1 (F := Ideal) x1).2.2.2.2.2.1 (final1 (F := Ideal) x1).2.2.2.2.2.2,
      k2_pay30 (F := Ideal), k2_pay31 (F := Ideal), k2_pay32 (F := Ideal), k2_pay33 (F := Ideal)) i by
    have F2 := loop2_flat (k2_pay20 (F := Ideal) x0) i 12 _ S2
    exact F2
  unfold Flat2
  dsimp only
  refine ⟨hlow, ?_, e33⟩
  have e : k2_pay29 (F := Ideal) (final1 (F := Ideal) x1).2.2.1 (final1 (F := Ideal) x1).2.2.2.2.2.1 (final1 (F := Ideal) x1).2.2.2.2.2.2 (ix2 i 0)
      = if Ideal.ofBits .f32 0x3F000000#32 < (final1 (F := Ideal) x1).2.2.2.2.2.2 (ix2 i 0) then (final1 (F := Ideal) x1).2.2.2.2.2.1 (ix2 i 0) else (final1 (F := Ideal) x1).2.2.1 (ix2 i 0) := by
    pointwise [k2_pay29]
  refine e.trans ?_
  rw [F1.2.2, F1.2.1, if_neg]
  rw [lit_half]
  exact not_lt.2 (by exact_mod_cast (by norm_num : (0 : ℝ) ≤ 1 / 2))

theorem mask2_apply (x0 : FVec Ideal S16x102400 .f32) (x1 : FVec Ideal S16x3200 .f32) (i : Fin 16) (j : Fin 102400) :
    mask2 (F := Ideal) x0 x1 (ix2 i j) = BitVec.ofBool (decide (x0 (ix2 i j) < if Ideal.ofBits .f32 0x3F000000#32 < (final2 (F := Ideal) x0 x1).2.2.2.2.2.2 (ix2 i 0) then
      (final2 (F := Ideal) x0 x1).2.2.2.2.2.1 (ix2 i 0) else (final2 (F := Ideal) x0 x1).2.2.1 (ix2 i 0))) := by
  pointwise [mask2, k2_pay34, k2_pay20]

/-- The mask is the set of keys at or below the edge. -/
theorem Good.mask (G : Good x0 x1 T) (i : Fin 16) (j : Fin 102400) :
    mask2 (F := Ideal) x0 x1 (ix2 i j) = BitVec.ofBool (decide (x0 (ix2 i j) ≤ (T i : EReal))) := by
  rcases G.kind i with P | hi
  swap
  · have F2 := G.flat hi
    refine (mask2_apply x0 x1 i j).trans (congrArg BitVec.ofBool (decide_eq_decide.2 ?_))
    rw [F2.2.2, F2.2.1, if_neg (by rw [lit_half]; exact not_lt.2 (by exact_mod_cast (by norm_num : (0 : ℝ) ≤ 1 / 2)))]
    refine ⟨fun h => (hi j h).le.trans bot_le, fun h => h.trans_lt ?_⟩
    have := G.top i
    exact_mod_cast (by linarith : T i < 17)
  obtain ⟨n, I, hn⟩ := loop2_row (k2_pay20 (F := Ideal) x0) 12 _ le_rfl rfl i (G.start2 P)
  change Row2 (k2_pay20 (F := Ideal) x0) n (final2 (F := Ideal) x0 x1) i at I
  change (final2 (F := Ideal) x0 x1).2.2.2.2.2.2 (ix2 i 0) = 1 ∨ n = 12 at hn
  have e20 : ∀ c : Fin 102400, k2_pay20 (F := Ideal) x0 (ix2 i c) = x0 (ix2 i c) := fun c => by pointwise [k2_pay20]
  have hf : ∀ x, below (k2_pay20 (F := Ideal) x0) i x = (Finset.univ.filter fun j : Fin 102400 => x0 (ix2 i j) < x).card := fun x => by
    unfold below; simp only [e20]
  obtain ⟨h1, hc⟩ := (G.edge i).met hf I hn
  refine (mask2_apply x0 x1 i j).trans (congrArg BitVec.ofBool (decide_eq_decide.2 ?_))
  have hh : Ideal.ofBits .f32 0x3F000000#32 < (1 : EReal) := by rw [lit_half]; exact_mod_cast (by norm_num : (1 / 2 : ℝ) < 1)
  simp only [h1, hh, ↓reduceIte]
  rw [hf] at hc
  exact (G.edge i).set hc j

end Cert.KernelIdeal.Pf

end
-- ==== Proof.Val.Block.lean ====
/-
The third call's block, from keys with a gap: the answer over the true columns.
-/
module

public import proofs.«01_k».proof.Proof.Val.Count
public import proofs.«01_k».proof.Proof.Val.Mask

@[expose] public noncomputable section
open Idealize.ShloMosaic Cert.Val

namespace Cert.Val

/-- The width of the gap the threshold lies in. -/
abbrev gap : ℝ := 14073749 / 140737488355328

theorem ofBool_decide_iff (p : Prop) [Decidable p] : BitVec.ofBool (decide p) = 1#1 ↔ p := by
  by_cases h : p <;> simp [h]

/-- Padded columns that never count may be dropped. -/
theorem card_pad (P : Fin 102400 → Prop) (Q : Fin 100000 → Prop) [DecidablePred P] [DecidablePred Q]
    (h : ∀ j : Fin 100000, P ⟨j.val, by omega⟩ ↔ Q j) (h' : ∀ j : Fin 102400, P j → j.val < 100000) :
    (Finset.univ.filter P).card = (Finset.univ.filter Q).card := by
  refine (Finset.card_bij (fun (j : Fin 100000) _ => (⟨j.val, by omega⟩ : Fin 102400)) ?_ ?_ ?_).symm
  · intro j hj
    exact Finset.mem_filter.2 ⟨Finset.mem_univ _, (h j).2 (Finset.mem_filter.1 hj).2⟩
  · intro a _ b _ e
    exact Fin.ext (congrArg Fin.val e :)
  · intro j hj
    have hp := (Finset.mem_filter.1 hj).2
    exact ⟨⟨j.val, h' j hp⟩, Finset.mem_filter.2 ⟨Finset.mem_univ _, (h _).1 hp⟩, rfl⟩

/-- Distances with a threshold between the 75 smallest and the others. They lie between 0 and 4, or all are infinite. -/
structure Gap (D : Fin 100000 → EReal) (T : ℝ) : Prop where
  kind : (∀ j, ∃ d : ℝ, D j = d ∧ 0 ≤ d ∧ d ≤ 4) ∨ ∀ j, D j = ⊥ ∨ D j = ⊤
  top : T ≤ 4
  card : (Finset.univ.filter fun j => D j ≤ (T : EReal)).card = 75
  apart : ∀ j, D j ≤ (T : EReal) ∨ ((T + gap : ℝ) : EReal) ≤ D j

/-- How many of the 75 nearest rows have label `c`. -/
def votes (D : Fin 100000 → EReal) (T : ℝ) (lab : Fin 100000 → ℕ) (c : Fin 10) : ℕ :=
  (Finset.univ.filter fun j => D j ≤ (T : EReal) ∧ lab j = c).card

end Cert.Val

namespace Cert.KernelIdeal.Pf
open Cert.KernelIdeal.Gen

variable {x0 : FVec Ideal S16x102400 .f32} {x1 : FVec Ideal S16x3200 .f32} {x2 : IVec S1x102400 32} {D : Fin 16 → Fin 100000 → EReal} {T : Fin 16 → ℝ}
  {lab : Fin 100000 → ℕ}

/-- A padded column lies above the threshold. -/
theorem pad_gt {t : ℝ} (ht : t ≤ 4) : ((t + gap : ℝ) : EReal) ≤ Ideal.ofBits .f32 0x4E6E6B28#32 := by
  rw [lit_big, EReal.coe_le_coe_iff]
  norm_num [gap]
  linarith

theorem good_of (hx0 : ∀ r j, x0 (ix2 r j) = if h : j.val < 100000 then D r ⟨j.val, h⟩ else Ideal.ofBits .f32 0x4E6E6B28#32)
    (hx1 : ∀ r c, x1 (ix2 r c) = Finset.univ.fold min ⊤ fun s : Fin 32 => x0 (ix2 r (member c s))) (hD : ∀ r, Gap (D r) (T r)) : Good x0 x1 T where
  least := hx1
  kind r := by
    rcases (hD r).kind with hr | hr
    · refine .inl ⟨fun j => ?_, fun c => ?_⟩
      · rw [hx0]
        split_ifs with h
        · obtain ⟨d, hd, h0, -⟩ := hr ⟨j.val, h⟩
          rw [hd]; exact_mod_cast h0
        · rw [lit_big]; exact_mod_cast (by norm_num : (0 : ℝ) ≤ 1000000000)
      · have hm : (member c 0).val < 100000 := by
          have := c.isLt
          simp only [member, Fin.val_zero]
          omega
        rw [hx0, dif_pos hm]
        obtain ⟨d, hd, -, h4⟩ := hr ⟨_, hm⟩
        rw [hd]; exact_mod_cast h4
    · refine .inr fun j hj => ?_
      rw [hx0] at hj ⊢
      split_ifs at hj ⊢ with h
      · rcases hr ⟨j.val, h⟩ with e | e
        · exact e
        · rw [e] at hj; exact absurd hj not_top_lt
      · rw [lit_big, EReal.coe_lt_coe_iff] at hj
        norm_num at hj
  top r := (hD r).top
  edge r := by
    have key : ∀ j : Fin 102400, ¬ j.val < 100000 → ((T r + gap : ℝ) : EReal) ≤ x0 (ix2 r j) := fun j hj => by
      rw [hx0, dif_neg hj]; exact pad_gt (hD r).top
    refine ⟨?_, fun j => ?_⟩
    · rw [← (hD r).card]
      refine card_pad _ _ (fun j => ?_) fun j hj => ?_
      · rw [hx0, dif_pos j.isLt]
      · by_contra hn
        have h1 := (key j hn).trans hj
        rw [EReal.coe_le_coe_iff] at h1
        norm_num [gap] at h1
    · by_cases hj : j.val < 100000
      · simp only [hx0, dif_pos hj]
        exact (hD r).apart _
      · exact .inr (key j hj)

/-- The third call's block is the answer. -/
theorem block_value (hx0 : ∀ r j, x0 (ix2 r j) = if h : j.val < 100000 then D r ⟨j.val, h⟩ else Ideal.ofBits .f32 0x4E6E6B28#32)
    (hx1 : ∀ r c, x1 (ix2 r c) = Finset.univ.fold min ⊤ fun s : Fin 32 => x0 (ix2 r (member c s))) (hD : ∀ r, Gap (D r) (T r))
    (hx2 : ∀ j, x2 (ix2 0 j) = if h : j.val < 100000 then BitVec.ofNat 32 (lab ⟨j.val, h⟩) else 10#32) (hlab : ∀ j, lab j < 2 ^ 32)
    (x3 : IVec S1x1000 32) (r : Fin 16) (k : Fin 10) :
    creds2 (F := Ideal) x2 (mask2 (F := Ideal) x0 x1) x3 (ix2 r k) = answer (cred (votes (D r) (T r) lab) fun m => x3 (ix2 0 m)) k := by
  have G := good_of hx0 hx1 hD
  let lab' : Fin 102400 → ℕ := fun j => if h : j.val < 100000 then lab ⟨j.val, h⟩ else 10
  have hl' : ∀ j, lab' j < 2 ^ 32 := fun j => by
    simp only [lab']
    split_ifs with h
    · exact hlab _
    · norm_num
  have h2 : ∀ j, x2 (ix2 0 j) = BitVec.ofNat 32 (lab' j) := fun j => by
    rw [hx2]
    simp only [lab']
    split_ifs <;> rfl
  have hmask : ∀ j, mask2 (F := Ideal) x0 x1 (ix2 r j) = 1#1 ↔ x0 (ix2 r j) ≤ ((T r : ℝ) : EReal) := fun j => by
    rw [G.mask]
    exact ofBool_decide_iff _
  have hin : ∀ j : Fin 102400, x0 (ix2 r j) ≤ ((T r : ℝ) : EReal) → j.val < 100000 := fun j hj => by
    by_contra hn
    rw [hx0, dif_neg hn] at hj
    have h1 := (pad_gt (hD r).top).trans hj
    rw [EReal.coe_le_coe_iff] at h1
    norm_num [gap] at h1
  have hle : ∀ c, tally (mask2 (F := Ideal) x0 x1) lab' r c < 256 := fun c => by
    refine lt_of_le_of_lt (Finset.card_le_card (t := Finset.univ.filter fun j => x0 (ix2 r j) ≤ ((T r : ℝ) : EReal)) fun j hj => ?_) ?_
    · exact Finset.mem_filter.2 ⟨Finset.mem_univ _, (hmask j).1 (Finset.mem_filter.1 hj).2.1⟩
    · rw [(G.edge r).card]; norm_num
  have hN : (fun c : Fin 10 => tally (mask2 (F := Ideal) x0 x1) lab' r c) = votes (D r) (T r) lab := funext fun c => by
    unfold tally votes
    refine card_pad _ _ (fun j => ?_) fun j hj => hin j ((hmask j).1 hj.1)
    rw [hmask, hx0, dif_pos j.isLt]
    simp only [lab', j.isLt, ↓reduceDIte]
  rw [creds2_apply x2 _ x3 lab' hl' h2 r hle k, hN]

end Cert.KernelIdeal.Pf

end
-- ==== Proof.Val.Given.lean ====
/-
What the precondition gives: a threshold for every query.
-/
module

public import proofs.«01_k».proof.Proof.Val.PreRead
public import proofs.«01_k».proof.Proof.Val.Geo
public import proofs.«01_k».proof.Proof.Val.Block

@[expose] public noncomputable section
open Idealize.ShloMosaic Cert.Val

namespace Cert.Pre_separated

variable [Facts]
open Facts

/-- Every query has a threshold in a gap. -/
theorem given (q : FVec Ideal S1024x128 .f32) (t : FVec Ideal S100000x128 .f32) (l : IVec S100000 32) (w : IVec S1000 32)
    (h : fn (F := Ideal) q t l w = fun _ => 1#1) : ∃ T : Fin 1024 → ℝ, ∀ i, Gap (d2 (rows q) (rows t) i) (T i) := by
  rw [fn_eq] at h
  have hA := fun i j => test_apply _ _ _ i j (congrFun h (ix2 i j))
  have hc : ∀ i, (Finset.univ.filter fun j => d2 (rows q) (rows t) i j ≤ edge (dist q t) (ix2 i 0)).card = 75 := fun i => by
    have := howMany_apply _ _ i (hA i 0).2
    simp only [dist_apply] at this
    exact this
  have hg : ∀ i, ∃ T : ℝ, Gap (d2 (rows q) (rows t) i) T := fun i => by
    rcases d2_kind (rows q) (rows t) i with hd | hd
    · obtain ⟨T, hT, hT4⟩ := edge_real (by norm_num) hd (hc i)
      refine ⟨T, .inl hd, hT4, ?_, fun j => ?_⟩
      · rw [← hT]; exact hc i
      · have := (hA i j).1
        rw [dist_apply, hT, lit_gap] at this
        rcases this with h | h
        · exact .inl h
        · exact .inr (by rw [EReal.coe_add]; exact h)
    · refine ⟨0, .inr hd, by norm_num, edge_inf (by norm_num) hd (hc i), fun j => ?_⟩
      rcases hd j with h | h <;> rw [h]
      · exact .inl bot_le
      · exact .inr le_top
  choose T hT using hg
  exact ⟨T, hT⟩

end Cert.Pre_separated

end
-- ==== Proof.Val.Reg0.lean ====
/-
What the first call leaves: the normalized training rows, and eight partial column sums.
-/
module

public import proofs.«01_k».proof.Proof.Val.Spec
public import proofs.«01_k».proof.Proof.KI.Norm
public import Idealize.ShloMosaic.Lib.Pipeline.ValueKit

@[expose] public noncomputable section
set_option maxRecDepth 16384
open Idealize.ShloMosaic Idealize.ShloMosaic.TcCoe Idealize.SL.Sem Cert.Val
open Idealize.ShloMosaic.Pipeline (Dat)

namespace Cert.KernelIdeal.Pf
open Cert.KernelIdeal Cert.KernelIdeal.Gen

variable (V : (c : Dev nD) → (b : Ref sig .tc) → Buf (Elt Ideal) ((c : Thread nD τ).loc b))

theorem idx0 : ∀ t : Fin (cfg0 (F := Ideal)).N, win0_0.index t = ![t.val, 0] ∧ win0_1.index t = ![t.val, 0] ∧ win0_2.index t = ![0, 0] ∧ t.val < 125 :=
  (by decide +kernel : ∀ t : Fin grid0.N, win0_0.index t = ![t.val, 0] ∧ win0_1.index t = ![t.val, 0] ∧ win0_2.index t = ![0, 0] ∧ t.val < 125)

/-- The training rows as the first call finds them. -/
abbrev train (c : Dev nD) : FVec Ideal S100000x128 .f32 := V c main_arg1

theorem pay1_apply (x : FVec Ideal S800x128 .f32) (r : Fin 800) (k : Fin 128) :
    k0_pay1 (F := Ideal) x (ix2 r k) = unit (rows x) r k := by
  pointwise [k0_pay1]
  rfl

theorem pay2_apply (x : FVec Ideal S800x128 .f32) (s : Fin 8) (k : Fin 128) :
    k0_pay2 (F := Ideal) x (ix2 s k) = ∑ a : Fin 100, unit (rows x) ⟨a.val * 8 + s.val, by omega⟩ k := by
  have e : k0_pay2 (F := Ideal) x (ix2 s k) = ∑ a : Fin 100, k0_pay1 (F := Ideal) x (ix2 ⟨a.val * 8 + s.val, by omega⟩ k) := by
    pointwise [k0_pay2]
  rw [e]
  exact Finset.sum_congr rfl fun a _ => pay1_apply x _ k

theorem pay3_apply (x : FVec Ideal S800x128 .f32) (acc : FVec Ideal S8x128 .f32) (y) :
    k0_pay3 (F := Ideal) x acc y = acc y + k0_pay2 (F := Ideal) x y := by
  pointwise [k0_pay3]

/-- Row `r` of the block of point `t` is row `800 t + r`. -/
theorem blk0_unit (c : Dev nD) (t : Fin (cfg0 (F := Ideal)).N) (r : Fin 800) (k : Fin 128) (h : t.val * 800 + r.val < 100000) :
    unit (rows (show FVec Ideal S800x128 .f32 from iblk0 V c 0 t)) r k = unit (rows (train V c)) ⟨t.val * 800 + r.val, h⟩ k := by
  have e : ∀ k, rows (show FVec Ideal S800x128 .f32 from iblk0 V c 0 t) r k = rows (train V c) ⟨t.val * 800 + r.val, h⟩ k := fun k => by
    unfold rows
    blk_ext [iblk0, idx0 t]
  unfold unit len
  simp only [e]

/-- The stored row at an index of the block, as an index of the array. -/
theorem pt1 (c : Dev nD) (t : Fin (cfg0 (F := Ideal)).N) (y : S800x128.Idx) (i : S102400x128.Idx) (h0 : (i 0).val = t.val * 800 + (y 0).val)
    (h1 : (i 1).val = (y 1).val) (h : (i 0).val < 100000) :
    k0_pay1 (F := Ideal) (iblk0 V c 0 t) y = unit (rows (train V c)) ⟨(i 0).val, h⟩ (i 1) := by
  have hy : y = ix2 (show Fin 800 from y 0) (show Fin 128 from y 1) := by blk_ext
  have e1 : (i 1 : Fin 128) = (y 1 : Fin 128) := Fin.ext h1
  have e0 : (⟨(i 0).val, h⟩ : Fin 100000) = ⟨t.val * 800 + (show Fin 800 from y 0).val, h0 ▸ h⟩ := Fin.ext h0
  rw [e0]
  refine Eq.trans (congrArg _ hy) ((pay1_apply _ _ _).trans ((blk0_unit V c t _ _ (h0 ▸ h)).trans ?_))
  exact congrArg _ e1.symm

theorem pt2 (c : Dev nD) (t : Fin (cfg0 (F := Ideal)).N) (y i : S8x128.Idx) (s : Fin 125) (ht : t.val = s.val) (h0 : (i 0).val = (y 0).val) (h1 : (i 1).val = (y 1).val) :
    k0_pay2 (F := Ideal) (iblk0 V c 0 t) y = ∑ a : Fin 100, unit (rows (train V c)) ⟨s.val * 800 + (a.val * 8 + (show Fin 8 from i 0).val), by have := (show Fin 8 from i 0).isLt; omega⟩ (i 1) := by
  have hy : y = ix2 (show Fin 8 from i 0) (show Fin 128 from i 1) := by
    funext a
    fin_cases a
    · exact Fin.ext h0.symm
    · exact Fin.ext h1.symm
  refine (congrArg _ hy).trans ((pay2_apply _ _ _).trans (Finset.sum_congr rfl fun a _ => ?_))
  have hb := (show Fin 8 from i 0).isLt
  refine (blk0_unit V c t _ _ (by have h2 := s.isLt; have h3 := a.isLt; change t.val * 800 + (a.val * 8 + (show Fin 8 from i 0).val) < 100000; omega)).trans ?_
  congr 1
  exact Fin.ext (by change t.val * 800 + (a.val * 8 + _) = s.val * 800 + (a.val * 8 + _); rw [ht])

/-- The normalized training rows after the first call. -/
theorem norm_rows (c : Dev nD) (i : S102400x128.Idx) (h : (i 0).val < 100000) :
    (show FVec Ideal S102400x128 .f32 from (dat0 V c).arrAt 1 (cfg0 (F := Ideal)).N) i = unit (rows (train V c)) ⟨(i 0).val, h⟩ (i 1) := by
  refine (dat0 V c).arrAt_forall_of_coversWhere 1
    (fun (i : S102400x128.Idx) (v : EReal) => ∀ h : (i 0).val < 100000, v = unit (rows (train V c)) ⟨(i 0).val, h⟩ (i 1))
    (fun β => β 0 < 125) (by decide +kernel) (fun t hf y h => ?_) (fun j hj h => ?_) i (by exact Memref.isWhole_whole _) h
  · blk_simp
    rw [after0_1]
    unfold out0_1
    frame_out
    refine (pt1 V c t y (((cfg0.win 1).blk t).view.emb y) ?_ ?_ h).trans ?_ <;> blk_simp [idx0 t]
  · exfalso
    blk_simp [Pipeline.Window.cell_apply] at hj
    have : (j 0).val < 100000 := h
    omega

/-- The column sums after the first call. -/
def sums (c : Dev nD) : FVec Ideal S8x128 .f32 := fun y =>
  ∑ t : Fin 125, ∑ a : Fin 100, unit (rows (train V c)) ⟨t.val * 800 + (a.val * 8 + (show Fin 8 from y 0).val), by have := (show Fin 8 from y 0).isLt; omega⟩ (y 1)

theorem col_sums (c : Dev nD) : (dat0 V c).arrAt 2 (cfg0 (F := Ideal)).N = sums V c := by
  refine (dat0 V c).arrAt_eq_of_covers 2 _ (by decide +kernel) fun t hf y => ?_
  blk_simp
  rw [after0_2, Pipeline.eq_sum_fin_of_reset_step_apply_of_flush (fun n h => acc0 V c n h) 125 (fun _ => (0 : EReal))
    (fun t j => k0_pay2 (F := Ideal) (iblk0 V c 0 t) j)
    (fun t h j => by rw [acc0_zero V c t (by have := (idx0 t).2.2.2; omega)]; unfold first0; frame_out; rw [zero_add])
    (fun t h j => by rw [acc0_succ V c t (by omega)]; unfold next0; frame_out; rw [pay3_apply])
    t ((flush0_2 t).mp hf) _, zero_add]
  refine Fin.sum_fin_congr fun s => ?_
  refine pt2 V c _ y _ s ?_ ?_ ?_
  · have := (idx0 t).2.2.2
    simp only
    omega
  all_goals blk_simp [idx0 t]

/-- The eight partial sums add up to the sum of all rows. -/
theorem sums_total (c : Dev nD) (k : Fin 128) : ∑ s : Fin 8, sums V c (ix2 s k) = ∑ j, unit (rows (train V c)) j k := by
  have e : ∀ s : Fin 8, sums V c (ix2 s k) = ∑ t : Fin 125, ∑ a : Fin 100, unit (rows (train V c)) ⟨t.val * 800 + (a.val * 8 + s.val), by omega⟩ k := fun s => rfl
  simp only [e]
  rw [Finset.sum_comm]
  have e2 : ∀ t : Fin 125, ∑ s : Fin 8, ∑ a : Fin 100, unit (rows (train V c)) ⟨t.val * 800 + (a.val * 8 + s.val), by omega⟩ k
      = ∑ r : Fin 800, unit (rows (train V c)) ⟨t.val * 800 + r.val, by omega⟩ k := fun t => by
    rw [Finset.sum_comm]
    exact Fin.sum_mul_add_congr fun s k hl => rfl
  simp only [e2]
  exact Fin.sum_mul_add_congr fun s k hl => rfl

end Cert.KernelIdeal.Pf

end
-- ==== Proof.Val.Reg1.lean ====
/-
What the second call leaves: the squared distances, a large number in the padding, and each lane class's smallest.
-/
module

public import proofs.«01_k».proof.Proof.Val.Mask
public import proofs.«01_k».proof.Proof.Val.Spec
public import proofs.«01_k».proof.Proof.KI.Dist
public import Idealize.ShloMosaic.Lib.Pipeline.ValueKit

@[expose] public noncomputable section
set_option maxRecDepth 16384
open Idealize.ShloMosaic Idealize.ShloMosaic.TcCoe Idealize.SL.Sem Cert.Val
open Idealize.ShloMosaic.Pipeline (Dat)

namespace Cert.KernelIdeal.Pf
open Cert.KernelIdeal Cert.KernelIdeal.Gen

/-- A row less the center, from the eight partial sums. -/
def cent (x0 : FVec Ideal S8x128 .f32) (k : Fin 128) : EReal := Ideal.div (∑ s : Fin 8, x0 (ix2 s k)) (Ideal.ofBits .f32 0x47C35000#32)

/-- One squared distance from a query row, a normalized row and the center. -/
def sq (q : Fin 128 → EReal) (u : Fin 128 → EReal) (c : Fin 128 → EReal) : EReal :=
  (∑ k, (Ideal.div (q k) (Ideal.sqrt (∑ k, q k * q k)) - c k) * (Ideal.div (q k) (Ideal.sqrt (∑ k, q k * q k)) - c k))
    - Ideal.ofBits .f32 0x40000000#32 * (∑ k, (Ideal.div (q k) (Ideal.sqrt (∑ k, q k * q k)) - c k) * (u k - c k))
    + ∑ k, (u k - c k) * (u k - c k)

theorem pad_bit (a b : ℕ) (ha : a < 25) (hb : b < 4096) :
    IntOp.cmpi .slt (IntOp.addi (Scalar.muli (BitVec.ofNat 32 a) 4096#32) (BitVec.ofNat 32 b)) 100000#32 = BitVec.ofBool (decide (a * 4096 + b < 100000)) := by
  have e : IntOp.addi (Scalar.muli (BitVec.ofNat 32 a) 4096#32) (BitVec.ofNat 32 b) = BitVec.ofNat 32 (a * 4096 + b) := by
    show BitVec.ofNat 32 a * BitVec.ofNat 32 4096 + BitVec.ofNat 32 b = _
    rw [← BitVec.ofNat_mul, ← BitVec.ofNat_add]
  rw [e]
  show BitVec.ofBool (decide ((BitVec.ofNat 32 (a * 4096 + b)).toInt < (BitVec.ofNat 32 100000).toInt)) = _
  rw [StableHlo.Predicate.toInt_ofNat_small _ (by omega), StableHlo.Predicate.toInt_ofNat_small _ (by omega)]
  refine congrArg BitVec.ofBool (decide_eq_decide.2 ?_)
  omega

theorem keys_apply (i : grid1.Coords) (v0 : FVec Ideal S8x128 .f32) (v6 : FVec Ideal S256x128 .f32) (v18 : FVec Ideal S4096x128 .f32) (r : Fin 256) (j : Fin 4096) :
    k1_pay2 (F := Ideal) i v0 v6 v18 (ix2 r j)
      = if (i 1).val * 4096 + j.val < 100000 then sq (rows v6 r) (rows v18 j) (cent v0) else Ideal.ofBits .f32 0x4E6E6B28#32 := by
  have e : k1_pay2 (F := Ideal) i v0 v6 v18 (ix2 r j)
      = Scalar.select (IntOp.cmpi .slt (IntOp.addi (Scalar.muli (BitVec.ofNat 32 (i 1).val) 4096#32) (BitVec.ofNat 32 j.val)) 100000#32)
          (sq (rows v6 r) (rows v18 j) (cent v0)) (Ideal.ofBits .f32 0x4E6E6B28#32) := by
    pointwise [k1_pay2]
    rfl
  have hi : (i 1).val < 25 := (i 1).isLt
  rw [e, pad_bit _ _ hi j.isLt, sel_bit]

theorem mins_apply (x : FVec Ideal S256x4096 .f32) (r : Fin 256) (l : Fin 128) :
    k1_pay1 (F := Ideal) x (ix2 r l) = Finset.univ.fold min ⊤ fun s : Fin 32 => x (ix2 r ⟨s.val * 128 + l.val, by omega⟩) := by
  rw [← lit_top]
  pointwise [k1_pay1]

variable (V : (c : Dev nD) → (b : Ref sig .tc) → Buf (Elt Ideal) ((c : Thread nD τ).loc b))

theorem idx1 : ∀ t : Fin (cfg1 (F := Ideal)).N, win1_0.index t = ![t.val / 25, 0] ∧ win1_1.index t = ![t.val % 25, 0] ∧ win1_2.index t = ![0, 0]
      ∧ win1_3.index t = ![t.val / 25, t.val % 25] ∧ win1_4.index t = ![t.val / 25, t.val % 25] ∧ (grid1.coords t 1).val = t.val % 25 ∧ t.val < 100 :=
  (by decide +kernel : ∀ t : Fin grid1.N, win1_0.index t = ![t.val / 25, 0] ∧ win1_1.index t = ![t.val % 25, 0] ∧ win1_2.index t = ![0, 0]
      ∧ win1_3.index t = ![t.val / 25, t.val % 25] ∧ win1_4.index t = ![t.val / 25, t.val % 25] ∧ (grid1.coords t 1).val = t.val % 25 ∧ t.val < 100)

/-- The second call's keys over its three arrays. -/
def keys (q : FVec Ideal S1024x128 .f32) (u : FVec Ideal S102400x128 .f32) (s : FVec Ideal S8x128 .f32) : FVec Ideal S1024x102400 .f32 := fun i =>
  if (i 1).val < 100000 then sq (rows q (i 0)) (rows u (i 1)) (cent s) else Ideal.ofBits .f32 0x4E6E6B28#32

/-- The smallest key of every lane class. -/
def mins (q : FVec Ideal S1024x128 .f32) (u : FVec Ideal S102400x128 .f32) (s : FVec Ideal S8x128 .f32) : FVec Ideal S1024x3200 .f32 := fun i =>
  Finset.univ.fold min ⊤ fun r : Fin 32 => keys q u s (ix2 (show Fin 1024 from i 0) (member (show Fin 3200 from i 1) r))

theorem pt3 (c : Dev nD) (t : Fin (cfg1 (F := Ideal)).N) (r : Fin 256) (j : Fin 4096) (i : S1024x102400.Idx)
    (h0 : (i 0).val = t.val / 25 * 256 + r.val) (h1 : (i 1).val = t.val % 25 * 4096 + j.val) :
    k1_pay2 (F := Ideal) (grid1.coords t) (iblk1 V c 2 t) (iblk1 V c 0 t) (iblk1 V c 1 t) (ix2 r j)
      = keys (V c main_arg0) (V c main_v0_0) (V c main_v0_1) i := by
  refine (keys_apply (grid1.coords t) (iblk1 V c 2 t) (iblk1 V c 0 t) (iblk1 V c 1 t) r j).trans ?_
  have e0 : rows (show FVec Ideal S256x128 .f32 from iblk1 V c 0 t) r = rows (show FVec Ideal S1024x128 .f32 from V c main_arg0) (i 0) := funext fun k => by
    unfold rows
    blk_ext [iblk1, idx1 t]
  have e1 : rows (show FVec Ideal S4096x128 .f32 from iblk1 V c 1 t) j = rows (show FVec Ideal S102400x128 .f32 from V c main_v0_0) (i 1) := funext fun k => by
    unfold rows
    blk_ext [iblk1, idx1 t]
  have e2 : (show FVec Ideal S8x128 .f32 from iblk1 V c 2 t) = V c main_v0_1 := by
    blk_ext! [iblk1, idx1 t]
  have hg : (grid1.coords t 1).val = t.val % 25 := (idx1 t).2.2.2.2.2.1
  unfold keys
  rw [h1, hg]
  refine if_congr Iff.rfl ?_ rfl
  exact congr (congr (congrArg sq e0) e1) (congrArg cent e2)

/-- The keys after the second call. -/
theorem keys_arr (c : Dev nD) : (dat1 V c).arrAt 3 (cfg1 (F := Ideal)).N = keys (V c main_arg0) (V c main_v0_0) (V c main_v0_1) := by
  refine (dat1 V c).arrAt_eq_of_covers 3 _ (by decide +kernel) fun t hf y => ?_
  blk_simp
  rw [after1_3]
  unfold out1_3 k1_pay3
  frame_out
  have hy : y = ix2 (show Fin 256 from y 0) (show Fin 4096 from y 1) := by blk_ext
  refine (congrArg _ hy).trans (pt3 V c t _ _ _ ?_ ?_) <;> blk_simp [idx1 t]

/-- The smallest keys after the second call. -/
theorem mins_arr (c : Dev nD) : (dat1 V c).arrAt 4 (cfg1 (F := Ideal)).N = mins (V c main_arg0) (V c main_v0_0) (V c main_v0_1) := by
  refine (dat1 V c).arrAt_eq_of_covers 4 _ (by decide +kernel) fun t hf y => ?_
  blk_simp
  rw [after1_4]
  unfold out1_4 k1_pay3
  frame_out
  have hy : y = ix2 (show Fin 256 from y 0) (show Fin 128 from y 1) := by blk_ext
  refine (congrArg _ hy).trans ((mins_apply _ _ _).trans ?_)
  unfold mins
  refine Finset.fold_congr fun s _ => ?_
  refine pt3 V c t _ _ _ ?_ ?_
  · blk_simp [idx1 t]
  · blk_simp [member, idx1 t]
    have hb : (y 1 : ℕ) < 128 := (show Fin 128 from y 1).isLt
    dsimp only
    omega

end Cert.KernelIdeal.Pf

end
-- ==== Proof.Val.Reg2.lean ====
/-
What the third call leaves, from the arrays of the first two: the answer of every query.
-/
module

public import proofs.«01_k».proof.Proof.Val.Block
public import proofs.«01_k».proof.Proof.Val.Reg0
public import proofs.«01_k».proof.Proof.Val.Reg1
public import proofs.«01_k».proof.Proof.KI.Run
public import Idealize.ShloMosaic.Lib.Claim

@[expose] public noncomputable section
set_option maxRecDepth 16384
open Idealize.ShloMosaic Idealize.ShloMosaic.TcCoe Idealize.SL.Sem Cert.Val
open Idealize.ShloMosaic.Pipeline (Dat)

namespace Cert.KernelIdeal.Pf
open Cert.KernelIdeal Cert.KernelIdeal.Gen

variable (m : (ℓ : Loc nD τ sig) → Buf (Elt Ideal) ℓ) (ρ : Dev nD → PrngReg) (c : Dev nD)

/-- The four arguments. -/
abbrev argQ : FVec Ideal S1024x128 .f32 := m ((c : Thread nD τ).loc main_arg0)
abbrev argT : FVec Ideal S100000x128 .f32 := m ((c : Thread nD τ).loc main_arg1)
abbrev argL : IVec S100000 32 := m ((c : Thread nD τ).loc main_arg2)
abbrev argC : IVec S1000 32 := m ((c : Thread nD τ).loc main_arg3)

/-! ## What the second call is given -/

theorem V1_arg0 : V1 m ρ c main_arg0 = argQ m c := W1_args m ρ c main_arg0 (by decide)
theorem V1_sums : V1 m ρ c main_v0_1 = sums (V0 m ρ) c := (W1_arr m ρ c 2).trans (col_sums (V0 m ρ) c)
theorem V1_rows (i : S102400x128.Idx) (h : (i 0).val < 100000) :
    (show FVec Ideal S102400x128 .f32 from V1 m ρ c main_v0_0) i = unit (rows (argT m c)) ⟨(i 0).val, h⟩ (i 1) :=
  (congrFun (W1_arr m ρ c 1) i).trans (norm_rows (V0 m ρ) c i h)

/-- A true column's key is the squared distance. -/
theorem keys_true (i : Fin 1024) (j : Fin 102400) (h : j.val < 100000) :
    keys (V1 m ρ c main_arg0) (V1 m ρ c main_v0_0) (V1 m ρ c main_v0_1) (ix2 i j) = d2 (rows (argQ m c)) (rows (argT m c)) i ⟨j.val, h⟩ := by
  have e0 : cent (V1 m ρ c main_v0_1) = center (rows (argT m c)) := funext fun k => by
    unfold cent center
    rw [V1_sums, sums_total]
  have e1 : rows (show FVec Ideal S102400x128 .f32 from V1 m ρ c main_v0_0) j = unit (rows (argT m c)) ⟨j.val, h⟩ := funext fun k =>
    V1_rows m ρ c (ix2 j k) h
  have e : keys (V1 m ρ c main_arg0) (V1 m ρ c main_v0_0) (V1 m ρ c main_v0_1) (ix2 i j)
      = sq (rows (argQ m c) i) (unit (rows (argT m c)) ⟨j.val, h⟩) (center (rows (argT m c))) := by
    rw [← e0, ← e1, ← V1_arg0 m ρ c]
    exact if_pos h
  rw [e]
  rfl

theorem keys_pad (i : Fin 1024) (j : Fin 102400) (h : ¬ j.val < 100000) :
    keys (V1 m ρ c main_arg0) (V1 m ρ c main_v0_0) (V1 m ρ c main_v0_1) (ix2 i j) = Ideal.ofBits .f32 0x4E6E6B28#32 := if_neg h

/-! ## What the third call is given -/

theorem V5_keys : V5 m ρ c main_v1_0 = keys (V1 m ρ c main_arg0) (V1 m ρ c main_v0_0) (V1 m ρ c main_v0_1) :=
  (W5_of m ρ c main_v1_0 (by decide)).trans ((W4_of m ρ c main_v1_0 (by decide)).trans ((W3_of m ρ c main_v1_0 (by decide)).trans
    ((W2_arr m ρ c 3).trans (keys_arr (V1 m ρ) c))))
theorem V5_mins : V5 m ρ c main_v1_1 = mins (V1 m ρ c main_arg0) (V1 m ρ c main_v0_0) (V1 m ρ c main_v0_1) :=
  (W5_of m ρ c main_v1_1 (by decide)).trans ((W4_of m ρ c main_v1_1 (by decide)).trans ((W3_of m ρ c main_v1_1 (by decide)).trans
    ((W2_arr m ρ c 4).trans (mins_arr (V1 m ρ) c))))

theorem V5_labels (j : Fin 102400) : (show IVec S1x102400 32 from V5 m ρ c main_v3) (ix2 0 j) = if h : j.val < 100000 then argL m c (ix1 ⟨j.val, h⟩) else 10#32 := by
  have e : V5 m ρ c main_v3 = shapeCast S1x102400 (pad S102400 ![0] ![2400] ![0] (argL m c) (constantI S_ 32 10#32) pads_S100000_S102400_024000 h_S_) shapeCasts_S102400_S1x102400 := by
    show StableHlo.after hostOps2_2 (W4 m ρ c) (Proc.devRef .tc main_v3) = _
    after_results
    exact congrArg (fun x : IVec S100000 32 => shapeCast S1x102400 (pad S102400 ![0] ![2400] ![0] x (constantI S_ 32 10#32) pads_S100000_S102400_024000 h_S_) shapeCasts_S102400_S1x102400)
      (W2_args m ρ c main_arg2 (by decide))
  refine (congrFun e _).trans ?_
  pointwise

theorem V5_cali (k : Fin 1000) : (show IVec S1x1000 32 from V5 m ρ c main_v4) (ix2 0 k) = argC m c (ix1 k) := by
  have e : V5 m ρ c main_v4 = shapeCast S1x1000 (argC m c) shapeCasts_S1000_S1x1000 := by
    show StableHlo.after hostOps2_2 (W4 m ρ c) (Proc.devRef .tc main_v4) = _
    after_results
    exact congrArg (fun x : IVec S1000 32 => shapeCast S1x1000 x shapeCasts_S1000_S1x1000) (W2_args m ρ c main_arg3 (by decide))
  refine (congrFun e _).trans ?_
  pointwise

theorem idx2 : ∀ t : Fin (cfg2 (F := Ideal)).N, win2_0.index t = ![t.val, 0] ∧ win2_1.index t = ![t.val, 0] ∧ win2_2.index t = ![0, 0]
      ∧ win2_3.index t = ![0, 0] ∧ win2_4.index t = ![t.val, 0] ∧ t.val < 64 :=
  (by decide +kernel : ∀ t : Fin grid2.N, win2_0.index t = ![t.val, 0] ∧ win2_1.index t = ![t.val, 0] ∧ win2_2.index t = ![0, 0]
      ∧ win2_3.index t = ![0, 0] ∧ win2_4.index t = ![t.val, 0] ∧ t.val < 64)

variable {T : Fin 1024 → ℝ} {lab : Fin 100000 → ℕ}

/-- The result, when every query's threshold lies in a gap. -/
def result (T : Fin 1024 → ℝ) (lab : Fin 100000 → ℕ) (q : FVec Ideal S1024x128 .f32) (t : FVec Ideal S100000x128 .f32) (w : IVec S1000 32) : FVec Ideal S1024x10 .f32 := fun i =>
  answer (cred (votes (d2 (rows q) (rows t) (i 0)) (T (i 0)) lab) fun k => w (ix1 k)) (i 1)

theorem pt4 (hT : ∀ i, Gap (d2 (rows (argQ m c)) (rows (argT m c)) i) (T i)) (hl : ∀ j, lab j < 2 ^ 32)
    (hL : ∀ j, argL m c (ix1 j) = BitVec.ofNat 32 (lab j)) (t : Fin (cfg2 (F := Ideal)).N) (r : Fin 16) (k : Fin 10) (i : S1024x10.Idx)
    (h0 : (i 0).val = t.val * 16 + r.val) (h1 : (i 1).val = k.val) :
    creds2 (F := Ideal) (iblk2 (V5 m ρ) c 2 t) (mask2 (F := Ideal) (iblk2 (V5 m ρ) c 0 t) (iblk2 (V5 m ρ) c 1 t)) (iblk2 (V5 m ρ) c 3 t) (ix2 r k)
      = result T lab (argQ m c) (argT m c) (argC m c) i := by
  have hb := (idx2 t).2.2.2.2.2
  let R : Fin 16 → Fin 1024 := fun r => ⟨t.val * 16 + r.val, by omega⟩
  have eR : (i 0 : Fin 1024) = R r := Fin.ext h0
  have ek : (i 1 : Fin 10) = k := Fin.ext h1
  have x0 : ∀ r j, (show FVec Ideal S16x102400 .f32 from iblk2 (V5 m ρ) c 0 t) (ix2 r j)
      = keys (V1 m ρ c main_arg0) (V1 m ρ c main_v0_0) (V1 m ρ c main_v0_1) (ix2 (R r) j) := fun r j => by
    rw [← V5_keys]
    blk_ext [iblk2, idx2 t]
    rfl
  have x1 : ∀ r j, (show FVec Ideal S16x3200 .f32 from iblk2 (V5 m ρ) c 1 t) (ix2 r j)
      = mins (V1 m ρ c main_arg0) (V1 m ρ c main_v0_0) (V1 m ρ c main_v0_1) (ix2 (R r) j) := fun r j => by
    rw [← V5_mins]
    blk_ext [iblk2, idx2 t]
    rfl
  have x2 : ∀ j, (show IVec S1x102400 32 from iblk2 (V5 m ρ) c 2 t) (ix2 0 j) = (show IVec S1x102400 32 from V5 m ρ c main_v3) (ix2 0 j) := fun j => by
    blk_ext [iblk2, idx2 t]
  have x3 : ∀ j, (show IVec S1x1000 32 from iblk2 (V5 m ρ) c 3 t) (ix2 0 j) = (show IVec S1x1000 32 from V5 m ρ c main_v4) (ix2 0 j) := fun j => by
    blk_ext [iblk2, idx2 t]
  refine (block_value (D := fun r => d2 (rows (argQ m c)) (rows (argT m c)) (R r)) (T := fun r => T (R r)) (lab := lab) (fun r j => ?_) (fun r j => ?_) (fun r => hT (R r)) (fun j => ?_) hl _ r k).trans ?_
  · refine (x0 r j).trans ?_
    split_ifs with h
    · exact keys_true m ρ c (R r) j h
    · exact keys_pad m ρ c (R r) j h
  · refine (x1 r j).trans ?_
    exact Finset.fold_congr fun s _ => (x0 r _).symm
  · refine (x2 j).trans ((V5_labels m ρ c j).trans ?_)
    split_ifs with h
    · exact hL _
    · rfl
  · have ew : (fun k => (show IVec S1x1000 32 from iblk2 (V5 m ρ) c 3 t) (ix2 0 k)) = fun k => argC m c (ix1 k) := funext fun k => (x3 k).trans (V5_cali m ρ c k)
    unfold result
    rw [eR, ek]
    exact congrArg (fun w => answer (cred _ w) k) ew

/-- The result array after the third call. -/
theorem result_arr (hT : ∀ i, Gap (d2 (rows (argQ m c)) (rows (argT m c)) i) (T i)) (hl : ∀ j, lab j < 2 ^ 32)
    (hL : ∀ j, argL m c (ix1 j) = BitVec.ofNat 32 (lab j)) :
    (dat2 (V5 m ρ) c).arrAt 4 (cfg2 (F := Ideal)).N = result T lab (argQ m c) (argT m c) (argC m c) := by
  refine (dat2 (V5 m ρ) c).arrAt_eq_of_covers 4 _ (by decide +kernel) fun t hf y => ?_
  blk_simp
  rw [after2_4]
  unfold out2_4
  frame_out
  have hy : y = ix2 (show Fin 16 from y 0) (show Fin 10 from y 1) := by blk_ext
  refine (congrArg _ hy).trans (pt4 m ρ c hT hl hL t _ _ _ ?_ ?_) <;> blk_simp [idx2 t]

end Cert.KernelIdeal.Pf

end
-- ==== Proof.Val.RefDist.lean ====
/-
The reference's distances, and the places its sort by them takes.
-/
module

public import proofs.«01_k».proof.Proof.Val.Spec
public import proofs.«01_k».proof.Proof.Val.Mask
public import proofs.«01_k».proof.Proof.Ref.Run
public import Idealize.ShloMosaic.Lib.SortFacts

@[expose] public noncomputable section
open Cert.ReferenceIdeal Cert.ReferenceIdeal.Gen Idealize.ShloMosaic Idealize.ShloMosaic.TcCoe Idealize.SL.Sem Idealize.ShloMosaic.StableHlo Cert.Val

namespace Cert.ReferenceIdeal.Pf

set_option maxRecDepth 8192

variable (V0 : Valuation τ sig (Elt Ideal))

/-- The queries. -/
def aQ : FVec Ideal S1024x128 .f32 := V0 (Proc.devRef .tc main_arg0)
/-- The training rows. -/
def aT : FVec Ideal S100000x128 .f32 := V0 (Proc.devRef .tc main_arg1)
/-- The training labels. -/
def aL : IVec S100000 32 := V0 (Proc.devRef .tc main_arg2)
/-- The calibration scores. -/
def aC : IVec S1000 32 := V0 (Proc.devRef .tc main_arg3)

theorem v2_apply (i : Fin 100000) (k : Fin 128) : res_main_v2 V0 (ix2 i k) = unit (rows (aT V0)) i k := by
  pointwise [res_main_v2]
  rfl

theorem v5_apply (k : Fin 128) : res_main_v5 V0 (ix1 k) = center (rows (aT V0)) k := by
  pointwise [res_main_v5, v2_apply]
  rfl

theorem v8_apply (i : Fin 100000) (k : Fin 128) : res_main_v8 V0 (ix2 i k) = resid (center (rows (aT V0))) (rows (aT V0)) i k := by
  pointwise [res_main_v8, v2_apply, v5_apply]
  rfl

theorem v14_apply (i : Fin 1024) (k : Fin 128) : res_main_v14 V0 (ix2 i k) = resid (center (rows (aT V0))) (rows (aQ V0)) i k := by
  pointwise [res_main_v14, v5_apply]
  rfl

theorem v29_apply (i : Fin 1024) (j : Fin 100000) : res_main_v29 V0 (ix2 i j) = -d2 (rows (aQ V0)) (rows (aT V0)) i j := by
  pointwise [res_main_v29, v14_apply, v8_apply]
  rfl

/-- The place a descending stable sort takes its entry `r` from. -/
def top {n : ℕ} (x : Fin n → EReal) (r : Fin n) : Fin n := sortedFrom (fun k k' => Ideal.cmp .ogt (x k) (x k') == 1#1) r

theorem top_injective {n : ℕ} (x : Fin n → EReal) : Function.Injective (top x) := sortedFrom_injective _

theorem gt_iff (a b : EReal) : (Ideal.cmp .ogt a b == 1#1) = decide (b < a) := by
  by_cases h : b < a <;> simp [Ideal.cmp, h]

theorem top_sorted {n : ℕ} (x : Fin n → EReal) (r s : Fin n) (h : r < s) : x (top x s) ≤ x (top x r) := by
  have := sortedFrom_noInversion (fun k k' => Ideal.cmp .ogt (x k) (x k') == 1#1) (fun k k' => Ideal.cmp .ogt (x k) (x k') == 1#1)
    (fun a b hab => by simp only [gt_iff, decide_eq_true_eq, decide_eq_false_iff_not, not_lt] at hab ⊢; exact hab.le)
    (fun _ _ h => h)
    (fun a b c hab hbc => by simp only [gt_iff, decide_eq_false_iff_not, not_lt] at hab hbc ⊢; exact hab.trans hbc) r s h
  exact not_lt.1 (of_decide_eq_false ((gt_iff _ _).symm.trans this))

theorem sorted_congr {n : ℕ} (b b' : Fin n → Fin n → Bool) (h : ∀ k k', b k k' = b' k k') (r r' : Fin n) (hr : r.val = r'.val) :
    sortedFrom b r = sortedFrom b' r' := by
  rw [show b = b' from funext fun k => funext (h k), Fin.ext hr]

theorem rank_lt {r : ℕ} (h : r < 75) : r < 100000 := by omega

theorem topK_apply (x : FVec Ideal S1024x100000 .f32) (h : S1024x100000.Slices (fun _ => 0) S1024x75) (i : Fin 1024) (r : Fin 75) :
    (Host.topK S1024x75 1 (FloatOps.cmpfTotal .gt) x h).2 (ix2 i r) = BitVec.ofNat 32 (top (fun j => x (ix2 i j)) (⟨r.val, rank_lt r.isLt⟩)).val := by
  have ea : ∀ (j : S1024x100000.Idx) (k : Fin 100000), j 0 = i → Shape.Idx.along j (1 : Fin 2) k = ix2 i k := fun j k hj => funext fun a => by
    fin_cases a
    · exact hj
    · rfl
  have e0 : (fun a => ⟨0 + (ix2 i r (a.cast h.1.symm)).val, Nat.lt_of_lt_of_le (Nat.add_lt_add_left (ix2 i r _).isLt _) (h.2 a)⟩ : S1024x100000.Idx) = ix2 i (⟨r.val, rank_lt r.isLt⟩) := funext fun a => by
    fin_cases a <;> exact Fin.ext (Nat.zero_add _)
  have e1 : ∀ k, Shape.Idx.along (ix2 i (⟨r.val, rank_lt r.isLt⟩) : S1024x100000.Idx) (1 : Fin 2) k = ix2 i k := fun k => ea _ k rfl
  unfold Host.topK Host.sort2 extractStridedSlice
  simp only [dif_pos (show 1 < S1024x100000.rank by decide)]
  rw [e0]
  unfold top
  refine congrArg (fun n : Fin 100000 => BitVec.ofNat 32 n.val) ?_
  have hb : ∀ k k' : Fin 100000, (FloatOps.cmpfTotal (F := Ideal) (φ := .f32) .gt (x (Shape.Idx.along (ix2 i ⟨r.val, rank_lt r.isLt⟩ : S1024x100000.Idx) (1 : Fin 2) k))
      (x (Shape.Idx.along (ix2 i ⟨r.val, rank_lt r.isLt⟩ : S1024x100000.Idx) (1 : Fin 2) k')) == 1#1) = (Ideal.cmp .ogt (x (ix2 i k)) (x (ix2 i k')) == 1#1) := fun k k' => by
    rw [e1 k, e1 k']
    rfl
  have hr : ∀ h, (⟨0 + r.val, h⟩ : Fin 100000).val = (⟨r.val, rank_lt r.isLt⟩ : Fin 100000).val := fun h => Nat.zero_add r.val
  refine (Function.update_self _ _ _).trans ?_
  refine sorted_congr (n := 100000) _ _ ?_ _ _ ?_
  · exact hb
  · exact hr _

/-- The place of the `r`-th nearest row. -/
def near (i : Fin 1024) (r : Fin 75) : Fin 100000 := top (fun j => -d2 (rows (aQ V0)) (rows (aT V0)) i j) (⟨r.val, rank_lt r.isLt⟩)

theorem near_injective (i : Fin 1024) : Function.Injective (near V0 i) :=
  fun a b h => Fin.ext (Fin.mk.inj (top_injective _ h))

theorem indices_apply (i : Fin 1024) (r : Fin 75) : res_main_indices V0 (ix2 i r) = BitVec.ofNat 32 (near V0 i r).val := by
  have e : (fun j => res_main_v29 V0 (ix2 i j)) = fun j => -d2 (rows (aQ V0)) (rows (aT V0)) i j := funext (v29_apply V0 i)
  refine (topK_apply (res_main_v29 V0) _ i r).trans ?_
  rw [e]
  rfl

/-- The 75 nearest rows are those at or below the threshold. -/
theorem near_set (i : Fin 1024) (T : ℝ) (h : (Finset.univ.filter fun j => d2 (rows (aQ V0)) (rows (aT V0)) i j ≤ (T : EReal)).card = 75) :
    Finset.univ.image (near V0 i) = Finset.univ.filter fun j => d2 (rows (aQ V0)) (rows (aT V0)) i j ≤ (T : EReal) := by
  refine lower_eq (key := d2 (rows (aQ V0)) (rows (aT V0)) i) (fun a ha b hb => ?_) (fun a ha b hb => ?_) ?_
  · obtain ⟨r, -, rfl⟩ := Finset.mem_image.1 ha
    obtain ⟨s, rfl⟩ := sortedFrom_surjective (fun k k' => Ideal.cmp .ogt (-d2 (rows (aQ V0)) (rows (aT V0)) i k) (-d2 (rows (aQ V0)) (rows (aT V0)) i k') == 1#1) b
    have hs : 75 ≤ s.val := by
      by_contra hn
      exact hb (Finset.mem_image.2 ⟨⟨s.val, not_le.1 hn⟩, Finset.mem_univ _, rfl⟩)
    have := top_sorted (fun j => -d2 (rows (aQ V0)) (rows (aT V0)) i j) ⟨r.val, rank_lt r.isLt⟩ s (Fin.lt_def.2 (lt_of_lt_of_le r.isLt hs))
    simp only [EReal.neg_le_neg_iff] at this
    exact this
  · simp only [Finset.mem_filter, Finset.mem_univ, true_and, not_le] at ha hb
    exact ha.trans_lt hb
  · rw [h, Finset.card_image_of_injective _ (near_injective V0 i), Finset.card_univ, Fintype.card_fin]

/-- Counting over the 75 places is counting over the rows at or below the threshold. -/
theorem near_card (i : Fin 1024) (T : ℝ) (h : (Finset.univ.filter fun j => d2 (rows (aQ V0)) (rows (aT V0)) i j ≤ (T : EReal)).card = 75)
    (p : Fin 100000 → Prop) [DecidablePred p] :
    (Finset.univ.filter fun r => p (near V0 i r)).card = (Finset.univ.filter fun j => d2 (rows (aQ V0)) (rows (aT V0)) i j ≤ (T : EReal) ∧ p j).card := by
  rw [← Finset.filter_filter, ← near_set V0 i T h, Finset.filter_image, Finset.card_image_of_injective _ (near_injective V0 i)]

end Cert.ReferenceIdeal.Pf

end
-- ==== Proof.Val.RefVotes.lean ====
/-
The reference's class counts and p-values.
-/
module

public import proofs.«01_k».proof.Proof.Val.RefDist
public import proofs.«01_k».proof.Proof.Val.Block
public import Idealize.ShloMosaic.Lib.ValueIdxCore
public import Idealize.ShloMosaic.Lib.ReduceAll
public import Idealize.ShloMosaic.Lib.StableHlo.Predicate

@[expose] public noncomputable section
open Cert.ReferenceIdeal Cert.ReferenceIdeal.Gen Idealize.ShloMosaic Idealize.ShloMosaic.TcCoe Idealize.SL.Sem Idealize.ShloMosaic.StableHlo Cert.Val

namespace Cert.ReferenceIdeal.Pf

variable (V0 : Valuation τ sig (Elt Ideal))

/-- Wrapping a small number that is not negative leaves it. -/
theorem wrap_small (n : ℕ) (hn : n < 2 ^ 31) (b : BitVec 32) : Scalar.select (IntOp.cmpi .slt (BitVec.ofNat 32 n) 0#32) b (BitVec.ofNat 32 n) = BitVec.ofNat 32 n := by
  unfold Scalar.select
  refine if_neg fun hc => ?_
  exact Nat.not_lt_zero _ ((Predicate.slt_iff_toNat (by rw [BitVec.toNat_ofNat]; omega) (by decide)).1 hc)

theorem at_least (n : ℕ) (hn : n < 2 ^ 31) : IntOp.cmpi .sge (BitVec.ofNat 32 n) 0#32 = 1#1 :=
  (Predicate.sge_iff_toNat (by rw [BitVec.toNat_ofNat]; omega) (by decide)).2 (Nat.zero_le _)

theorem at_most (n b : ℕ) (hn : n ≤ b) (hb : b < 2 ^ 31) : IntOp.cmpi .sle (BitVec.ofNat 32 n) (BitVec.ofNat 32 b) = 1#1 :=
  (Predicate.sle_iff_toNat (by rw [BitVec.toNat_ofNat]; omega) (by rw [BitVec.toNat_ofNat]; omega)).2
    (by rw [BitVec.toNat_ofNat, BitVec.toNat_ofNat, Nat.mod_eq_of_lt (by omega), Nat.mod_eq_of_lt (by omega)]; exact hn)

theorem call2_apply (i : Fin 1024) (r : Fin 75) (e : Fin 1) : res_main_call2_v5 V0 (ix3 i r e) = BitVec.ofNat 32 (near V0 i r).val := by
  pointwise [res_main_call2_v5, indices_apply]
  exact wrap_small _ (by omega) _

/-- Whether a place is in range. -/
def inside (ix : IVec S1024x75x1 32) : IVec S1024x75 1 :=
  Host.reduce IntOp.andi (andi (cmpi .sge ix (broadcastInDim S1024x75x1 ![] bcast_S_S1024x75x1 (constantI S_ 32 0#32))) (cmpi .sle ix (broadcastInDim S1024x75x1 ![0, 1, 2] bcast_S1x1x1_S1024x75x1_0_1_2 (broadcastInDim S1x1x1 ![2] bcast_S1_S1x1x1_2 (constantI S1 32 99999#32))))) (constantI S_ 1 1#1) reducesTo_S1024x75x1_S1024x75_d2 h_S_

/-- The labels at the places. -/
def labels (l : IVec S100000 32) (ix : IVec S1024x75x1 32) : IVec S1024x75 32 :=
  select (inside ix) (Host.gather gather_S100000_S1024x75x1_S1024x75_n_0_n_n_0_2_1 l ix) (broadcastInDim S1024x75 ![] bcast_S_S1024x75 (constantI S_ 32 2147483648#32))

theorem inside_apply (ix : IVec S1024x75x1 32) (i : Fin 1024) (r : Fin 75) (n : ℕ) (hn : n < 100000) (h : ∀ e, ix (ix3 i r e) = BitVec.ofNat 32 n) :
    inside ix (ix2 i r) = 1#1 := by
  pointwise [inside, h]
  rw [at_least n (by omega), at_most n 99999 (by omega) (by omega)]
  decide

theorem select_one {α : Type} {s : Shape} (b : IVec s 1) (x y : s.Idx → α) (j : s.Idx) (h : b j = 1#1) : select b x y j = x j := if_pos h

theorem labels_apply (l : IVec S100000 32) (ix : IVec S1024x75x1 32) (i : Fin 1024) (r : Fin 75) (n : Fin 100000) (h : ∀ e, ix (ix3 i r e) = BitVec.ofNat 32 n.val) :
    labels l ix (ix2 i r) = l (ix1 n) := by
  have hg : Host.gather gather_S100000_S1024x75x1_S1024x75_n_0_n_n_0_2_1 l ix (ix2 i r) = l (ix1 n) := by
    refine (ValueIdx.gather_take_apply (N := 100000) (R := 1024) (C := 75) (by decide) _ l ix (ix2 i r)).trans ?_
    have e : ValueIdx.takeIdx (R := 1024) (C := 75) (ix2 i r) = ix3 i r 0 := by
      funext a; fin_cases a <;> rfl
    refine congrArg (fun m : Fin 100000 => l (ix1 m)) (Fin.ext ?_)
    show min (ix (ValueIdx.takeIdx (R := 1024) (C := 75) (ix2 i r))).toInt.toNat (100000 - 1) = n.val
    rw [e, h, Predicate.toInt_ofNat_small _ (by omega)]
    omega
  exact (select_one _ _ _ _ (inside_apply ix i r n.val n.isLt h)).trans hg

/-- The counts. -/
def tallies (L : IVec S1024x75 32) : IVec S1024x10 32 :=
  Host.reduce IntOp.addi (extui 32 (cmpi .eq (broadcastInDim S1024x75x10 ![0, 1, 2] bcast_S1024x75x1_S1024x75x10_0_1_2 (broadcastInDim S1024x75x1 ![0, 1] bcast_S1024x75_S1024x75x1_0_1 L)) (broadcastInDim S1024x75x10 ![0, 1, 2] bcast_S1x1x10_S1024x75x10_0_1_2 (iotaInDim S1x1x10 32 2))) natLt_1_32) (constantI S_ 32 0#32) reducesTo_S1024x75x10_S1024x10_d1 h_S_

theorem v32_eq : res_main_v32 V0 = tallies (labels (aL V0) (res_main_call2_v5 V0)) := rfl

theorem tallies_apply (L : IVec S1024x75 32) (i : Fin 1024) (c : Fin 10) :
    tallies L (ix2 i c) = BitVec.ofNat 32 (Finset.univ.filter fun r : Fin 75 => L (ix2 i r) = BitVec.ofNat 32 c.val).card := by
  pointwise [tallies]
  refine (IndicatorCount.fold_addi_setWidth_eq_card (w := 32) (fun x => IntOp.cmpi CmpIPredicate.eq (L (ix2 i x)) (BitVec.ofNat 32 c.val)) Finset.univ).trans ?_
  exact congrArg (BitVec.ofNat 32) (congrArg Finset.card (Finset.filter_congr fun r _ => Predicate.cmpi_eq_iff))

variable {lab : Fin 100000 → ℕ}

theorem v32_apply (hl : ∀ j, lab j < 2 ^ 32) (hL : ∀ j, aL V0 (ix1 j) = BitVec.ofNat 32 (lab j)) (i : Fin 1024) (T : ℝ)
    (h : (Finset.univ.filter fun j => d2 (rows (aQ V0)) (rows (aT V0)) i j ≤ (T : EReal)).card = 75) (c : Fin 10) :
    res_main_v32 V0 (ix2 i c) = BitVec.ofNat 32 (votes (d2 (rows (aQ V0)) (rows (aT V0)) i) T lab c) := by
  rw [v32_eq, tallies_apply]
  refine congrArg (BitVec.ofNat 32) ((congrArg Finset.card (Finset.filter_congr fun r _ => ?_)).trans (near_card V0 i T h fun j => lab j = c))
  rw [labels_apply (aL V0) _ i r (near V0 i r) fun e => call2_apply V0 i r e, hL]
  have h1 := hl (near V0 i r)
  constructor
  · intro e
    have := congrArg BitVec.toNat e
    rw [BitVec.toNat_ofNat, BitVec.toNat_ofNat, Nat.mod_eq_of_lt (by omega), Nat.mod_eq_of_lt (by omega)] at this
    exact this
  · intro e; rw [e]

/-- A sum of counts, as a word. -/
theorem addi_ofNat {ι : Type} [DecidableEq ι] (N : ι → ℕ) (S : Finset ι) : S.fold IntOp.addi 0#32 (fun k => BitVec.ofNat 32 (N k)) = BitVec.ofNat 32 (∑ k ∈ S, N k) := by
  induction S using Finset.induction_on with
  | empty => rfl
  | insert a S ha ih =>
    rw [Finset.fold_insert ha, ih, Finset.sum_insert ha, BitVec.ofNat_add]
    rfl

theorem subi_ofNat (a b : ℕ) (h : b ≤ a) : BitVec.ofNat 32 a - BitVec.ofNat 32 b = BitVec.ofNat 32 (a - b) := by
  obtain ⟨c, rfl⟩ := Nat.exists_eq_add_of_le h
  rw [Nat.add_sub_cancel_left, BitVec.ofNat_add, BitVec.add_comm, BitVec.add_sub_cancel]

/-- The sum of a row of counts. -/
def rowSum (v : IVec S1024x10 32) : IVec S1024 32 := Host.reduce IntOp.addi v (constantI S_ 32 0#32) reducesTo_S1024x10_S1024_d1 h_S_

/-- The other classes' counts. -/
def others (v : IVec S1024x10 32) : IVec S1024x10 32 :=
  subi (broadcastInDim S1024x10 ![0, 1] bcast_S1024x1_S1024x10_0_1 (broadcastInDim S1024x1 ![0] bcast_S1024_S1024x1_0 (rowSum v))) v

/-- The p-values, from the other classes' counts. -/
def pvals (w : IVec S1000 32) (v : IVec S1024x10 32) : FVec Ideal S1024x10 .f32 :=
  Host.divf (subf (broadcastInDim S1024x10 ![] bcast_S_S1024x10 (constant S_ .f32 0x447A0000#32)) (sitofp .f32 (Host.reduce IntOp.addi (extui 32 (cmpi .slt (broadcastInDim S1024x10x1000 ![0, 1, 2] bcast_S1x1x1000_S1024x10x1000_0_1_2 (broadcastInDim S1x1x1000 ![2] bcast_S1000_S1x1x1000_2 w)) (broadcastInDim S1024x10x1000 ![0, 1, 2] bcast_S1024x10x1_S1024x10x1000_0_1_2 (broadcastInDim S1024x10x1 ![0, 1] bcast_S1024x10_S1024x10x1_0_1 v))) natLt_1_32) (constantI S_ 32 0#32) reducesTo_S1024x10x1000_S1024x10_d2 h_S_))) (broadcastInDim S1024x10 ![] bcast_S_S1024x10 (constant S_ .f32 0x447A0000#32))

theorem v48_eq : res_main_v48 V0 = pvals (aC V0) (others (res_main_v32 V0)) := rfl

theorem rowSum_apply (v : IVec S1024x10 32) (N : Fin 10 → ℕ) (i : Fin 1024) (h : ∀ c, v (ix2 i c) = BitVec.ofNat 32 (N c)) :
    rowSum v (ix1 i) = BitVec.ofNat 32 (∑ c, N c) := by
  rw [← addi_ofNat]
  pointwise [rowSum, h]

theorem others_apply (v : IVec S1024x10 32) (N : Fin 10 → ℕ) (i : Fin 1024) (h : ∀ c, v (ix2 i c) = BitVec.ofNat 32 (N c)) (k : Fin 10) :
    others v (ix2 i k) = BitVec.ofNat 32 (∑ c, N c - N k) := by
  have hk : N k ≤ ∑ c : Fin 10, N c := Finset.single_le_sum (f := fun c : Fin 10 => N c) (fun _ _ => Nat.zero_le _) (Finset.mem_univ k)
  pointwise [others, h, rowSum_apply v N i h]
  exact subi_ofNat _ _ hk

theorem pvals_apply (w : IVec S1000 32) (v : IVec S1024x10 32) (i : Fin 1024) (k : Fin 10) :
    pvals w v (ix2 i k) = Ideal.div (Ideal.ofBits .f32 0x447A0000#32
      - (((Finset.univ.filter fun m : Fin 1000 => (w (ix1 m)).slt (v (ix2 i k))).card : ℝ) : EReal)) (Ideal.ofBits .f32 0x447A0000#32) := by
  rw [← sitofp_count (by norm_num)]
  simp only [Bool.decide_eq_true]
  pointwise [pvals]
  rfl

/-- The reference's p-values. -/
theorem v48_apply (N : Fin 10 → ℕ) (i : Fin 1024) (h : ∀ c, res_main_v32 V0 (ix2 i c) = BitVec.ofNat 32 (N c)) (k : Fin 10) :
    res_main_v48 V0 (ix2 i k) = cred N (fun m => aC V0 (ix1 m)) k := by
  rw [v48_eq, pvals_apply, others_apply _ N i h]
  rfl

end Cert.ReferenceIdeal.Pf

end
-- ==== Proof.Val.RefTail.lean ====
/-
The reference's choice of a class, and its result.
-/
module

public import proofs.«01_k».proof.Proof.Val.RefVotes
public import proofs.«01_k».proof.Proof.Val.Tail
public import Idealize.ShloMosaic.PureOps.Ideal.Laws

@[expose] public noncomputable section
open Cert.ReferenceIdeal Cert.ReferenceIdeal.Gen Idealize.ShloMosaic Idealize.ShloMosaic.TcCoe Idealize.SL.Sem Idealize.ShloMosaic.StableHlo Cert.Val

namespace Cert.ReferenceIdeal.Pf

variable (V0 : Valuation τ sig (Elt Ideal))

/-- One pair comes no later than another: a larger value, or the same value and no larger a place. -/
def Over (a b : EReal × BitVec 32) : Prop := b.1 < a.1 ∨ (b.1 = a.1 ∧ a.2.toInt ≤ b.2.toInt)

theorem over_rfl (a : EReal × BitVec 32) : Over a a := .inr ⟨rfl, le_rfl⟩

theorem over_trans {a b c : EReal × BitVec 32} (h : Over a b) (h' : Over b c) : Over a c := by
  rcases h with h | ⟨h, k⟩ <;> rcases h' with h' | ⟨h', k'⟩
  · exact .inl (h'.trans h)
  · exact .inl (h' ▸ h)
  · exact .inl (h ▸ h')
  · exact .inr ⟨h'.trans h, k.trans k'⟩

/-- A step keeps one of the two pairs, over both. -/
theorem step (a b : EReal × BitVec 32) :
    (reducer_argmax_f32_i32 (F := Ideal) a b = a ∨ reducer_argmax_f32_i32 (F := Ideal) a b = b)
      ∧ Over (reducer_argmax_f32_i32 (F := Ideal) a b) a ∧ Over (reducer_argmax_f32_i32 (F := Ideal) a b) b := by
  obtain ⟨x, i⟩ := a
  obtain ⟨y, j⟩ := b
  have e : reducer_argmax_f32_i32 (F := Ideal) (x, i) (y, j) = (if y < x then x else y, if y < x ∨ (x = y ∧ i.toInt < j.toInt) then i else j) := by
    have h2 : BitVec.ofBool (i.slt j) = BitVec.ofBool (decide (i.toInt < j.toInt)) := rfl
    simp only [reducer_argmax_f32_i32, Ideal.cmpf_def, Ideal.cmp, Scalar.select, IntOp.ori, IntOp.andi, IntOp.cmpi, h2]
    by_cases a1 : y < x <;> by_cases a2 : x = y <;> by_cases a3 : i.toInt < j.toInt <;> simp [a1, a2, a3]
  rw [e]
  rcases lt_trichotomy y x with h | h | h
  · rw [if_pos h, if_pos (.inl h)]
    exact ⟨.inl rfl, over_rfl _, .inl h⟩
  · subst h
    by_cases hij : i.toInt < j.toInt
    · rw [if_neg (lt_irrefl _), if_pos (.inr ⟨rfl, hij⟩)]
      exact ⟨.inl rfl, over_rfl _, .inr ⟨rfl, hij.le⟩⟩
    · rw [if_neg (lt_irrefl _), if_neg (by rintro (h | h); exacts [lt_irrefl _ h, hij h.2])]
      exact ⟨.inr rfl, .inr ⟨rfl, not_lt.1 hij⟩, over_rfl _⟩
  · rw [if_neg h.not_gt, if_neg (by rintro (h' | h'); exacts [h.not_gt h', h.ne h'.1])]
    exact ⟨.inr rfl, .inl h, over_rfl _⟩

/-- The fold keeps one of its pairs, over all of them. -/
theorem steps (l : List (EReal × BitVec 32)) (a : EReal × BitVec 32) :
    (l.foldl (reducer_argmax_f32_i32 (F := Ideal)) a = a ∨ l.foldl (reducer_argmax_f32_i32 (F := Ideal)) a ∈ l)
      ∧ Over (l.foldl (reducer_argmax_f32_i32 (F := Ideal)) a) a ∧ ∀ p ∈ l, Over (l.foldl (reducer_argmax_f32_i32 (F := Ideal)) a) p := by
  induction l generalizing a with
  | nil => exact ⟨.inl rfl, over_rfl _, fun p hp => absurd hp List.not_mem_nil⟩
  | cons b l ih =>
    obtain ⟨h1, h2, h3⟩ := ih (reducer_argmax_f32_i32 (F := Ideal) a b)
    obtain ⟨s1, s2, s3⟩ := step a b
    rw [List.foldl_cons]
    refine ⟨?_, over_trans h2 s2, fun p hp => ?_⟩
    · rcases h1 with h1 | h1
      · rcases s1 with s1 | s1
        · exact .inl (h1.trans s1)
        · exact .inr (by rw [h1, s1]; exact List.mem_cons_self)
      · exact .inr (List.mem_cons_of_mem _ h1)
    · rcases List.mem_cons.1 hp with rfl | hp
      · exact over_trans h2 s3
      · exact h3 p hp

/-- The place of the largest entry of a row. -/
def best (x : FVec Ideal S1024x10 .f32) : IVec S1024 32 :=
  fun j => (Host.argReduce reducer_argmax_f32_i32 x (iotaInDim S1024x10 32 1) (constant S_ .f32 0xFF800000#32) (constantI S_ 32 0#32) reducesTo_S1024x10_S1024_d1 h_S_ j).2

theorem mem_fiber (x : FVec Ideal S1024x10 .f32) (i : Fin 1024) (p : EReal × BitVec 32) :
    p ∈ Host.argReduceFiber (α := Ideal .f32) x (iotaInDim S1024x10 32 1) reducesTo_S1024x10_S1024_d1 (ix1 i) ↔ ∃ k : Fin 10, p = (x (ix2 i k), BitVec.ofNat 32 k.val) := by
  unfold Host.argReduceFiber
  constructor
  · intro hp
    obtain ⟨n, hn, rfl⟩ := List.mem_map.1 hp
    have hd := of_decide_eq_true (List.mem_filter.1 hn).2
    have h0 : (S1024x10.rowMajor.symm n 0).val = i.val := congrArg Fin.val (congrFun hd 0)
    have e : S1024x10.rowMajor.symm n = ix2 i (S1024x10.rowMajor.symm n 1) := funext fun a => by
      fin_cases a
      · exact Fin.ext h0
      · rfl
    exact ⟨S1024x10.rowMajor.symm n 1, congrArg (fun z => (x z, BitVec.ofNat 32 (z 1).val)) e⟩
  · rintro ⟨k, rfl⟩
    refine List.mem_map.2 ⟨S1024x10.rowMajor (ix2 i k), List.mem_filter.2 ⟨List.mem_finRange _, decide_eq_true ?_⟩, ?_⟩
    · rw [Equiv.symm_apply_apply]
      funext b
      fin_cases b
      rfl
    · rw [Equiv.symm_apply_apply]
      rfl

theorem best_apply (x : FVec Ideal S1024x10 .f32) (i : Fin 1024) (a : Fin 10) (h : First (fun k => x (ix2 i k)) a) :
    best x (ix1 i) = BitVec.ofNat 32 a.val := by
  unfold best
  rw [Ideal.argReduce_eq_reduce2, Host.reduce2_eq_foldl_fiber]
  obtain ⟨h1, h2, h3⟩ := steps (Host.argReduceFiber (α := Ideal .f32) x (iotaInDim S1024x10 32 1) reducesTo_S1024x10_S1024_d1 (ix1 i)) (Ideal.ofBits .f32 0xFF800000#32, 0#32)
  change ((Host.argReduceFiber (α := Ideal .f32) x (iotaInDim S1024x10 32 1) reducesTo_S1024x10_S1024_d1 (ix1 i)).foldl (reducer_argmax_f32_i32 (F := Ideal)) (Ideal.ofBits .f32 0xFF800000#32, 0#32)).2 = _
  generalize (Host.argReduceFiber (α := Ideal .f32) x (iotaInDim S1024x10 32 1) reducesTo_S1024x10_S1024_d1 (ix1 i)).foldl (reducer_argmax_f32_i32 (F := Ideal)) (Ideal.ofBits .f32 0xFF800000#32, 0#32) = r at h1 h2 h3 ⊢
  have hv : ∀ k : Fin 10, (BitVec.ofNat 32 k.val).toInt = (k.val : ℤ) := fun k => Predicate.toInt_ofNat_small _ (by omega)
  have h3' : ∀ k : Fin 10, Over r (x (ix2 i k), BitVec.ofNat 32 k.val) := fun k => h3 _ ((mem_fiber x i _).2 ⟨k, rfl⟩)
  obtain ⟨b, hb, hk⟩ : ∃ b : Fin 10, r.2 = BitVec.ofNat 32 b.val ∧ x (ix2 i b) = r.1 := by
    rcases h1 with h1 | h1
    · refine ⟨0, by rw [h1]; rfl, ?_⟩
      rcases h3' 0 with h | h
      · rw [h1, lit_bot] at h
        exact absurd h not_lt_bot
      · exact h.1
    · obtain ⟨b, rfl⟩ := (mem_fiber x i _).1 h1
      exact ⟨b, rfl, rfl⟩
  rw [hb]
  refine congrArg (fun n : Fin 10 => BitVec.ofNat 32 n.val) (First.unique (p := fun k => x (ix2 i k)) ⟨fun k => ?_, fun k hlt => ?_⟩ h)
  · rcases h3' k with h | h
    · exact (h.trans_eq hk.symm).le
    · exact (h.1.trans hk.symm).le
  · rcases h3' k with h | h
    · exact h.trans_eq hk.symm
    · have := h.2
      rw [hb, hv, hv] at this
      exact absurd (Fin.lt_def.1 hlt) (by omega)

/-- Taking one entry of each row. -/
theorem take_apply (x : FVec Ideal S1024x10 .f32) (ix : IVec S1024x1x1 32) (i : Fin 1024) (a : Fin 10) (h : ix (ix3 i 0 0) = BitVec.ofNat 32 a.val) :
    Host.gather gather_S1024x10_S1024x1x1_S1024x1_n_1_0_0_1_2_11 x ix (ix2 i 0) = x (ix2 i a) := by
  unfold Host.gather
  refine congrArg x (funext fun b => Fin.ext ?_)
  show gather_S1024x10_S1024x1x1_S1024x1_n_1_0_0_1_2_11.start (ix2 i 0) ix b + gather_S1024x10_S1024x1x1_S1024x1_n_1_0_0_1_2_11.batchCoord (ix2 i 0) b
    + gather_S1024x10_S1024x1x1_S1024x1_n_1_0_0_1_2_11.offCoord (ix2 i 0) b = _
  have hb : b = 0 ∨ b = 1 := by fin_cases b <;> simp
  rcases hb with rfl | rfl
  · have e0 : (0 : Fin 2) ∈ gather_S1024x10_S1024x1x1_S1024x1_n_1_0_0_1_2_11.operandBatchingDims := List.mem_singleton.mpr rfl
    rw [GatherDims.start_batching _ _ _ _ e0, GatherDims.offCoord_eq_zero _ _ _ fun h => ((GatherDims.mem_sKept _ _).mp h).2 e0, Nat.zero_add, Nat.add_zero]
    unfold GatherDims.batchCoord
    rw [dif_pos e0]
    rfl
  · have e1 : (1 : Fin 2) ∈ gather_S1024x10_S1024x1x1_S1024x1_n_1_0_0_1_2_11.startIndexMap := List.mem_singleton.mpr rfl
    have e2 : (1 : Fin 2) ∈ gather_S1024x10_S1024x1x1_S1024x1_n_1_0_0_1_2_11.collapsedSliceDims := List.mem_singleton.mpr rfl
    have e3 : (1 : Fin 2) ∉ gather_S1024x10_S1024x1x1_S1024x1_n_1_0_0_1_2_11.operandBatchingDims := fun h => absurd (List.mem_singleton.1 h) (by decide)
    rw [GatherDims.batchCoord_eq_zero _ _ _ e3, GatherDims.offCoord_eq_zero _ _ _ fun h => ((GatherDims.mem_sKept _ _).mp h).1 e2, Nat.add_zero]
    unfold GatherDims.start
    rw [dif_pos e1]
    have es : gather_S1024x10_S1024x1x1_S1024x1_n_1_0_0_1_2_11.siIdx (ix2 i 0) ⟨List.idxOf (1 : Fin 2) gather_S1024x10_S1024x1x1_S1024x1_n_1_0_0_1_2_11.startIndexMap, List.idxOf_lt_length_iff.2 e1⟩ = ix3 i 0 0 := by
      funext c
      fin_cases c <;> rfl
    rw [es, h, Predicate.toInt_ofNat_small _ (by omega)]
    show min ((a.val : ℤ)).toNat (10 - 1) = a.val
    omega

/-- A row's place, wrapped. -/
def wrap (b : IVec S1024 32) : IVec S1024x1x1 32 :=
  shapeCast _ (select (cmpi .slt (broadcastInDim S1024x1 ![0] bcast_S1024_S1024x1_0 b) (broadcastInDim S1024x1 ![] bcast_S_S1024x1 (constantI S_ 32 0#32))) (addi (broadcastInDim S1024x1 ![0] bcast_S1024_S1024x1_0 b) (broadcastInDim S1024x1 ![] bcast_S_S1024x1 (constantI S_ 32 10#32))) (broadcastInDim S1024x1 ![0] bcast_S1024_S1024x1_0 b)) shapeCasts_S1024x1_S1024x1x1

/-- Whether it is in range. -/
def within (ix : IVec S1024x1x1 32) : IVec S1024x1 1 :=
  Host.reduce IntOp.andi (andi (cmpi .sge ix (broadcastInDim S1024x1x1 ![] bcast_S_S1024x1x1 (constantI S_ 32 0#32))) (cmpi .sle ix (broadcastInDim S1024x1x1 ![0, 1, 2] bcast_S1x1x1_S1024x1x1_0_1_2 (broadcastInDim S1x1x1 ![2] bcast_S1_S1x1x1_2 (constantI S1 32 9#32))))) (constantI S_ 1 1#1) reducesTo_S1024x1x1_S1024x1_d2 h_S_

/-- The entry there. -/
def picked (x : FVec Ideal S1024x10 .f32) (ix : IVec S1024x1x1 32) : FVec Ideal S1024x1 .f32 :=
  select (within ix) (Host.gather gather_S1024x10_S1024x1x1_S1024x1_n_1_0_0_1_2_11 x ix) (broadcastInDim S1024x1 ![] bcast_S_S1024x1 (constant S_ .f32 0x7FC00000#32))

/-- The result, from each row's place and its entry. -/
def outcome (b : IVec S1024 32) (y : FVec Ideal S1024x1 .f32) : FVec Ideal S1024x10 .f32 :=
  mulf (uitofp .f32 (cmpi .eq (broadcastInDim S1024x10 ![0, 1] bcast_S1024x1_S1024x10_0_1 (broadcastInDim S1024x1 ![0] bcast_S1024_S1024x1_0 b)) (broadcastInDim S1024x10 ![0, 1] bcast_S1x10_S1024x10_0_1 (iotaInDim S1x10 32 1)))) (broadcastInDim S1024x10 ![0, 1] bcast_S1024x1_S1024x10_0_1 y)

theorem v49_eq : res_main_v49 V0 = best (res_main_v48 V0) := rfl
theorem call6_eq : res_main_call6_v5 V0 = wrap (res_main_v49 V0) := rfl
theorem v54_eq : res_main_v54 V0 = outcome (res_main_v49 V0) (picked (res_main_v48 V0) (res_main_call6_v5 V0)) := rfl

theorem wrap_apply (b : IVec S1024 32) (i : Fin 1024) (a : Fin 10) (h : b (ix1 i) = BitVec.ofNat 32 a.val) (e f : Fin 1) : wrap b (ix3 i e f) = BitVec.ofNat 32 a.val := by
  pointwise [wrap, h]
  exact wrap_small _ (by omega) _

theorem within_apply (ix : IVec S1024x1x1 32) (i : Fin 1024) (a : Fin 10) (h : ∀ e f, ix (ix3 i e f) = BitVec.ofNat 32 a.val) : within ix (ix2 i 0) = 1#1 := by
  pointwise [within, h]
  rw [at_least a.val (by omega), at_most a.val 9 (by omega) (by omega)]
  decide

theorem picked_apply (x : FVec Ideal S1024x10 .f32) (ix : IVec S1024x1x1 32) (i : Fin 1024) (a : Fin 10) (h : ∀ e f, ix (ix3 i e f) = BitVec.ofNat 32 a.val) :
    picked x ix (ix2 i 0) = x (ix2 i a) :=
  (select_one _ _ _ _ (within_apply ix i a h)).trans (take_apply x ix i a (h 0 0))

theorem outcome_apply (b : IVec S1024 32) (y : FVec Ideal S1024x1 .f32) (i : Fin 1024) (a : Fin 10) (h : b (ix1 i) = BitVec.ofNat 32 a.val) (k : Fin 10) :
    outcome b y (ix2 i k) = if k = a then (y (ix2 i 0) : EReal) else 0 := by
  pointwise [outcome, h]
  have hc : IntOp.cmpi CmpIPredicate.eq (BitVec.ofNat 32 a.val) (BitVec.ofNat 32 k.val) = if k = a then 1#1 else 0#1 := by
    clear h
    revert a k; decide
  rw [hc]
  split_ifs
  · refine Eq.trans (congrArg (· * (y (ix2 i 0) : EReal)) ?_) (one_mul _)
    show (((1#1 : BitVec 1).toNat : ℝ) : EReal) = 1
    norm_num
  · refine Eq.trans (congrArg (· * (y (ix2 i 0) : EReal)) ?_) (zero_mul _)
    show (((0#1 : BitVec 1).toNat : ℝ) : EReal) = 0
    norm_num

/-- The reference's result. -/
theorem v54_apply (N : Fin 10 → ℕ) (i : Fin 1024) (h : ∀ c, res_main_v32 V0 (ix2 i c) = BitVec.ofNat 32 (N c)) (k : Fin 10) :
    res_main_v54 V0 (ix2 i k) = answer (cred N fun m => aC V0 (ix1 m)) k := by
  obtain ⟨a, ha⟩ := exists_first (cred N fun m => aC V0 (ix1 m))
  have hp : ∀ k, res_main_v48 V0 (ix2 i k) = cred N (fun m => aC V0 (ix1 m)) k := v48_apply V0 N i h
  have hb : res_main_v49 V0 (ix1 i) = BitVec.ofNat 32 a.val := by
    rw [v49_eq]
    refine best_apply _ i a ?_
    rw [show (fun k => res_main_v48 V0 (ix2 i k)) = cred N (fun m => aC V0 (ix1 m)) from funext hp]
    exact ha
  rw [v54_eq, outcome_apply _ _ i a hb, picked_apply _ _ i a fun e f => by rw [call6_eq]; exact wrap_apply _ i a hb e f, hp, ha.answer]

end Cert.ReferenceIdeal.Pf

end
-- ==== Proof.Val.Final.lean ====
/-
The two results are one array.
-/
module

public import proofs.«01_k».proof.Proof.Val.Given
public import proofs.«01_k».proof.Proof.Val.Reg2
public import proofs.«01_k».proof.Proof.Val.RefTail

@[expose] public noncomputable section
open Idealize.ShloMosaic Idealize.ShloMosaic.TcCoe Idealize.SL.Sem Cert.Val

namespace Cert.ReferenceIdeal.Pf
open Cert.ReferenceIdeal Cert.ReferenceIdeal.Gen

/-- The reference's result, when every query's threshold lies in a gap. -/
theorem result_v54 (V0 : Valuation τ sig (Elt Ideal)) {T : Fin 1024 → ℝ} {lab : Fin 100000 → ℕ}
    (hT : ∀ i, Gap (d2 (rows (aQ V0)) (rows (aT V0)) i) (T i)) (hl : ∀ j, lab j < 2 ^ 32)
    (hL : ∀ j, aL V0 (ix1 j) = BitVec.ofNat 32 (lab j)) :
    res_main_v54 V0 = Cert.KernelIdeal.Pf.result T lab (aQ V0) (aT V0) (aC V0) := by
  funext i
  have hi : i = ix2 (i 0) (i 1) := by
    funext a; fin_cases a <;> rfl
  rw [hi]
  exact v54_apply V0 _ (i 0) (fun c => v32_apply V0 hl hL (i 0) (T (i 0)) (hT (i 0)).card c) (i 1)

end Cert.ReferenceIdeal.Pf

end
-- ==== Proof.lean ====
/-
The proof of the certificate's claims: both printings of the kernel and the reference run and leave their arguments
unchanged, and at the extended reals the kernel's result is the reference's.
-/
module

public import proofs.«01_k».proof.Defs
public import proofs.«01_k».proof.Proof.K.Run
public import proofs.«01_k».proof.Proof.KI.Run
public import proofs.«01_k».proof.Proof.Ref.Run
public import proofs.«01_k».proof.Proof.Val.PreFacts
public import proofs.«01_k».proof.Proof.Val.Final
public import Idealize.ShloMosaic.Lib.Quiescent

@[expose] public section

noncomputable section

namespace Cert.Proof

open Idealize.ShloMosaic Idealize.ShloMosaic.TcCoe Idealize.SL.Sem

/-- The reference leaves its arguments unchanged; it has no semaphores. -/
theorem reference_frame : quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Pf.run (F := Ideal) m g)

/-- The two results agree wherever the precondition holds. -/
theorem equal : algebraic_KernelIdeal_ReferenceIdeal_pre_separated (hKernelIdeal := Cert.KernelIdeal.Gen.facts)
    (hReferenceIdeal := Cert.ReferenceIdeal.Gen.facts) (hPre_separated := Cert.Pre_separated.facts) := by
  intro m g m' g' hp ha
  refine ⟨fun c => Cert.ReferenceIdeal.Pf.res_main_v54 (StableHlo.launchContents m' c), ?_, Cert.ReferenceIdeal.Pf.run (F := Ideal) m' g'⟩
  refine (θ_run (Cert.KernelIdeal.defs (F := Ideal)) _ _).mono (fun r h c => ⟨((h.1 c).1).trans ?_, (h.1 c).2⟩) (Cert.KernelIdeal.Pf.ran (F := Ideal) m g)
  obtain ⟨T, hT⟩ := @Cert.Pre_separated.given Cert.Pre_separated.facts _ _ _ _ (hp c)
  obtain ⟨lab, hl, hL⟩ : ∃ lab : Fin 100000 → ℕ, (∀ j, lab j < 2 ^ 32) ∧ ∀ j, Cert.KernelIdeal.Pf.argL m c (ix1 j) = BitVec.ofNat 32 (lab j) :=
    ⟨fun j => (Cert.KernelIdeal.Pf.argL m c (ix1 j)).toNat, fun _ => BitVec.isLt _, fun _ => by rw [BitVec.ofNat_toNat, BitVec.setWidth_eq]⟩
  obtain ⟨a0, a1, a2, a3⟩ := ha c
  have e0 : Cert.ReferenceIdeal.Pf.aQ (StableHlo.launchContents m' c) = Cert.KernelIdeal.Pf.argQ m c := a0
  have e1 : Cert.ReferenceIdeal.Pf.aT (StableHlo.launchContents m' c) = Cert.KernelIdeal.Pf.argT m c := a1
  have e2 : Cert.ReferenceIdeal.Pf.aL (StableHlo.launchContents m' c) = Cert.KernelIdeal.Pf.argL m c := a2
  have e3 : Cert.ReferenceIdeal.Pf.aC (StableHlo.launchContents m' c) = Cert.KernelIdeal.Pf.argC m c := a3
  refine (Cert.KernelIdeal.Pf.result_arr m g c hT hl hL).trans ?_
  refine Eq.trans ?_ (Cert.ReferenceIdeal.Pf.result_v54 (StableHlo.launchContents m' c) (T := T) (lab := lab) (by rw [e0, e1]; exact hT) hl (by rw [e2]; exact hL)).symm
  rw [e0, e1, e3]

theorem claim : Cert.Claim :=
  ⟨Cert.Kernel.Gen.facts, Cert.KernelIdeal.Gen.facts, Cert.ReferenceIdeal.Gen.facts, Cert.Pre_separated.facts,
    fun m g _ => Cert.Kernel.Pf.frame m g, fun m g _ => Cert.KernelIdeal.Pf.frame m g, fun m g _ => Cert.KernelIdeal.Pf.frame m g,
    reference_frame, fun m g _ => reference_frame m g trivial, trivial, equal⟩

end Cert.Proof

end
